-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_v36) = v4 c
          ∧ r.2.mem ((c.tc : Thread Cert.Reference4Ideal.nD Cert.Reference4Ideal.τ).loc Cert.Reference4Ideal.main_v37) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v35_0)) (v1 : (c : Dev Cert.Kernel5Ideal.nD) → Buf (Elt Ideal) ((c.tc : Thread Cert.Kernel5Ideal.nD Cert.Kernel5Ideal.τ).loc Cert.Kernel5Ideal.main_v35_1)) (v2 : (c : Dev Cert.Kernel5Ideal.nD) → Buf (Elt Ideal) ((c.tc : Thread Cert.Kernel5Ideal.nD Cert.Kernel5Ideal.τ).loc Cert.Kernel5Ideal.main_v35_2)) (v3 : (c : Dev Cert.Kernel5Ideal.nD) → Buf (Elt Ideal) ((c.tc : Thread Cert.Kernel5Ideal.nD Cert.Kernel5Ideal.τ).loc Cert.Kernel5Ideal.main_v35_3)) (v4 : (c : Dev Cert.Kernel5Ideal.nD) → Buf (Elt Ideal) ((c.tc : Thread Cert.Kernel5Ideal.nD Cert.Kernel5Ideal.τ).loc Cert.Kernel5Ideal.main_v35_4)) (v5 : (c : Dev Cert.Kernel5Ideal.nD) → Buf (Elt Ideal) ((c.tc : Thread Cert.Kernel5Ideal.nD Cert.Kernel5Ideal.τ).loc Cert.Kernel5Ideal.main_v35_5)) (v6 : (c : Dev Cert.Kernel5Ideal.nD) → Buf (Elt Ideal) ((c.tc : Thread Cert.Kernel5Ideal.nD Cert.Kernel5Ideal.τ).loc Cert.Kernel5Ideal.main_v35_6)) (v7 : (c : Dev Cert.Kernel5Ideal.nD) → Buf (Elt Ideal) ((c.tc : Thread Cert.Kernel5Ideal.nD Cert.Kernel5Ideal.τ).loc Cert.Kernel5Ideal.main_v35_7)) (v8 : (c : Dev Cert.Kernel5Ideal.nD) → Buf (Elt Ideal) ((c.tc : Thread Cert.Kernel5Ideal.nD Cert.Kernel5Ideal.τ).loc Cert.Kernel5Ideal.main_v35_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35_0) = v0 c
          ∧ r.2.mem ((c.tc : Thread Cert.Kernel5Ideal.nD Cert.Kernel5Ideal.τ).loc Cert.Kernel5Ideal.main_v35_1) = v1 c
          ∧ r.2.mem ((c.tc : Thread Cert.Kernel5Ideal.nD Cert.Kernel5Ideal.τ).loc Cert.Kernel5Ideal.main_v35_2) = v2 c
          ∧ r.2.mem ((c.tc : Thread Cert.Kernel5Ideal.nD Cert.Kernel5Ideal.τ).loc Cert.Kernel5Ideal.main_v35_3) = v3 c
          ∧ r.2.mem ((c.tc : Thread Cert.Kernel5Ideal.nD Cert.Kernel5Ideal.τ).loc Cert.Kernel5Ideal.main_v35_4) = v4 c
          ∧ r.2.mem ((c.tc : Thread Cert.Kernel5Ideal.nD Cert.Kernel5Ideal.τ).loc Cert.Kernel5Ideal.main_v35_5) = v5 c
          ∧ r.2.mem ((c.tc : Thread Cert.Kernel5Ideal.nD Cert.Kernel5Ideal.τ).loc Cert.Kernel5Ideal.main_v35_6) = v6 c
          ∧ r.2.mem ((c.tc : Thread Cert.Kernel5Ideal.nD Cert.Kernel5Ideal.τ).loc Cert.Kernel5Ideal.main_v35_7) = v7 c
          ∧ r.2.mem ((c.tc : Thread Cert.Kernel5Ideal.nD Cert.Kernel5Ideal.τ).loc Cert.Kernel5Ideal.main_v35_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_v59) = v2 c
          ∧ r.2.mem ((c.tc : Thread Cert.Reference5Ideal.nD Cert.Reference5Ideal.τ).loc Cert.Reference5Ideal.main_v68) = v3 c
          ∧ r.2.mem ((c.tc : Thread Cert.Reference5Ideal.nD Cert.Reference5Ideal.τ).loc Cert.Reference5Ideal.main_v70) = v4 c
          ∧ r.2.mem ((c.tc : Thread Cert.Reference5Ideal.nD Cert.Reference5Ideal.τ).loc Cert.Reference5Ideal.main_v71) = v5 c
          ∧ r.2.mem ((c.tc : Thread Cert.Reference5Ideal.nD Cert.Reference5Ideal.τ).loc Cert.Reference5Ideal.main_v72) = v6 c
          ∧ r.2.mem ((c.tc : Thread Cert.Reference5Ideal.nD Cert.Reference5Ideal.τ).loc Cert.Reference5Ideal.main_v73) = v7 c
          ∧ r.2.mem ((c.tc : Thread Cert.Reference5Ideal.nD Cert.Reference5Ideal.τ).loc Cert.Reference5Ideal.main_v74) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "inv_left1" .f32 0x3FC48605#32 ((8388608 / 5463681 : ℝ) : EReal)
  ∧ IdealRules.named_const.Statement Cert.Kernel7Ideal.κ "inv_left2" .f32 0x42C8E6D3#32 ((268435456 / 2672307 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v141) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "inv_left1" .f32 0x3FC48605#32 ((8388608 / 5463681 : ℝ) : EReal)
  ∧ IdealRules.named_const.Statement Cert.Kernel9Ideal.κ "inv_left2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_v15) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "inv_left1" .f32 0x3FC48605#32 ((8388608 / 5463681 : ℝ) : EReal)
  ∧ IdealRules.named_const.Statement Cert.Kernel10Ideal.κ "inv_left2" .f32 0x42C8E6D3#32 ((268435456 / 2672307 : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_v15) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  IdealRules.named_const.Statement Cert.Kernel11Ideal.κ "inv_left1" .f32 0x3FC48605#32 ((8388608 / 5463681 : ℝ) : EReal)
  ∧ IdealRules.named_const.Statement Cert.Kernel11Ideal.κ "inv_left2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v9) = v2 c
          ∧ r.2.mem ((c.tc : Thread Cert.Reference11Ideal.nD Cert.Reference11Ideal.τ).loc Cert.Reference11Ideal.main_v15) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4096x1280 : Shape := ⟨2, ![4096, 1280]⟩
abbrev S4096x1024 : Shape := ⟨2, ![4096, 1024]⟩
abbrev S4096x3072 : Shape := ⟨2, ![4096, 3072]⟩
abbrev S1024x6400 : Shape := ⟨2, ![1024, 6400]⟩
abbrev S1x1024 : Shape := ⟨2, ![1, 1024]⟩
abbrev S8x1024 : Shape := ⟨2, ![8, 1024]⟩
abbrev S256x1280 : Shape := ⟨2, ![256, 1280]⟩
abbrev S256x1024 : Shape := ⟨2, ![256, 1024]⟩
abbrev S256x3072 : Shape := ⟨2, ![256, 3072]⟩
abbrev S256x512 : Shape := ⟨2, ![256, 512]⟩
abbrev S1024x512 : Shape := ⟨2, ![1024, 512]⟩
abbrev S256x256 : Shape := ⟨2, ![256, 256]⟩
abbrev S1024x256 : Shape := ⟨2, ![1024, 256]⟩
abbrev S1024x3072 : Shape := ⟨2, ![1024, 3072]⟩
abbrev S256 : Shape := ⟨1, ![256]⟩
abbrev S256x1 : Shape := ⟨2, ![256, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S1024x6400, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S8x1024, .f32⟩
  | .local _ .vmem, ⟨0, _⟩ => ⟨S256x1280, .bf16⟩
  | .local _ .vmem, ⟨1, _⟩ => ⟨S256x1280, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x3072, .bf16⟩
  | .local _ .vmem, ⟨7, _⟩ => ⟨S256x3072, .bf16⟩
  | .local _ .vmem, ⟨8, _⟩ => ⟨S1024x6400, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1280 : Shape := ⟨2, ![4096, 1280]⟩
abbrev S4096x1024 : Shape := ⟨2, ![4096, 1024]⟩
abbrev S4096x3072 : Shape := ⟨2, ![4096, 3072]⟩
abbrev S1024x6400 : Shape := ⟨2, ![1024, 6400]⟩
abbrev S1x1024 : Shape := ⟨2, ![1, 1024]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x6400 : Shape := ⟨2, ![4096, 6400]⟩
abbrev S1024 : Shape := ⟨1, ![1024]⟩
abbrev S5x1024 : Shape := ⟨2, ![5, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S4096x1024, .bf16⟩
  | .hbm, ⟨3, _⟩ => ⟨S4096x3072, .bf16⟩
  | .hbm, ⟨4, _⟩ => ⟨S1024x6400, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1280, .f32⟩
  | .hbm, ⟨10, _⟩ => ⟨S4096x1024, .f32⟩
  | .hbm, ⟨11, _⟩ => ⟨S4096x1024, .f32⟩
  | .hbm, ⟨12, _⟩ => ⟨S4096x3072, .f32⟩
  | .hbm, ⟨13, _⟩ => ⟨S1024x6400, .f32⟩
  | .hbm, ⟨14, _⟩ => ⟨S4096x512, .f32⟩
  | .hbm, ⟨15, _⟩ => ⟨S4096x512, .f32⟩
  | .hbm, ⟨16, _⟩ => ⟨S4096x128, .f32⟩
  | .hbm, ⟨17, _⟩ => ⟨S4096x128, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S1x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x6400, .f32⟩
  | .hbm, ⟨51, _⟩ => ⟨S4096x512, .f32⟩
  | .hbm, ⟨52, _⟩ => ⟨S4096x128, .f32⟩
  | .hbm, ⟨53, _⟩ => ⟨S4096x128, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x3072, .f32⟩
  | .hbm, ⟨60, _⟩ => ⟨S4096x6400, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S5x1024, .f32⟩
  | .hbm, ⟨97, _⟩ => ⟨S8x1024, .f32⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Kernel2.lean ====
abbrev S4096x1024 : Shape := ⟨2, ![4096, 1024]⟩
abbrev S4096x1280 : Shape := ⟨2, ![4096, 1280]⟩
abbrev S4096x3072 : Shape := ⟨2, ![4096, 3072]⟩
abbrev S2x4x1024x800 : Shape := ⟨4, ![2, 4, 1024, 800]⟩
abbrev S512x512 : Shape := ⟨2, ![512, 512]⟩
abbrev S512x1280 : Shape := ⟨2, ![512, 1280]⟩
abbrev S512x1024 : Shape := ⟨2, ![512, 1024]⟩
abbrev S512x3072 : Shape := ⟨2, ![512, 3072]⟩
abbrev S2x4x512x800 : Shape := ⟨4, ![2, 4, 512, 800]⟩
abbrev S1x1x512x512 : Shape := ⟨4, ![1, 1, 512, 512]⟩
abbrev S512x256 : Shape := ⟨2, ![512, 256]⟩
abbrev S1x1x512x256 : Shape := ⟨4, ![1, 1, 512, 256]⟩
abbrev S512x32 : Shape := ⟨2, ![512, 32]⟩
abbrev S1x1x512x32 : Shape := ⟨4, ![1, 1, 512, 32]⟩
abbrev S512x480 : Shape := ⟨2, ![512, 480]⟩
abbrev S1x1x512x480 : Shape := ⟨4, ![1, 1, 512, 480]⟩
abbrev S512x96 : Shape := ⟨2, ![512, 96]⟩
abbrev S1x1x512x96 : Shape := ⟨4, ![1, 1, 512, 96]⟩
abbrev S512x416 : Shape := ⟨2, ![512, 416]⟩
abbrev S1x1x512x416 : Shape := ⟨4, ![1, 1, 512, 416]⟩
abbrev S512x320 : Shape := ⟨2, ![512, 320]⟩
abbrev S1x1x512x320 : Shape := ⟨4, ![1, 1, 512, 320]⟩
abbrev S512x192 : Shape := ⟨2, ![512, 192]⟩
abbrev S1x1x512x192 : Shape := ⟨4, ![1, 1, 512, 192]⟩
abbrev S512x384 : Shape := ⟨2, ![512, 384]⟩
abbrev S1x1x512x384 : Shape := ⟨4, ![1, 1, 512, 384]⟩
abbrev S512x128 : Shape := ⟨2, ![512, 128]⟩
abbrev S1x1x512x128 : Shape := ⟨4, ![1, 1, 512, 128]⟩
abbrev S512x672 : Shape := ⟨2, ![512, 672]⟩
abbrev S1x1x512x672 : Shape := ⟨4, ![1, 1, 512, 672]⟩
abbrev S512x800 : Shape := ⟨2, ![512, 800]⟩
abbrev S1x1x512x800 : Shape := ⟨4, ![1, 1, 512, 800]⟩

abbrev nBuf : Space → Nat
  | .hbm => 6
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S2x4x1024x800, .bf16⟩
  | .local _ .vmem, ⟨0, _⟩ => ⟨S512x512, .bf16⟩
  | .local _ .vmem, ⟨1, _⟩ => ⟨S512x512, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S2x4x512x800, .bf16⟩
  | .local _ .vmem, ⟨11, _⟩ => ⟨S2x4x512x800, .bf16⟩
  | .local _ .vmem, ⟨12, _⟩ => ⟨S512x1280, .f32⟩
  | .local _ .vmem, ⟨13, _⟩ => ⟨S512x1024, .f32⟩
  | .local _ .vmem, ⟨14, _⟩ => ⟨S512x1024, .f32⟩
  | .local _ .vmem, ⟨15, _⟩ => ⟨S512x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c7_i32_18 : BitVec 32 := 7#32
  let v24 : BitVec 1 := Scalar.cmpi .eq arg1 c7_i32_18
  let v25 : BitVec 32 := Scalar.extui v24
  let c0_i32_19 : BitVec 32 := 0#32
  let v26 : BitVec 1 := Scalar.cmpi .ne v25 c0_i32_19
  v26

def k0_cond6 (i : grid0.Coords) : BitVec 1 :=
  let arg1 : BitVec 32 := BitVec.ofNat 32 (i 1).val
  let c7_i32_29 : BitVec 32 := 7#32
  let v37 : BitVec 1 := Scalar.cmpi .eq arg1 c7_i32_29
  let v38 : BitVec 32 := Scalar.extui v37
  let c0_i32_30 : BitVec 32 := 0#32
  let v39 : BitVec 1 := Scalar.cmpi .ne v38 c0_i32_30
  v39

def k0_cond8 (i : grid0.Coords) : BitVec 1 :=
  let arg1 : BitVec 32 := BitVec.ofNat 32 (i 1).val
  let c7_i32_40 : BitVec 32 := 7#32
  let v50 : BitVec 1 := Scalar.cmpi .eq arg1 c7_i32_40
  let v51 : BitVec 32 := Scalar.extui v50
  let c0_i32_41 : BitVec 32 := 0#32
  let v52 : BitVec 1 := Scalar.cmpi .ne v51 c0_i32_41
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x4x512x800 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4096x1024 : Shape := ⟨2, ![4096, 1024]⟩
abbrev S4096x1280 : Shape := ⟨2, ![4096, 1280]⟩
abbrev S4096x3072 : Shape := ⟨2, ![4096, 3072]⟩
abbrev S_ : Shape := ⟨0, ![]⟩
abbrev S1024x6400 : Shape := ⟨2, ![1024, 6400]⟩
abbrev S4096x6400 : Shape := ⟨2, ![4096, 6400]⟩
abbrev S4096x512 : Shape := ⟨2, ![4096, 512]⟩
abbrev S4096x128 : Shape := ⟨2, ![4096, 128]⟩
abbrev S6400x1024 : Shape := ⟨2, ![6400, 1024]⟩
abbrev S1024x4x2x800 : Shape := ⟨4, ![1024, 4, 2, 800]⟩
abbrev S2x4x1024x800 : Shape := ⟨4, ![2, 4, 1024, 800]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1280, .bf16⟩
  | .hbm, ⟨2, _⟩ => ⟨S4096x1024, .bf16⟩
  | .hbm, ⟨3, _⟩ => ⟨S4096x1024, .bf16⟩
  | .hbm, ⟨4, _⟩ => ⟨S4096x3072, .bf16⟩
  | .hbm, ⟨5, _⟩ => ⟨S_, .f32⟩
  | .hbm, ⟨6, _⟩ => ⟨S1024x6400, .f32⟩
  | .hbm, ⟨7, _⟩ => ⟨S4096x1024, .f32⟩
  | .hbm, ⟨8, _⟩ => ⟨S4096x6400, .f32⟩
  | .hbm, ⟨9, _⟩ => ⟨S4096x512, .f32⟩
  | .hbm, ⟨10, _⟩ => ⟨S4096x128, .f32⟩
  | .hbm, ⟨11, _⟩ => ⟨S4096x128, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x3072, .f32⟩
  | .hbm, ⟨18, _⟩ => ⟨S4096x1280, .f32⟩
  | .hbm, ⟨19, _⟩ => ⟨S4096x512, .f32⟩
  | .hbm, ⟨20, _⟩ => ⟨S4096x512, .f32⟩
  | .hbm, ⟨21, _⟩ => ⟨S4096x128, .f32⟩
  | .hbm, ⟨22, _⟩ => ⟨S4096x128, .f32⟩
  | .hbm, ⟨23, _⟩ => ⟨S4096x1024, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S4096x512, .f32⟩
  | .hbm, ⟨28, _⟩ => ⟨S4096x512, .f32⟩
  | .hbm, ⟨29, _⟩ => ⟨S4096x3072, .f32⟩
  | .hbm, ⟨30, _⟩ => ⟨S4096x6400, .f32⟩
  | .hbm, ⟨31, _⟩ => ⟨S6400x1024, .f32⟩
  | .hbm, ⟨32, _⟩ => ⟨S1024x6400, .f32⟩
  | .hbm, ⟨33, _⟩ => ⟨S1024x4x2x800, .f32⟩
  | .hbm, ⟨34, _⟩ => ⟨S2x4x1024x800, .f32⟩
  | .hbm, ⟨35, _⟩ => ⟨S2x4x1024x800, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x6400 : Shape := ⟨2, ![1024, 6400]⟩
abbrev S4096x1280 : Shape := ⟨2, ![4096, 1280]⟩
abbrev S4096x3072 : Shape := ⟨2, ![4096, 3072]⟩
abbrev S512x1024 : Shape := ⟨2, ![512, 1024]⟩
abbrev S512x1280 : Shape := ⟨2, ![512, 1280]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x3072 : Shape := ⟨2, ![1024, 3072]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6400, .bf16⟩
  | .hbm, ⟨5, _⟩ => ⟨S4096x1024, .bf16⟩
  | .hbm, ⟨6, _⟩ => ⟨S4096x1280, .bf16⟩
  | .hbm, ⟨7, _⟩ => ⟨S4096x1024, .bf16⟩
  | .hbm, ⟨8, _⟩ => ⟨S4096x1024, .bf16⟩
  | .hbm, ⟨9, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x6400, .bf16⟩
  | .local _ .vmem, ⟨6, _⟩ => ⟨S512x1024, .bf16⟩
  | .local _ .vmem, ⟨7, _⟩ => ⟨S512x1024, .bf16⟩
  | .local _ .vmem, ⟨8, _⟩ => ⟨S512x1280, .bf16⟩
  | .local _ .vmem, ⟨9, _⟩ => ⟨S512x1280, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x3072, .bf16⟩
  | .local _ .vmem, ⟨15, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4096x1024 : Shape := ⟨2, ![4096, 1024]⟩
abbrev S1x1024 : Shape := ⟨2, ![1, 1024]⟩
abbrev S1024x6400 : Shape := ⟨2, ![1024, 6400]⟩
abbrev S_ : Shape := ⟨0, ![]⟩
abbrev S4096 : Shape := ⟨1, ![4096]⟩
abbrev S4096x1 : Shape := ⟨2, ![4096, 1]⟩
abbrev S4096x6400 : Shape := ⟨2, ![4096, 6400]⟩
abbrev S4096x512 : Shape := ⟨2, ![4096, 512]⟩
abbrev S4096x128 : Shape := ⟨2, ![4096, 128]⟩
abbrev S4096x3072 : Shape := ⟨2, ![4096, 3072]⟩
abbrev S4096x1280 : Shape := ⟨2, ![4096, 1280]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6400, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x6400, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x6400, .f32⟩
  | .hbm, ⟨51, _⟩ => ⟨S4096x512, .f32⟩
  | .hbm, ⟨52, _⟩ => ⟨S4096x128, .f32⟩
  | .hbm, ⟨53, _⟩ => ⟨S4096x128, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x3072, .f32⟩
  | .hbm, ⟨60, _⟩ => ⟨S4096x1280, .f32⟩
  | .hbm, ⟨61, _⟩ => ⟨S4096x1024, .f32⟩
  | .hbm, ⟨62, _⟩ => ⟨S4096x1024, .f32⟩
  | .hbm, ⟨63, _⟩ => ⟨S4096x1024, .bf16⟩
  | .hbm, ⟨64, _⟩ => ⟨S4096x1280, .bf16⟩
  | .hbm, ⟨65, _⟩ => ⟨S4096x1024, .bf16⟩
  | .hbm, ⟨66, _⟩ => ⟨S4096x1024, .bf16⟩
  | .hbm, ⟨67, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel4.lean ====
abbrev S4096x512 : Shape := ⟨2, ![4096, 512]⟩
abbrev S512x1024 : Shape := ⟨2, ![512, 1024]⟩
abbrev S4096x3072 : Shape := ⟨2, ![4096, 3072]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512x3072 : Shape := ⟨2, ![512, 3072]⟩

abbrev nBuf : Space → Nat
  | .hbm => 16
  | .vmem => 27
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .bf16⟩
  | .local _ .vmem, ⟨10, _⟩ => ⟨S512x3072, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S4096x512 : Shape := ⟨2, ![4096, 512]⟩
abbrev S512x1024 : Shape := ⟨2, ![512, 1024]⟩
abbrev S4096x3072 : Shape := ⟨2, ![4096, 3072]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S4096x3072, .f32⟩
  | .hbm, ⟨17, _⟩ => ⟨S1024x1024, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S4096x3x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel5.lean ====
abbrev S4096x512 : Shape := ⟨2, ![4096, 512]⟩
abbrev S512x1024 : Shape := ⟨2, ![512, 1024]⟩
abbrev S4096x3072 : Shape := ⟨2, ![4096, 3072]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S4096x3x1024 : Shape := ⟨3, ![4096, 3, 1024]⟩
abbrev S4096x1x1024 : Shape := ⟨3, ![4096, 1, 1024]⟩
abbrev S8x1024 : Shape := ⟨2, ![8, 1024]⟩
abbrev S256x1024 : Shape := ⟨2, ![256, 1024]⟩
abbrev S256x3072 : Shape := ⟨2, ![256, 3072]⟩
abbrev S256x512 : Shape := ⟨2, ![256, 512]⟩
abbrev S3x512x1024 : Shape := ⟨3, ![3, 512, 1024]⟩
abbrev S1024 : Shape := ⟨1, ![1024]⟩
abbrev S1x512x1024 : Shape := ⟨3, ![1, 512, 1024]⟩

abbrev nBuf : Space → Nat
  | .hbm => 56
  | .vmem => 40
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S4096x3072, .f32⟩
  | .hbm, ⟨17, _⟩ => ⟨S1024x1024, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S4096x3x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x3072, .bf16⟩
  | .hbm, ⟨51, _⟩ => ⟨S8x1024, .f32⟩
  | .hbm, ⟨52, _⟩ => ⟨S512x1024, .bf16⟩
  | .hbm, ⟨53, _⟩ => ⟨S512x1024, .bf16⟩
  | .hbm, ⟨54, _⟩ => ⟨S512x1024, .bf16⟩
  | .hbm, ⟨55, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x1024, .bf16⟩
  | .local _ .vmem, ⟨24, _⟩ => ⟨S256x1024, .bf16⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x3072, .bf16⟩
  | .local _ .vmem, ⟨32, _⟩ => ⟨S256x3072, .bf16⟩
  | .local _ .vmem, ⟨33, _⟩ => ⟨S8x1024, .f32⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S1024x1024, .bf16⟩
  | .local _ .vmem, ⟨38, _⟩ => ⟨S3x512x1024, .f32⟩
  | .local _ .vmem, ⟨39, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev main_v35_4 : Ref sig .tc := ⟨.hbm, 51, rfl⟩
abbrev main_v35_5 : Ref sig .tc := ⟨.hbm, 52, rfl⟩
abbrev main_v35_6 : Ref sig .tc := ⟨.hbm, 53, rfl⟩
abbrev main_v35_7 : Ref sig .tc := ⟨.hbm, 54, rfl⟩
abbrev main_v35_8 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v124 : BitVec 1 := Scalar.cmpi .eq arg0 c15_i32
  let v125 : BitVec 32 := Scalar.extui v124
  let c0_i32_88 : BitVec 32 := 0#32
  let v126 : BitVec 1 := Scalar.cmpi .ne v125 c0_i32_88
  v126

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x3072 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference5Ideal.lean ====
abbrev S4096x512 : Shape := ⟨2, ![4096, 512]⟩
abbrev S512x1024 : Shape := ⟨2, ![512, 1024]⟩
abbrev S4096x3072 : Shape := ⟨2, ![4096, 3072]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S4096x3x1024 : Shape := ⟨3, ![4096, 3, 1024]⟩
abbrev S4096x1x1024 : Shape := ⟨3, ![4096, 1, 1024]⟩
abbrev S1024 : Shape := ⟨1, ![1024]⟩
abbrev S1024x512 : Shape := ⟨2, ![1024, 512]⟩
abbrev S7x1024 : Shape := ⟨2, ![7, 1024]⟩
abbrev S8x1024 : Shape := ⟨2, ![8, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x3072, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S4096x3072, .f32⟩
  | .hbm, ⟨17, _⟩ => ⟨S1024x1024, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1024x1024, .f32⟩
  | .hbm, ⟨55, _⟩ => ⟨S1024x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1x1024, .f32⟩
  | .hbm, ⟨60, _⟩ => ⟨S_, .f32⟩
  | .hbm, ⟨61, _⟩ => ⟨S4096x3x1024, .f32⟩
  | .hbm, ⟨62, _⟩ => ⟨S4096x1024, .f32⟩
  | .hbm, ⟨63, _⟩ => ⟨S4096x1024, .f32⟩
  | .hbm, ⟨64, _⟩ => ⟨S4096x1x1024, .f32⟩
  | .hbm, ⟨65, _⟩ => ⟨S_, .f32⟩
  | .hbm, ⟨66, _⟩ => ⟨S4096x3x1024, .f32⟩
  | .hbm, ⟨67, _⟩ => ⟨S4096x3x1024, .f32⟩
  | .hbm, ⟨68, _⟩ => ⟨S4096x1024, .f32⟩
  | .hbm, ⟨69, _⟩ => ⟨S4096x1024, .f32⟩
  | .hbm, ⟨70, _⟩ => ⟨S4096x1x1024, .f32⟩
  | .hbm, ⟨71, _⟩ => ⟨S_, .f32⟩
  | .hbm, ⟨72, _⟩ => ⟨S4096x3x1024, .f32⟩
  | .hbm, ⟨73, _⟩ => ⟨S4096x3x1024, .f32⟩
  | .hbm, ⟨74, _⟩ => ⟨S1024x512, .f32⟩
  | .hbm, ⟨75, _⟩ => ⟨S512x1024, .f32⟩
  | .hbm, ⟨76, _⟩ => ⟨S4096x512, .f32⟩
  | .hbm, ⟨77, _⟩ => ⟨S1024x512, .f32⟩
  | .hbm, ⟨78, _⟩ => ⟨S512x1024, .f32⟩
  | .hbm, ⟨79, _⟩ => ⟨S4096x512, .f32⟩
  | .hbm, ⟨80, _⟩ => ⟨S1024x512, .f32⟩
  | .hbm, ⟨81, _⟩ => ⟨S512x1024, .f32⟩
  | .hbm, ⟨82, _⟩ => ⟨S4096x512, .f32⟩
  | .hbm, ⟨83, _⟩ => ⟨S4096x3072, .f32⟩
  | .hbm, ⟨84, _⟩ => ⟨S4096x3072, .f32⟩
  | .hbm, ⟨85, _⟩ => ⟨S4096x3072, .bf16⟩
  | .hbm, ⟨86, _⟩ => ⟨S_, .f32⟩
  | .hbm, ⟨87, _⟩ => ⟨S7x1024, .f32⟩
  | .hbm, ⟨88, _⟩ => ⟨S8x1024, .f32⟩
  | .hbm, ⟨89, _⟩ => ⟨S512x1024, .bf16⟩
  | .hbm, ⟨90, _⟩ => ⟨S512x1024, .bf16⟩
  | .hbm, ⟨91, _⟩ => ⟨S512x1024, .bf16⟩
  | .hbm, ⟨92, _⟩ => ⟨S1024x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_6 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S6x1024, .f32⟩
  | .hbm, ⟨79, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩
abbrev main_cst_18 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel7.lean ====
abbrev S2048x800 : Shape := ⟨2, ![2048, 800]⟩
abbrev S4x1024x800 : Shape := ⟨3, ![4, 1024, 800]⟩
abbrev S512x800 : Shape := ⟨2, ![512, 800]⟩
abbrev S4x512x800 : Shape := ⟨3, ![4, 512, 800]⟩
abbrev S1x512x800 : Shape := ⟨3, ![1, 512, 800]⟩

abbrev nBuf : Space → Nat
  | .hbm => 9
  | .vmem => 18
  | .smem => 0
  | _ => 0

abbrev bufTy : (tb : Table) → Fin (tcTables nBuf tb) → BufTy
  | .hbm, ⟨0, _⟩ => ⟨S2048x800, .f32⟩
  | .hbm, ⟨1, _⟩ => ⟨S4x1024x800, .bf16⟩
  | .hbm, ⟨2, _⟩ => ⟨S4x1024x800, .bf16⟩
  | .hbm, ⟨3, _⟩ => ⟨S2048x800, .f32⟩
  | .hbm, ⟨4, _⟩ => ⟨S2048x800, .f32⟩
  | .hbm, ⟨5, _⟩ => ⟨S2048x800, .f32⟩
  | .hbm, ⟨6, _⟩ => ⟨S2048x800, .f32⟩
  | .hbm, ⟨7, _⟩ => ⟨S2048x800, .f32⟩
  | .hbm, ⟨8, _⟩ => ⟨S2048x800, .f32⟩
  | .local _ .vmem, ⟨0, _⟩ => ⟨S512x800, .f32⟩
  | .local _ .vmem, ⟨1, _⟩ => ⟨S512x800, .f32⟩
  | .local _ .vmem, ⟨2, _⟩ => ⟨S4x512x800, .bf16⟩
  | .local _ .vmem, ⟨3, _⟩ => ⟨S4x512x800, .bf16⟩
  | .local _ .vmem, ⟨4, _⟩ => ⟨S4x512x800, .bf16⟩
  | .local _ .vmem, ⟨5, _⟩ => ⟨S4x512x800, .bf16⟩
  | .local _ .vmem, ⟨6, _⟩ => ⟨S512x800, .f32⟩
  | .local _ .vmem, ⟨7, _⟩ => ⟨S512x800, .f32⟩
  | .local _ .vmem, ⟨8, _⟩ => ⟨S512x800, .f32⟩
  | .local _ .vmem, ⟨9, _⟩ => ⟨S512x800, .f32⟩
  | .local _ .vmem, ⟨10, _⟩ => ⟨S512x800, .f32⟩
  | .local _ .vmem, ⟨11, _⟩ => ⟨S512x800, .f32⟩
  | .local _ .vmem, ⟨12, _⟩ => ⟨S512x800, .f32⟩
  | .local _ .vmem, ⟨13, _⟩ => ⟨S512x800, .f32⟩
  | .local _ .vmem, ⟨14, _⟩ => ⟨S512x800, .f32⟩
  | .local _ .vmem, ⟨15, _⟩ => ⟨S512x800, .f32⟩
  | .local _ .vmem, ⟨16, _⟩ => ⟨S512x800, .f32⟩
  | .local _ .vmem, ⟨17, _⟩ => ⟨S512x800, .f32⟩
  | _, _ => ⟨S2048x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x800 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel7Ideal.lean ====
variable {F : FTy → Type} [FloatOps F] [Named F]
def κ : String → Option EReal := fun
  | "inv_left1" => some ((8388608 / 5463681 : ℝ) : EReal)
  | "inv_left2" => some ((268435456 / 2672307 : ℝ) : EReal)
  | _ => none
-- ==== Reference7Ideal.lean ====
abbrev S2048x800 : Shape := ⟨2, ![2048, 800]⟩
abbrev S4x1024x800 : Shape := ⟨3, ![4, 1024, 800]⟩
abbrev S_ : Shape := ⟨0, ![]⟩
abbrev S1024x800 : Shape := ⟨2, ![1024, 800]⟩

abbrev nBuf : Space → Nat
  | .hbm => 45
  | .vmem => 0
  | .smem => 0
  | _ => 0

abbrev bufTy : (tb : Table) → Fin (tcTables nBuf tb) → BufTy
  | .hbm, ⟨0, _⟩ => ⟨S2048x800, .f32⟩
  | .hbm, ⟨1, _⟩ => ⟨S4x1024x800, .bf16⟩
  | .hbm, ⟨2, _⟩ => ⟨S4x1024x800, .bf16⟩
  | .hbm, ⟨3, _⟩ => ⟨S2048x800, .f32⟩
  | .hbm, ⟨4, _⟩ => ⟨S2048x800, .f32⟩
  | .hbm, ⟨5, _⟩ => ⟨S4x1024x800, .f32⟩
  | .hbm, ⟨6, _⟩ => ⟨S_, .f32⟩
  | .hbm, ⟨7, _⟩ => ⟨S1024x800, .f32⟩
  | .hbm, ⟨8, _⟩ => ⟨S4x1024x800, .f32⟩
  | .hbm, ⟨9, _⟩ => ⟨S_, .f32⟩
  | .hbm, ⟨10, _⟩ => ⟨S1024x800, .f32⟩
  | .hbm, ⟨11, _⟩ => ⟨S2048x800, .f32⟩
  | .hbm, ⟨12, _⟩ => ⟨S_, .f32⟩
  | .hbm, ⟨13, _⟩ => ⟨S2048x800, .f32⟩
  | .hbm, ⟨14, _⟩ => ⟨S2048x800, .f32⟩
  | .hbm, ⟨15, _⟩ => ⟨S_, .f32⟩
  | .hbm, ⟨16, _⟩ => ⟨S2048x800, .f32⟩
  | .hbm, ⟨17, _⟩ => ⟨S2048x800, .f32⟩
  | .hbm, ⟨18, _⟩ => ⟨S2048x800, .f32⟩
  | .hbm, ⟨19, _⟩ => ⟨S_, .f32⟩
  | .hbm, ⟨20, _⟩ => ⟨S2048x800, .f32⟩
  | .hbm, ⟨21, _⟩ => ⟨S2048x800, .f32⟩
  | .hbm, ⟨22, _⟩ => ⟨S2048x800, .f32⟩
  | .hbm, ⟨23, _⟩ => ⟨S_, .f32⟩
  | .hbm, ⟨24, _⟩ => ⟨S2048x800, .f32⟩
  | .hbm, ⟨25, _⟩ => ⟨S2048x800, .f32⟩
  | .hbm, ⟨26, _⟩ => ⟨S2048x800, .f32⟩
  | .hbm, ⟨27, _⟩ => ⟨S_, .f32⟩
  | .hbm, ⟨28, _⟩ => ⟨S2048x800, .f32⟩
  | .hbm, ⟨29, _⟩ => ⟨S2048x800, .f32⟩
  | .hbm, ⟨30, _⟩ => ⟨S_, .f32⟩
  | .hbm, ⟨31, _⟩ => ⟨S2048x800, .f32⟩
  | .hbm, ⟨32, _⟩ => ⟨S2048x800, .f32⟩
  | .hbm, ⟨33, _⟩ => ⟨S2048x800, .f32⟩
  | .hbm, ⟨34, _⟩ => ⟨S_, .f32⟩
  | .hbm, ⟨35, _⟩ => ⟨S2048x800, .f32⟩
  | .hbm, ⟨36, _⟩ => ⟨S2048x800, .f32⟩
  | .hbm, ⟨37, _⟩ => ⟨S2048x800, .f32⟩
  | .hbm, ⟨38, _⟩ => ⟨S_, .f32⟩
  | .hbm, ⟨39, _⟩ => ⟨S2048x800, .f32⟩
  | .hbm, ⟨40, _⟩ => ⟨S2048x800, .f32⟩
  | .hbm, ⟨41, _⟩ => ⟨S2048x800, .f32⟩
  | .hbm, ⟨42, _⟩ => ⟨S_, .f32⟩
  | .hbm, ⟨43, _⟩ => ⟨S2048x800, .f32⟩
  | .hbm, ⟨44, _⟩ => ⟨S2048x800, .f32⟩
  | _, _ => ⟨S2048x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel8.lean ====
abbrev S4096x1024 : Shape := ⟨2, ![4096, 1024]⟩
abbrev S4x128x128 : Shape := ⟨3, ![4, 128, 128]⟩
abbrev S1x512 : Shape := ⟨2, ![1, 512]⟩
abbrev S4096x512 : Shape := ⟨2, ![4096, 512]⟩
abbrev S512x1024 : Shape := ⟨2, ![512, 1024]⟩
abbrev S16x512 : Shape := ⟨2, ![16, 512]⟩
abbrev S512x512 : Shape := ⟨2, ![512, 512]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x128x128, .bf16⟩
  | .hbm, ⟨2, _⟩ => ⟨S1x512, .f32⟩
  | .hbm, ⟨3, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S16x512, .bf16⟩
  | .local _ .vmem, ⟨3, _⟩ => ⟨S16x512, .bf16⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S4x128x128 : Shape := ⟨3, ![4, 128, 128]⟩
abbrev S1x512 : Shape := ⟨2, ![1, 512]⟩
abbrev S4096x512 : Shape := ⟨2, ![4096, 512]⟩
abbrev S4096 : Shape := ⟨1, ![4096]⟩
abbrev S4096x128 : Shape := ⟨2, ![4096, 128]⟩
abbrev S_ : Shape := ⟨0, ![]⟩
abbrev S4097x128 : Shape := ⟨2, ![4097, 128]⟩
abbrev S4096x1 : Shape := ⟨2, ![4096, 1]⟩
abbrev S1x128x128 : Shape := ⟨3, ![1, 128, 128]⟩
abbrev S128x128 : Shape := ⟨2, ![128, 128]⟩
abbrev S4098x128 : Shape := ⟨2, ![4098, 128]⟩
abbrev S4099x128 : Shape := ⟨2, ![4099, 128]⟩
abbrev S4100x128 : Shape := ⟨2, ![4100, 128]⟩
abbrev S4101x128 : Shape := ⟨2, ![4101, 128]⟩
abbrev S4102x128 : Shape := ⟨2, ![4102, 128]⟩
abbrev S4103x128 : Shape := ⟨2, ![4103, 128]⟩
abbrev S4104x128 : Shape := ⟨2, ![4104, 128]⟩
abbrev S4105x128 : Shape := ⟨2, ![4105, 128]⟩
abbrev S4106x128 : Shape := ⟨2, ![4106, 128]⟩
abbrev S4107x128 : Shape := ⟨2, ![4107, 128]⟩
abbrev S4108x128 : Shape := ⟨2, ![4108, 128]⟩
abbrev S4109x128 : Shape := ⟨2, ![4109, 128]⟩
abbrev S4110x128 : Shape := ⟨2, ![4110, 128]⟩
abbrev S4111x128 : Shape := ⟨2, ![4111, 128]⟩

abbrev nBuf : Space → Nat
  | .hbm => 213
  | .vmem => 0
  | .smem => 0
  | _ => 0

abbrev hbmTy0_0 (i : Nat) : BufTy := match i % 128 with
  | 0 => ⟨S4096x1024, .bf16⟩
  | 1 => ⟨S4x128x128, .bf16⟩
  | 2 => ⟨S1x512, .f32⟩
  | 3 => ⟨S4096x512, .bf16⟩
  | 4 => ⟨S4096x512, .f32⟩
  | 5 => ⟨S4096x512, .bf16⟩
  | 6 => ⟨S4096x512, .f32⟩
  | 7 => ⟨S4x128x128, .f32⟩
  | 8 => ⟨S4096, .i32⟩
  | 9 => ⟨S4096x128, .f32⟩
  | 10 => ⟨S_, .i32⟩
  | 11 => ⟨S_, .f32⟩
  | 12 => ⟨S4097x128, .f32⟩
  | 13 => ⟨S4096x128, .f32⟩
  | 14 => ⟨S4096x128, .f32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S4096, .f32⟩
  | 22 => ⟨S4096x1, .f32⟩
  | 23 => ⟨S4096x128, .f32⟩
  | 24 => ⟨S4096x128, .f32⟩
  | 25 => ⟨S4096x128, .f32⟩
  | 26 => ⟨S1x128x128, .f32⟩
  | 27 => ⟨S128x128, .f32⟩
  | 28 => ⟨S4096x128, .f32⟩
  | 29 => ⟨S4096x128, .f32⟩
  | 30 => ⟨S_, .i32⟩
  | 31 => ⟨S_, .f32⟩
  | 32 => ⟨S4097x128, .f32⟩
  | 33 => ⟨S4096x128, .f32⟩
  | 34 => ⟨S4096x128, .f32⟩
  | 35 => ⟨S_, .i32⟩
  | 36 => ⟨S_, .f32⟩
  | 37 => ⟨S4098x128, .f32⟩
  | 38 => ⟨S4096x128, .f32⟩
  | 39 => ⟨S4096x128, .f32⟩
  | 40 => ⟨S_, .i32⟩
  | 41 => ⟨S_, .f32⟩
  | 42 => ⟨S4099x128, .f32⟩
  | 43 => ⟨S4096x128, .f32⟩
  | 44 => ⟨S4096x128, .f32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S4096, .f32⟩
  | 52 => ⟨S4096x1, .f32⟩
  | 53 => ⟨S4096x128, .f32⟩
  | 54 => ⟨S4096x128, .f32⟩
  | 55 => ⟨S4096x128, .f32⟩
  | 56 => ⟨S1x128x128, .f32⟩
  | 57 => ⟨S128x128, .f32⟩
  | 58 => ⟨S4096x128, .f32⟩
  | 59 => ⟨S4096x128, .f32⟩
  | 60 => ⟨S_, .i32⟩
  | 61 => ⟨S_, .f32⟩
  | 62 => ⟨S4097x128, .f32⟩
  | 63 => ⟨S4096x128, .f32⟩
  | 64 => ⟨S4096x128, .f32⟩
  | 65 => ⟨S_, .i32⟩
  | 66 => ⟨S_, .f32⟩
  | 67 => ⟨S4098x128, .f32⟩
  | 68 => ⟨S4096x128, .f32⟩
  | 69 => ⟨S4096x128, .f32⟩
  | 70 => ⟨S_, .i32⟩
  | 71 => ⟨S_, .f32⟩
  | 72 => ⟨S4099x128, .f32⟩
  | 73 => ⟨S4096x128, .f32⟩
  | 74 => ⟨S4096x128, .f32⟩
  | 75 => ⟨S_, .i32⟩
  | 76 => ⟨S_, .f32⟩
  | 77 => ⟨S4100x128, .f32⟩
  | 78 => ⟨S4096x128, .f32⟩
  | 79 => ⟨S4096x128, .f32⟩
  | 80 => ⟨S_, .i32⟩
  | 81 => ⟨S_, .f32⟩
  | 82 => ⟨S4101x128, .f32⟩
  | 83 => ⟨S4096x128, .f32⟩
  | 84 => ⟨S4096x128, .f32⟩
  | 85 => ⟨S_, .i32⟩
  | 86 => ⟨S_, .f32⟩
  | 87 => ⟨S4102x128, .f32⟩
  | 88 => ⟨S4096x128, .f32⟩
  | 89 => ⟨S4096x128, .f32⟩
  | 90 => ⟨S_, .i32⟩
  | 91 => ⟨S_, .f32⟩
  | 92 => ⟨S4103x128, .f32⟩
  | 93 => ⟨S4096x128, .f32⟩
  | 94 => ⟨S4096x128, .f32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S4096, .f32⟩
  | 102 => ⟨S4096x1, .f32⟩
  | 103 => ⟨S4096x128, .f32⟩
  | 104 => ⟨S4096x128, .f32⟩
  | 105 => ⟨S4096x128, .f32⟩
  | 106 => ⟨S1x128x128, .f32⟩
  | 107 => ⟨S128x128, .f32⟩
  | 108 => ⟨S4096x128, .f32⟩
  | 109 => ⟨S4096x128, .f32⟩
  | 110 => ⟨S_, .i32⟩
  | 111 => ⟨S_, .f32⟩
  | 112 => ⟨S4097x128, .f32⟩
  | 113 => ⟨S4096x128, .f32⟩
  | 114 => ⟨S4096x128, .f32⟩
  | 115 => ⟨S_, .i32⟩
  | 116 => ⟨S_, .f32⟩
  | 117 => ⟨S4098x128, .f32⟩
  | 118 => ⟨S4096x128, .f32⟩
  | 119 => ⟨S4096x128, .f32⟩
  | 120 => ⟨S_, .i32⟩
  | 121 => ⟨S_, .f32⟩
  | 122 => ⟨S4099x128, .f32⟩
  | 123 => ⟨S4096x128, .f32⟩
  | 124 => ⟨S4096x128, .f32⟩
  | 125 => ⟨S_, .i32⟩
  | 126 => ⟨S_, .f32⟩
  | 127 => ⟨S4100x128, .f32⟩
  | _ => ⟨S4096x1024, .bf16⟩

abbrev hbmTy0_1 (i : Nat) : BufTy := match i % 128 with
  | 0 => ⟨S4096x128, .f32⟩
  | 1 => ⟨S4096x128, .f32⟩
  | 2 => ⟨S_, .i32⟩
  | 3 => ⟨S_, .f32⟩
  | 4 => ⟨S4101x128, .f32⟩
  | 5 => ⟨S4096x128, .f32⟩
  | 6 => ⟨S4096x128, .f32⟩
  | 7 => ⟨S_, .i32⟩
  | 8 => ⟨S_, .f32⟩
  | 9 => ⟨S4102x128, .f32⟩
  | 10 => ⟨S4096x128, .f32⟩
  | 11 => ⟨S4096x128, .f32⟩
  | 12 => ⟨S_, .i32⟩
  | 13 => ⟨S_, .f32⟩
  | 14 => ⟨S4103x128, .f32⟩
  | 15 => ⟨S4096x128, .f32⟩
  | 16 => ⟨S4096x128, .f32⟩
  | 17 => ⟨S_, .i32⟩
  | 18 => ⟨S_, .f32⟩
  | 19 => ⟨S4104x128, .f32⟩
  | 20 => ⟨S4096x128, .f32⟩
  | 21 => ⟨S4096x128, .f32⟩
  | 22 => ⟨S_, .i32⟩
  | 23 => ⟨S_, .f32⟩
  | 24 => ⟨S4105x128, .f32⟩
  | 25 => ⟨S4096x128, .f32⟩
  | 26 => ⟨S4096x128, .f32⟩
  | 27 => ⟨S_, .i32⟩
  | 28 => ⟨S_, .f32⟩
  | 29 => ⟨S4106x128, .f32⟩
  | 30 => ⟨S4096x128, .f32⟩
  | 31 => ⟨S4096x128, .f32⟩
  | 32 => ⟨S_, .i32⟩
  | 33 => ⟨S_, .f32⟩
  | 34 => ⟨S4107x128, .f32⟩
  | 35 => ⟨S4096x128, .f32⟩
  | 36 => ⟨S4096x128, .f32⟩
  | 37 => ⟨S_, .i32⟩
  | 38 => ⟨S_, .f32⟩
  | 39 => ⟨S4108x128, .f32⟩
  | 40 => ⟨S4096x128, .f32⟩
  | 41 => ⟨S4096x128, .f32⟩
  | 42 => ⟨S_, .i32⟩
  | 43 => ⟨S_, .f32⟩
  | 44 => ⟨S4109x128, .f32⟩
  | 45 => ⟨S4096x128, .f32⟩
  | 46 => ⟨S4096x128, .f32⟩
  | 47 => ⟨S_, .i32⟩
  | 48 => ⟨S_, .f32⟩
  | 49 => ⟨S4110x128, .f32⟩
  | 50 => ⟨S4096x128, .f32⟩
  | 51 => ⟨S4096x128, .f32⟩
  | 52 => ⟨S_, .i32⟩
  | 53 => ⟨S_, .f32⟩
  | 54 => ⟨S4111x128, .f32⟩
  | 55 => ⟨S4096x128, .f32⟩
  | 56 => ⟨S4096x128, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S4096x1, .f32⟩
  | 65 => ⟨S4096x128, .f32⟩
  | 66 => ⟨S4096x128, .f32⟩
  | 67 => ⟨S4096x128, .f32⟩
  | 68 => ⟨S1x128x128, .f32⟩
  | 69 => ⟨S128x128, .f32⟩
  | 70 => ⟨S4096x128, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S4096x512, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call2_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_call3_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_call4_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_call5_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_call6_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_call7_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_call8_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_call9_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_call10_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_16 : Ref sig .tc := ⟨.hbm, 110, rfl⟩
abbrev main_call11_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_call12_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_call13_v0 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_19 : Ref sig .tc := ⟨.hbm, 125, rfl⟩
abbrev main_call14_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_20 : Ref sig .tc := ⟨.hbm, 130, rfl⟩
abbrev main_call15_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_call16_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_22 : Ref sig .tc := ⟨.hbm, 140, rfl⟩
abbrev main_call17_v0 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_call18_v0 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_24 : Ref sig .tc := ⟨.hbm, 150, rfl⟩
abbrev main_call19_v0 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_25 : Ref sig .tc := ⟨.hbm, 155, rfl⟩
abbrev main_call20_v0 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_26 : Ref sig .tc := ⟨.hbm, 160, rfl⟩
abbrev main_call21_v0 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_c_27 : Ref sig .tc := ⟨.hbm, 165, rfl⟩
abbrev main_call22_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_28 : Ref sig .tc := ⟨.hbm, 170, rfl⟩
abbrev main_call23_v0 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_c_29 : Ref sig .tc := ⟨.hbm, 175, rfl⟩
abbrev main_call24_v0 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_30 : Ref sig .tc := ⟨.hbm, 180, rfl⟩
abbrev main_call25_v0 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_c_31 : Ref sig .tc := ⟨.hbm, 185, rfl⟩
abbrev main_v124 : Ref sig .tc := ⟨.hbm, 186, rfl⟩
abbrev main_v125 : Ref sig .tc := ⟨.hbm, 187, rfl⟩
abbrev main_c_32 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_call26_v0 : Ref sig .tc := ⟨.hbm, 202, rfl⟩
abbrev main_call26_v1 : Ref sig .tc := ⟨.hbm, 203, rfl⟩
abbrev main_call26_cst : Ref sig .tc := ⟨.hbm, 204, rfl⟩
abbrev main_call26_v2 : Ref sig .tc := ⟨.hbm, 205, rfl⟩
abbrev main_call26_v3 : Ref sig .tc := ⟨.hbm, 206, rfl⟩
abbrev main_call26_cst_0 : Ref sig .tc := ⟨.hbm, 207, rfl⟩
abbrev main_call26_v4 : Ref sig .tc := ⟨.hbm, 208, rfl⟩
abbrev main_call26_v5 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩

abbrev nD : Nat := 1
abbrev τ : Topo := Topo.v7x

variable {F : FTy → Type} [FloatOps F]
-- ==== Kernel9.lean ====
abbrev S256x1024 : Shape := ⟨2, ![256, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S4x128x1024, .bf16⟩
  | .hbm, ⟨2, _⟩ => ⟨S4x128x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S4x128x1024, .bf16⟩
  | .local _ .vmem, ⟨5, _⟩ => ⟨S4x128x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel9Ideal.lean ====
variable {F : FTy → Type} [FloatOps F] [Named F]
def κ : String → Option EReal := fun
  | "inv_left1" => some ((8388608 / 5463681 : ℝ) : EReal)
  | "inv_left2" => some ((268435456 / 2672307 : ℝ) : EReal)
  | _ => none
-- ==== Reference9Ideal.lean ====
abbrev S256x1024 : Shape := ⟨2, ![256, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x128x1024, .bf16⟩
  | .hbm, ⟨2, _⟩ => ⟨S4x128x1024, .bf16⟩
  | .hbm, ⟨3, _⟩ => ⟨S256x1024, .f32⟩
  | .hbm, ⟨4, _⟩ => ⟨S256x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel10.lean ====
abbrev S128x512 : Shape := ⟨2, ![128, 512]⟩
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 9
  | .vmem => 18
  | .smem => 0
  | _ => 0

abbrev bufTy : (tb : Table) → Fin (tcTables nBuf tb) → BufTy
  | .hbm, ⟨0, _⟩ => ⟨S128x512, .f32⟩
  | .hbm, ⟨1, _⟩ => ⟨S4x64x512, .bf16⟩
  | .hbm, ⟨2, _⟩ => ⟨S4x64x512, .bf16⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S64x512, .f32⟩
  | .local _ .vmem, ⟨1, _⟩ => ⟨S64x512, .f32⟩
  | .local _ .vmem, ⟨2, _⟩ => ⟨S4x64x512, .bf16⟩
  | .local _ .vmem, ⟨3, _⟩ => ⟨S4x64x512, .bf16⟩
  | .local _ .vmem, ⟨4, _⟩ => ⟨S4x64x512, .bf16⟩
  | .local _ .vmem, ⟨5, _⟩ => ⟨S4x64x512, .bf16⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel10Ideal.lean ====
variable {F : FTy → Type} [FloatOps F] [Named F]
def κ : String → Option EReal := fun
  | "inv_left1" => some ((8388608 / 5463681 : ℝ) : EReal)
  | "inv_left2" => some ((268435456 / 2672307 : ℝ) : EReal)
  | _ => none
-- ==== Reference10Ideal.lean ====
abbrev S128x512 : Shape := ⟨2, ![128, 512]⟩
abbrev S4x64x512 : Shape := ⟨3, ![4, 64, 512]⟩
abbrev S_ : Shape := ⟨0, ![]⟩
abbrev S64x512 : Shape := ⟨2, ![64, 512]⟩

abbrev nBuf : Space → Nat
  | .hbm => 45
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S4x64x512, .bf16⟩
  | .hbm, ⟨2, _⟩ => ⟨S4x64x512, .bf16⟩
  | .hbm, ⟨3, _⟩ => ⟨S128x512, .f32⟩
  | .hbm, ⟨4, _⟩ => ⟨S128x512, .f32⟩
  | .hbm, ⟨5, _⟩ => ⟨S4x64x512, .f32⟩
  | .hbm, ⟨6, _⟩ => ⟨S_, .f32⟩
  | .hbm, ⟨7, _⟩ => ⟨S64x512, .f32⟩
  | .hbm, ⟨8, _⟩ => ⟨S4x64x512, .f32⟩
  | .hbm, ⟨9, _⟩ => ⟨S_, .f32⟩
  | .hbm, ⟨10, _⟩ => ⟨S64x512, .f32⟩
  | .hbm, ⟨11, _⟩ => ⟨S128x512, .f32⟩
  | .hbm, ⟨12, _⟩ => ⟨S_, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S128x512, .f32⟩
  | .hbm, ⟨23, _⟩ => ⟨S_, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S_, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S128x512, .f32⟩
  | .hbm, ⟨42, _⟩ => ⟨S_, .f32⟩
  | .hbm, ⟨43, _⟩ => ⟨S128x512, .f32⟩
  | .hbm, ⟨44, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel11.lean ====
abbrev S1024x128 : Shape := ⟨2, ![1024, 128]⟩
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 9
  | .vmem => 18
  | .smem => 0
  | _ => 0

abbrev bufTy : (tb : Table) → Fin (tcTables nBuf tb) → BufTy
  | .hbm, ⟨0, _⟩ => ⟨S1024x128, .f32⟩
  | .hbm, ⟨1, _⟩ => ⟨S4x512x128, .bf16⟩
  | .hbm, ⟨2, _⟩ => ⟨S4x512x128, .bf16⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel11Ideal.lean ====
variable {F : FTy → Type} [FloatOps F] [Named F]
def κ : String → Option EReal := fun
  | "inv_left1" => some ((8388608 / 5463681 : ℝ) : EReal)
  | "inv_left2" => some ((268435456 / 2672307 : ℝ) : EReal)
  | _ => none
-- ==== Reference11Ideal.lean ====
abbrev S1024x128 : Shape := ⟨2, ![1024, 128]⟩
abbrev S4x512x128 : Shape := ⟨3, ![4, 512, 128]⟩
abbrev S_ : Shape := ⟨0, ![]⟩
abbrev S512x128 : Shape := ⟨2, ![512, 128]⟩

abbrev nBuf : Space → Nat
  | .hbm => 45
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S4x512x128, .bf16⟩
  | .hbm, ⟨2, _⟩ => ⟨S4x512x128, .bf16⟩
  | .hbm, ⟨3, _⟩ => ⟨S1024x128, .f32⟩
  | .hbm, ⟨4, _⟩ => ⟨S1024x128, .f32⟩
  | .hbm, ⟨5, _⟩ => ⟨S4x512x128, .f32⟩
  | .hbm, ⟨6, _⟩ => ⟨S_, .f32⟩
  | .hbm, ⟨7, _⟩ => ⟨S512x128, .f32⟩
  | .hbm, ⟨8, _⟩ => ⟨S4x512x128, .f32⟩
  | .hbm, ⟨9, _⟩ => ⟨S_, .f32⟩
  | .hbm, ⟨10, _⟩ => ⟨S512x128, .f32⟩
  | .hbm, ⟨11, _⟩ => ⟨S1024x128, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | .hbm, ⟨41, _⟩ => ⟨S1024x128, .f32⟩
  | .hbm, ⟨42, _⟩ => ⟨S_, .f32⟩
  | .hbm, ⟨43, _⟩ => ⟨S1024x128, .f32⟩
  | .hbm, ⟨44, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Ext.Index.lean ====
/- Functions of an array's index, known coordinate by coordinate. -/
module

public import Idealize.ShloMosaic.Lib.Pointwise

@[expose] public section

namespace Cert.Ext

open Idealize.ShloMosaic

/-- A function of a matrix index is known on every pair of coordinates. -/
theorem matrix_ext {a b : Nat} {f : (⟨2, ![a, b]⟩ : Shape).Idx → EReal} {h : Fin a → Fin b → EReal} (e : ∀ i j, f (ix2 i j) = h i j) :
    f = fun i => h (i 0) (i 1) := by
  funext i
  refine Eq.trans (congrArg f ?_) (e (i 0) (i 1))
  funext x
  fin_cases x <;> rfl

/-- A function of four coordinates is known on every four of them. -/
theorem block_ext {a b c d : Nat} {f : (⟨4, ![a, b, c, d]⟩ : Shape).Idx → EReal} {h : Fin a → Fin b → Fin c → Fin d → EReal}
    (e : ∀ i j k l, f (ix4 i j k l) = h i j k l) : f = fun i => h (i 0) (i 1) (i 2) (i 3) := by
  funext i
  refine Eq.trans (congrArg f ?_) (e (i 0) (i 1) (i 2) (i 3))
  funext x
  fin_cases x <;> rfl

end Cert.Ext
-- ==== Proof.Norm.Scalar.lean ====
/- The two ways of writing the gradient of a normalised row agree over the extended reals, on every row. -/
module

public import Idealize.ShloMosaic.Lib.Pointwise
public import Idealize.ShloMosaic.PureOps.Ideal.Laws

@[expose] public section

noncomputable section

namespace Cert.Norm

open Idealize.ShloMosaic

/-- The row's width as a constant. -/
theorem width_f32 : Ideal.ofBits .f32 0x44800000#32 = ((1024 : ℝ) : EReal) := by
  simp [Ideal.ofBits, Ideal.ieee, -EReal.coe_mul]; norm_num

/-- The constant that the gradient of the inverse square root carries. -/
theorem neg_half_f32 : Ideal.ofBits .f32 0xBF000000#32 = ((-(1/2) : ℝ) : EReal) := by
  simp [Ideal.ofBits, Ideal.ieee, -EReal.coe_mul]; norm_num

/-- The constant added to the mean square is a positive real. -/
theorem eps_f32 : ∃ e : ℝ, 0 < e ∧ Ideal.ofBits .f32 0x358637BD#32 = (e : EReal) := by
  refine ⟨_, ?_, by simp [Ideal.ofBits, Ideal.ieee, -EReal.coe_mul]; rfl⟩
  positivity

/-- A quotient by the width is a product with its inverse. -/
theorem div_width (y : EReal) : Ideal.div y ((1024 : ℝ) : EReal) = y * ((1024⁻¹ : ℝ) : EReal) := by
  have h : ((1024 : ℝ) : EReal) ≠ 0 := by exact_mod_cast (by norm_num : (1024 : ℝ) ≠ 0)
  rw [Ideal.div, if_neg h, EReal.coe_inv]

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- A real factor that is not negative comes out of a sum. -/
theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _) (r : EReal),
      EReal.left_distrib_of_nonneg_of_ne_top (EReal.coe_nonneg.2 hr) (EReal.coe_ne_top r), mul_comm (r : EReal), mul_comm (r : EReal)]

/-- A real multiple of a value taken twice is twice the multiple. -/
theorem real_mul_add_self (k : ℝ) (T : EReal) : (k : EReal) * T + (k : EReal) * T = ((2 * k : ℝ) : EReal) * T := by
  rcases lt_trichotomy k 0 with h | h | h
  · induction T with
    | bot => rw [EReal.coe_mul_bot_of_neg h, EReal.coe_mul_bot_of_neg (by linarith)]; rfl
    | coe t => norm_cast; ring
    | top => rw [EReal.coe_mul_top_of_neg h, EReal.coe_mul_top_of_neg (by linarith)]; rfl
  · subst h; simp
  · induction T with
    | bot => rw [EReal.coe_mul_bot_of_pos h, EReal.coe_mul_bot_of_pos (by linarith)]; rfl
    | coe t => norm_cast; ring
    | top => rw [EReal.coe_mul_top_of_pos h, EReal.coe_mul_top_of_pos (by linarith)]; rfl

/-- The mean square of a row, moved off zero. -/
def meanSq (x : Fin 1024 → EReal) : EReal :=
  Ideal.div (∑ k, x k * x k) (Ideal.ofBits .f32 0x44800000#32) + Ideal.ofBits .f32 0x358637BD#32

/-- The inverse root of the mean square. -/
def rstd (x : Fin 1024 → EReal) : EReal := Ideal.rsqrt (meanSq x)

/-- The gradient at a normalised row's entry, by the projection off the row: what the kernel computes. -/
def rowGrad (x dn : Fin 1024 → EReal) (c : Fin 1024) : EReal :=
  rstd x * (dn c - x c * rstd x * Ideal.div (∑ k, dn k * (x k * rstd x)) (Ideal.ofBits .f32 0x44800000#32))

/-- What reaches the row's entry through the inverse root, by the chain rule: half of what the reference adds. -/
def viaRoot (x dn : Fin 1024 → EReal) : EReal :=
  Ideal.div ((∑ k, x k * dn k) * (Ideal.ofBits .f32 0xBF000000#32 * Ideal.div (rstd x) (meanSq x))) (Ideal.ofBits .f32 0x44800000#32)

/-- A row's mean square is infinite or a positive real. -/
theorem meanSq_cases (x : Fin 1024 → EReal) : meanSq x = ⊤ ∨ ∃ a : ℝ, 0 < a ∧ meanSq x = (a : EReal) := by
  obtain ⟨e, he, hE⟩ := eps_f32
  have h0 : 0 ≤ ∑ k, x k * x k := Finset.sum_nonneg fun k _ => sq_nonneg' (x k)
  unfold meanSq
  rw [width_f32, hE, div_width]
  generalize ∑ k, x k * x k = S at h0 ⊢
  induction S with
  | bot => exact absurd h0 (by simp)
  | coe s =>
    refine .inr ⟨s * 1024⁻¹ + e, ?_, by norm_cast⟩
    have := EReal.coe_nonneg.1 h0
    positivity
  | top => left; rw [EReal.top_mul_coe_of_pos (by norm_num)]; rfl

/-- THE ROW'S IDENTITY: the chain rule through the inverse root, term by term, is the projection off the row. -/
theorem row_grad (x dn : Fin 1024 → EReal) (c : Fin 1024) (d : EReal) :
    d + dn c * rstd x + x c * viaRoot x dn + viaRoot x dn * x c = d + rowGrad x dn c := by
  unfold viaRoot rowGrad
  rw [width_f32, neg_half_f32, div_width, div_width]
  rcases meanSq_cases x with h | ⟨a, ha, h⟩
  · have hr : rstd x = 0 := by unfold rstd; rw [h]; rfl
    have hd : Ideal.div 0 ⊤ = 0 := by simp [Ideal.div]
    rw [hr, h, hd]; simp
  · have hr : rstd x = (((Real.sqrt a)⁻¹ : ℝ) : EReal) := by
      unfold rstd; rw [h]; show (if a < 0 then _ else if a = 0 then _ else _) = _
      rw [if_neg (by linarith), if_neg ha.ne']
    have hpos : 0 < (Real.sqrt a)⁻¹ := inv_pos.2 (Real.sqrt_pos.2 ha)
    have hsq : (Real.sqrt a)⁻¹ * (Real.sqrt a)⁻¹ = a⁻¹ := by rw [← mul_inv, Real.mul_self_sqrt ha.le]
    have hdiv : Ideal.div (rstd x) (meanSq x) = (((Real.sqrt a)⁻¹ * a⁻¹ : ℝ) : EReal) := by
      rw [hr, h, Ideal.div, if_neg (by exact_mod_cast ha.ne'), ← EReal.coe_inv, ← EReal.coe_mul]
    rw [hdiv, hr]
    generalize (Real.sqrt a)⁻¹ = ρ at hpos hsq ⊢
    rw [← hsq]
    have hS : ∑ k, dn k * (x k * (ρ : EReal)) = (∑ k, x k * dn k) * (ρ : EReal) := by
      rw [← sum_mul_real _ _ ρ hpos.le]; exact Finset.sum_congr rfl fun k _ => by ac_rfl
    rw [hS]
    generalize ∑ k, x k * dn k = S
    rw [sub_eq_add_neg, EReal.left_distrib_of_nonneg_of_ne_top (EReal.coe_nonneg.2 hpos.le) (EReal.coe_ne_top ρ)]
    have h1 : x c * (S * (((-(1/2) : ℝ) : EReal) * ((ρ * (ρ * ρ) : ℝ) : EReal)) * ((1024⁻¹ : ℝ) : EReal))
        = ((-(1/2) * (ρ * (ρ * ρ)) * 1024⁻¹ : ℝ) : EReal) * (x c * S) := by push_cast; ac_rfl
    have h2 : (ρ : EReal) * -(x c * ρ * (S * ρ * ((1024⁻¹ : ℝ) : EReal)))
        = ((2 * (-(1/2) * (ρ * (ρ * ρ)) * 1024⁻¹) : ℝ) : EReal) * (x c * S) := by
      have : (2 * (-(1/2) * (ρ * (ρ * ρ)) * 1024⁻¹) : ℝ) = -(ρ * (ρ * ρ) * 1024⁻¹) := by ring
      rw [this, EReal.coe_neg, neg_mul, mul_neg]; push_cast; congr 1; ac_rfl
    rw [h2, ← real_mul_add_self, mul_comm (S * _ * _) (x c), h1, mul_comm (dn c)]
    ac_rfl

end Cert.Norm

end
-- ==== Proof.Norm.Spec.lean ====
/- The gradient of the normalised, modulated projection in closed form, entry by entry, over the extended reals. -/
module

public import proofs.«01_k».proof.Proof.Norm.Scalar

@[expose] public section

noncomputable section

namespace Cert.Norm

open Idealize.ShloMosaic

/-- A matrix of extended reals. -/
abbrev Mat (a b : Nat) := (⟨2, ![a, b]⟩ : Shape).Idx → EReal

/-- The arrays the gradient is taken of: the cotangents of the four groups of columns, the weight, the layer's input, the cotangent that
    arrives along the residual, the norm's weight and the modulation. -/
structure Args where
  pa : Mat 4096 1280
  ps : Mat 4096 1024
  pp : Mat 4096 1024
  pg : Mat 4096 3072
  w : Mat 1024 6400
  x : Mat 4096 1024
  dres : Mat 4096 1024
  g : Mat 1 1024
  sc : Mat 1 1024

variable (A : Args)

/-- `n` columns of the cotangents `d`, from column `i` on, against the weight's columns from `j` on. -/
def part {m : Nat} (d : Mat 4096 m) (n i j : Nat) (hi : i + n ≤ m) (hj : j + n ≤ 6400) (l : Fin 4096) (c : Fin 1024) : EReal :=
  ∑ k : Fin n, d (ix2 l ⟨i + k, by omega⟩) * A.w (ix2 c ⟨j + k, by omega⟩)

/-- The cotangent of the modulated rows: the groups' columns against the weight. -/
def dh (l : Fin 4096) (c : Fin 1024) : EReal :=
  part A A.pa 512 0 0 (by omega) (by omega) l c + part A A.pa 512 512 1792 (by omega) (by omega) l c
    + part A A.pa 256 1024 512 (by omega) (by omega) l c + part A A.ps 512 0 768 (by omega) (by omega) l c
    + part A A.ps 512 512 2304 (by omega) (by omega) l c + part A A.pp 512 0 1280 (by omega) (by omega) l c
    + part A A.pp 512 512 2816 (by omega) (by omega) l c + part A A.pg 3072 0 3328 (by omega) (by omega) l c

/-- Row `l` of the input. -/
def row (l : Fin 4096) (c : Fin 1024) : EReal := A.x (ix2 l c)

/-- The normalised row. -/
def nrm (l : Fin 4096) (c : Fin 1024) : EReal := row A l c * rstd (row A l)

/-- The cotangent before the modulation. -/
def dmod (l : Fin 4096) (c : Fin 1024) : EReal := dh A l c * (1 + A.sc (ix2 0 c))

/-- The cotangent of the normalised row. -/
def dn (l : Fin 4096) (c : Fin 1024) : EReal := dmod A l c * A.g (ix2 0 c)

/-- The gradient at the layer's input. -/
def dx (l : Fin 4096) (c : Fin 1024) : EReal := A.dres (ix2 l c) + rowGrad (row A l) (dn A l) c

/-- What row `l` adds to the gradients at the shift, the modulation and the norm's weight (rows 0, 1 and 2; nothing to the others). -/
def rowTerm (l : Fin 4096) (q : Fin 8) (c : Fin 1024) : EReal :=
  if q = 0 then dh A l c else if q = 1 then dh A l c * (nrm A l c * A.g (ix2 0 c)) else if q = 2 then dmod A l c * nrm A l c else 0

/-- The gradients at the shift, the modulation and the norm's weight, in rows 0, 1 and 2. -/
def sums (q : Fin 8) (c : Fin 1024) : EReal := ∑ l : Fin 4096, rowTerm A l q c

end Cert.Norm

end
-- ==== Proof.Norm.Point.lean ====
/- What a grid point leaves in the kernel's two output windows, at an index: the closed form of Spec.lean. -/
module

public import proofs.«01_k».proof.Proof.Gen.KernelIdeal.Value
public import proofs.«01_k».proof.Proof.Norm.Spec
public import Idealize.ShloMosaic.Lib.Pipeline.ReadBack
public import Idealize.ShloMosaic.Lib.Pipeline.ValueKit
public import Idealize.ShloMosaic.Lib.Pointwise
public import Idealize.ShloMosaic.Lib.WritesUnit

@[expose] public section

set_option maxRecDepth 16384

noncomputable section

namespace Cert.Norm

open Idealize.ShloMosaic Idealize.ShloMosaic.TcCoe Cert.KernelIdeal Cert.KernelIdeal.Gen

variable (m : (ℓ : Loc nD τ sig) → Buf (Elt Ideal) ℓ) (c : Dev nD)

/-- The gradient's arrays, as the kernel's arguments hold them. -/
def args : Args where
  pa := m ((c : Thread nD τ).loc main_arg0)
  ps := m ((c : Thread nD τ).loc main_arg1)
  pp := m ((c : Thread nD τ).loc main_arg2)
  pg := m ((c : Thread nD τ).loc main_arg3)
  w := m ((c : Thread nD τ).loc main_arg4)
  x := m ((c : Thread nD τ).loc main_arg5)
  dres := m ((c : Thread nD τ).loc main_arg6)
  g := m ((c : Thread nD τ).loc main_arg7)
  sc := m ((c : Thread nD τ).loc main_arg8)

/-- Row `r` of point `t`'s block. -/
abbrev at256 (t : Fin cfg0.N) (r : Fin 256) : Fin 4096 := ⟨256 * t.val + r.val, by have := t.isLt; have : cfg0.N = 16 := N_0; omega⟩

/-- Where each window's block lies at a grid point. -/
theorem index : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![0, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![0, 0] ∧ win0_8.index t = ![0, 0] ∧ win0_9.index t = ![t.val, 0] ∧ win0_10.index t = ![0, 0])

theorem blk_pa (t : Fin cfg0.N) (r : Fin 256) (k : Fin 1280) : iblk m c 0 t (ix2 r k) = (args m c).pa (ix2 (at256 t r) k) := by
  unfold args
  blk_ext [iblk, V_main_arg0, index t]

theorem blk_ps (t : Fin cfg0.N) (r : Fin 256) (k : Fin 1024) : iblk m c 1 t (ix2 r k) = (args m c).ps (ix2 (at256 t r) k) := by
  unfold args
  blk_ext [iblk, V_main_arg1, index t]

theorem blk_pp (t : Fin cfg0.N) (r : Fin 256) (k : Fin 1024) : iblk m c 2 t (ix2 r k) = (args m c).pp (ix2 (at256 t r) k) := by
  unfold args
  blk_ext [iblk, V_main_arg2, index t]

theorem blk_pg (t : Fin cfg0.N) (r : Fin 256) (k : Fin 3072) : iblk m c 3 t (ix2 r k) = (args m c).pg (ix2 (at256 t r) k) := by
  unfold args
  blk_ext [iblk, V_main_arg3, index t]

theorem blk_w (t : Fin cfg0.N) (r : Fin 1024) (k : Fin 6400) : iblk m c 4 t (ix2 r k) = (args m c).w (ix2 r k) := by
  unfold args
  blk_ext [iblk, V_main_arg4, index t]

theorem blk_x (t : Fin cfg0.N) (r : Fin 256) (k : Fin 1024) : iblk m c 5 t (ix2 r k) = (args m c).x (ix2 (at256 t r) k) := by
  unfold args
  blk_ext [iblk, V_main_arg5, index t]

theorem blk_dres (t : Fin cfg0.N) (r : Fin 256) (k : Fin 1024) : iblk m c 6 t (ix2 r k) = (args m c).dres (ix2 (at256 t r) k) := by
  unfold args
  blk_ext [iblk, V_main_arg6, index t]

theorem blk_g (t : Fin cfg0.N) (k : Fin 1024) : iblk m c 7 t (ix2 0 k) = (args m c).g (ix2 0 k) := by
  unfold args
  blk_ext [iblk, V_main_arg7, index t]

theorem blk_sc (t : Fin cfg0.N) (k : Fin 1024) : iblk m c 8 t (ix2 0 k) = (args m c).sc (ix2 0 k) := by
  unfold args
  blk_ext [iblk, V_main_arg8, index t]

/-- The first six products of a point, summed. -/
abbrev six (t : Fin cfg0.N) : FVec Ideal S256x1024 .f32 :=
  k0_pay5 (View.ld (iblk m c 0 t) (Rect.unit ![0, 0] ![256, 512] inb_S256x1280_S256x512_0_0))
    (View.ld (iblk m c 4 t) (Rect.unit ![0, 0] ![1024, 512] inb_S1024x6400_S1024x512_0_0))
    (View.ld (iblk m c 0 t) (Rect.unit ![0, 512] ![256, 512] inb_S256x1280_S256x512_0_512))
    (View.ld (iblk m c 4 t) (Rect.unit ![0, 1792] ![1024, 512] inb_S1024x6400_S1024x512_0_1792))
    (View.ld (iblk m c 0 t) (Rect.unit ![0, 1024] ![256, 256] inb_S256x1280_S256x256_0_1024))
    (View.ld (iblk m c 4 t) (Rect.unit ![0, 512] ![1024, 256] inb_S1024x6400_S1024x256_0_512))
    (View.ld (iblk m c 1 t) (Rect.unit ![0, 0] ![256, 512] inb_S256x1024_S256x512_0_0))
    (View.ld (iblk m c 4 t) (Rect.unit ![0, 768] ![1024, 512] inb_S1024x6400_S1024x512_0_768))
    (View.ld (iblk m c 1 t) (Rect.unit ![0, 512] ![256, 512] inb_S256x1024_S256x512_0_512))
    (View.ld (iblk m c 4 t) (Rect.unit ![0, 2304] ![1024, 512] inb_S1024x6400_S1024x512_0_2304))
    (View.ld (iblk m c 2 t) (Rect.unit ![0, 0] ![256, 512] inb_S256x1024_S256x512_0_0))
    (View.ld (iblk m c 4 t) (Rect.unit ![0, 1280] ![1024, 512] inb_S1024x6400_S1024x512_0_1280))

/-- The last two products' operands. -/
abbrev pp2 (t : Fin cfg0.N) : Vec Ideal S256x512 .bf16 := View.ld (iblk m c 2 t) (Rect.unit ![0, 512] ![256, 512] inb_S256x1024_S256x512_0_512)
abbrev w7 (t : Fin cfg0.N) : Vec Ideal S1024x512 .bf16 := View.ld (iblk m c 4 t) (Rect.unit ![0, 2816] ![1024, 512] inb_S1024x6400_S1024x512_0_2816)
abbrev w8 (t : Fin cfg0.N) : Vec Ideal S1024x3072 .bf16 := View.ld (iblk m c 4 t) (Rect.unit ![0, 3328] ![1024, 3072] inb_S1024x6400_S1024x3072_0_3328)

/-- A point's cotangent of the modulated rows. -/
theorem pt_dh (t : Fin cfg0.N) (r : Fin 256) (k : Fin 1024) :
    k0_pay6 (six m c t) (pp2 m c t) (w7 m c t) (iblk m c 3 t) (w8 m c t) (ix2 r k) = dh (args m c) (at256 t r) k := by
  unfold k0_pay6 six k0_pay5 pp2 w7 w8
  pointwise [blk_pa m c t, blk_ps m c t, blk_pp m c t, blk_pg m c t, blk_w m c t]
  unfold dh part
  simp only [Nat.zero_add]

/-- A point's scale of a row. -/
theorem pt_rstd (t : Fin cfg0.N) (r : Fin 256) (u : Fin 1) : k0_pay7 (iblk m c 5 t) (ix2 r u) = rstd (row (args m c) (at256 t r)) := by
  unfold k0_pay7
  pointwise [blk_x m c t]
  unfold rstd meanSq row
  rfl

/-- A point's normalised rows. -/
theorem pt_nrm (t : Fin cfg0.N) (r : Fin 256) (k : Fin 1024) : k0_pay8 (iblk m c 5 t) (ix2 r k) = nrm (args m c) (at256 t r) k := by
  unfold k0_pay8
  pointwise [blk_x m c t, pt_rstd m c t]
  rfl

/-- A point's cotangent before the modulation. -/
theorem pt_dmod (t : Fin cfg0.N) (r : Fin 256) (k : Fin 1024) :
    k0_pay9 (six m c t) (pp2 m c t) (w7 m c t) (iblk m c 3 t) (w8 m c t) (iblk m c 8 t) (ix2 r k) = dmod (args m c) (at256 t r) k := by
  unfold k0_pay9
  pointwise [pt_dh m c t, blk_sc m c t]
  rfl

/-- A point's block of the gradient at the layer's input. -/
theorem pt_dx (t : Fin cfg0.N) (r : Fin 256) (k : Fin 1024) :
    k0_pay10 (six m c t) (pp2 m c t) (w7 m c t) (iblk m c 3 t) (w8 m c t) (iblk m c 5 t) (iblk m c 7 t) (iblk m c 8 t) (iblk m c 6 t) (ix2 r k)
      = dx (args m c) (at256 t r) k := by
  unfold k0_pay10
  pointwise [pt_dmod m c t, pt_nrm m c t, pt_rstd m c t, blk_g m c t, blk_dres m c t]
  rfl

/-- What a point leaves in the block of the gradient at the layer's input. -/
theorem out_dx (t : Fin cfg0.N) (r : Fin 256) (k : Fin 1024) :
    (outsAt0 m c t.val t.isLt).1 (ix2 r k) = dx (args m c) (at256 t r) k := by
  by_cases h0 : t.val % 16 = 0
  · rw [outsAt0_A m c t h0]
    frame_out
    exact pt_dx m c t r k
  · rw [outsAt0_B m c t h0]
    frame_out
    exact pt_dx m c t r k

/-- An array of eight rows whose rows 2, 1 and 0 were stored last, read at an index. -/
theorem read_rows {sig' : RefSig} {κ : Kind} {sp : Space} (v : View sig' κ sp S8x1024 .f32) (f : v.ty.Contents (Elt Ideal)) (p2 p1 p0 : FVec Ideal S1x1024 .f32)
    (L : List (View.Piece (Elt Ideal) S8x1024 .f32)) (q : Fin 8) (k : Fin 1024) :
    v.read (Elt Ideal) (v.writes (Elt Ideal) f (⟨Rect.unit ![2, 0] ![1, 1024] inb_S8x1024_S1x1024_2_0, p2⟩
      :: ⟨Rect.unit ![1, 0] ![1, 1024] inb_S8x1024_S1x1024_1_0, p1⟩ :: ⟨Rect.unit ![0, 0] ![1, 1024] inb_S8x1024_S1x1024_0_0, p0⟩ :: L)) (ix2 q k)
      = if q = 0 then p0 (ix2 0 k) else if q = 1 then p1 (ix2 0 k) else if q = 2 then p2 (ix2 0 k)
        else v.read (Elt Ideal) (v.writes (Elt Ideal) f L) (ix2 q k) := by
  have e : ∀ n : Fin 8, q = n ↔ q.val = n.val := fun n => Fin.ext_iff
  by_cases h2 : q.val = 2
  · rw [View.read_writes_cons_rows_of_mem v f inb_S8x1024_S1x1024_2_0 p2 _ (ix2 q k) (ix2 0 k) rfl h2 rfl, if_neg (by rw [e]; omega), if_neg (by rw [e]; omega), if_pos (by rw [e]; omega)]
  rw [View.read_writes_cons_rows_of_not_mem v f inb_S8x1024_S1x1024_2_0 p2 _ (ix2 q k) rfl rfl (by show q.val < 2 ∨ 2 + 1 ≤ q.val; omega)]
  by_cases h1 : q.val = 1
  · rw [View.read_writes_cons_rows_of_mem v f inb_S8x1024_S1x1024_1_0 p1 _ (ix2 q k) (ix2 0 k) rfl h1 rfl, if_neg (by rw [e]; omega), if_pos (by rw [e]; omega)]
  rw [View.read_writes_cons_rows_of_not_mem v f inb_S8x1024_S1x1024_1_0 p1 _ (ix2 q k) rfl rfl (by show q.val < 1 ∨ 1 + 1 ≤ q.val; omega)]
  by_cases hz : q.val = 0
  · rw [View.read_writes_cons_rows_of_mem v f inb_S8x1024_S1x1024_0_0 p0 _ (ix2 q k) (ix2 0 k) rfl hz rfl, if_pos (by rw [e]; omega)]
  rw [View.read_writes_cons_rows_of_not_mem v f inb_S8x1024_S1x1024_0_0 p0 _ (ix2 q k) rfl rfl (by show q.val < 0 ∨ 0 + 1 ≤ q.val; omega),
    if_neg (by rw [e]; omega), if_neg (by rw [e]; omega), if_neg (by rw [e]; omega)]

/-- What a point adds to the sums. -/
def blockTerm (t : Fin cfg0.N) (q : Fin 8) (k : Fin 1024) : EReal := ∑ r : Fin 256, rowTerm (args m c) (at256 t r) q k

/-- The three rows that a point stores over `P`, read at an index: `P` and the point's term. -/
theorem rows_eq (t : Fin cfg0.N) (P : Vec Ideal S8x1024 .f32) (q : Fin 8) (k : Fin 1024) :
    (if q = 0 then k0_pay2 (k0_pay6 (six m c t) (pp2 m c t) (w7 m c t) (iblk m c 3 t) (w8 m c t))
        (View.ld P (Rect.unit ![0, 0] ![1, 1024] inb_S8x1024_S1x1024_0_0)) (ix2 0 k)
      else if q = 1 then k0_pay3 (k0_pay6 (six m c t) (pp2 m c t) (w7 m c t) (iblk m c 3 t) (w8 m c t)) (k0_pay8 (iblk m c 5 t)) (iblk m c 7 t)
        (View.ld P (Rect.unit ![1, 0] ![1, 1024] inb_S8x1024_S1x1024_1_0)) (ix2 0 k)
      else if q = 2 then k0_pay4 (k0_pay8 (iblk m c 5 t)) (k0_pay9 (six m c t) (pp2 m c t) (w7 m c t) (iblk m c 3 t) (w8 m c t) (iblk m c 8 t))
        (View.ld P (Rect.unit ![2, 0] ![1, 1024] inb_S8x1024_S1x1024_2_0)) (ix2 0 k)
      else P (ix2 q k)) = P (ix2 q k) + blockTerm m c t q k := by
  unfold blockTerm rowTerm
  split_ifs with h0 h1 h2
  · subst h0
    unfold k0_pay2
    pointwise [pt_dh m c t]
  · subst h1
    unfold k0_pay3
    pointwise [pt_dh m c t, pt_nrm m c t, blk_g m c t]
  · subst h2
    unfold k0_pay4
    pointwise [pt_nrm m c t, pt_dmod m c t]
  · rw [Finset.sum_const_zero, add_zero]

/-- The sums after the first point. -/
theorem out_sums_first (t : Fin cfg0.N) (h0 : t.val % 16 = 0) (i : S8x1024.Idx) :
    (outsAt0 m c t.val t.isLt).2 i = 0 + blockTerm m c t (i 0) (i 1) := by
  rw [outsAt0_A m c t h0]
  frame_open
  simp (disch := decide) only [↓ View.readCov_skip, ↓ View.readCov_cons_toLoadRect, ↓ View.readCov_fill]
  frame_out
  obtain ⟨q, k, rfl⟩ : ∃ (q : Fin 8) (k : Fin 1024), i = ix2 q k := ⟨i 0, i 1, by funext a; fin_cases a <;> rfl⟩
  rw [← View.read_writes_junk_eq_canon (ms0_10 t).view, read_rows]
  refine Eq.trans ?_ ((rows_eq m c t (k0_pay1 (F := Ideal)) q k).trans ?_)
  · congr 3
    rw [View.read_writes_junk_eq_canon, View.canon_unit_zero (by decide)]
  · unfold k0_pay1
    pointwise

/-- The sums after a further point. -/
theorem out_sums_next (t : Fin cfg0.N) (h0 : ¬t.val % 16 = 0) (i : S8x1024.Idx) :
    (outsAt0 m c t.val t.isLt).2 i = (outsAt0 m c (t.val - 1) (Nat.lt_of_le_of_lt (Nat.sub_le _ _) t.isLt)).2 i + blockTerm m c t (i 0) (i 1) := by
  rw [outsAt0_B m c t h0]
  frame_out
  obtain ⟨q, k, rfl⟩ : ∃ (q : Fin 8) (k : Fin 1024), i = ix2 q k := ⟨i 0, i 1, by funext a; fin_cases a <;> rfl⟩
  rw [read_rows]
  refine Eq.trans ?_ (rows_eq m c t _ q k)
  congr 3
  exact congrFun (Memref.IsWhole.read_unread _ _) _

/-- The sums after the last point. -/
theorem out_sums (i : S8x1024.Idx) : (outsAt0 m c t0_15.val t0_15.isLt).2 i = sums (args m c) (i 0) (i 1) := by
  rw [Pipeline.eq_sum_fin_of_reset_step_apply_last (fun n h => (outsAt0 m c n h).2) 16 (fun _ => 0) (fun t i => blockTerm m c t (i 0) (i 1))
    (out_sums_first m c) (out_sums_next m c) (le_of_eq N_0) t0_15 (by show 15 + 1 = cfg0.N; exact N_0.symm) i, zero_add]
  unfold sums blockTerm
  refine (Fin.sum_points_lanes_congr 16 (A := 1) (L := 4096) (g := fun _ l => rowTerm (args m c) l (i 0) (i 1)) (fun t k ha hl => ?_) N_0 rfl).trans
    (Fin.sum_univ_one _)
  congr 1
  apply Fin.ext
  have := t.isLt
  have : cfg0.N = 16 := N_0
  show 256 * t.val + k.val = t.val % 16 * 256 + k.val
  omega

/-- The gradient at the layer's input, after the run. -/
theorem final_dx : (dats m 0 c).arrAt 9 cfg0.N = fun i => dx (args m c) (i 0) (i 1) := by
  refine (dats m 0 c).arrAt_eq_of_covers 9 _ (by decide +kernel) fun t hf y => ?_
  blk_simp [index t]
  rw [after0_9]
  obtain ⟨q, k, rfl⟩ : ∃ (q : Fin 256) (k : Fin 1024), y = ix2 q k := ⟨y 0, y 1, by funext a; fin_cases a <;> rfl⟩
  rw [out_dx]
  have e0 : ((win0_9.blk t).view.emb (ix2 q k) 0) = at256 t q := by
    apply Fin.ext
    blk_simp [index t]
    simp [mul_comm]
  have e1 : ((win0_9.blk t).view.emb (ix2 q k) 1) = k := by
    apply Fin.ext
    blk_simp [index t]
  rw [e0, e1]

/-- The gradients at the shift, the modulation and the norm's weight, after the run. -/
theorem final_sums : (dats m 0 c).arrAt 10 cfg0.N = fun i => sums (args m c) (i 0) (i 1) := by
  refine (dats m 0 c).arrAt_eq_of_after_last 10 t0_15 (by decide +kernel) _ fun j => ?_
  blk_simp
  rw [after0_10]
  exact out_sums m c j

end Cert.Norm

end
-- ==== Proof.Norm.Reference.lean ====
/- The reference's two results at an index: the closed form of Spec.lean. -/
module

public import proofs.«01_k».proof.Proof.Gen.ReferenceIdeal.Read
public import proofs.«01_k».proof.Proof.Norm.Spec

@[expose] public section

set_option maxRecDepth 16384

noncomputable section

namespace Cert.Norm

open Idealize.ShloMosaic Cert.ReferenceIdeal Cert.ReferenceIdeal.Read

variable (A : Args)

/-- The cotangents in the projection's order of columns. -/
abbrev ct : Mat 4096 6400 := val_main_v45 (F := Ideal) A.pa A.ps A.pp A.pg

/-- A sum over all columns is a sum over nine runs of columns. -/
theorem sum_runs (f : Fin 6400 → EReal) :
    ∑ q, f q = ∑ k : Fin 512, f ⟨0 + k, by omega⟩ + ∑ k : Fin 128, f ⟨512 + k, by omega⟩ + ∑ k : Fin 128, f ⟨640 + k, by omega⟩
      + ∑ k : Fin 512, f ⟨768 + k, by omega⟩ + ∑ k : Fin 512, f ⟨1280 + k, by omega⟩ + ∑ k : Fin 512, f ⟨1792 + k, by omega⟩
      + ∑ k : Fin 512, f ⟨2304 + k, by omega⟩ + ∑ k : Fin 512, f ⟨2816 + k, by omega⟩ + ∑ k : Fin 3072, f ⟨3328 + k, by omega⟩ := by
  have h : ∀ (a b : Nat) (hab : a + b ≤ 6400), ∑ k : Fin (a + b), f ⟨k, by omega⟩
      = ∑ k : Fin a, f ⟨k, by omega⟩ + ∑ k : Fin b, f ⟨a + k, by omega⟩ := fun a b hab => Fin.sum_univ_add _
  rw [show ∑ q, f q = ∑ k : Fin (3328 + 3072), f ⟨k, by omega⟩ from rfl, h 3328 3072, h 2816 512, h 2304 512, h 1792 512, h 1280 512,
    h 768 512, h 640 128, h 512 128] <;> first | omega | simp only [Nat.zero_add]

/-- Two neighbouring runs of 128 columns are one of 256. -/
theorem part_halves (l : Fin 4096) (c : Fin 1024) :
    part A A.pa 256 1024 512 (by omega) (by omega) l c
      = ∑ k : Fin 128, A.pa (ix2 l ⟨1024 + k, by omega⟩) * A.w (ix2 c ⟨512 + k, by omega⟩)
        + ∑ k : Fin 128, A.pa (ix2 l ⟨1152 + k, by omega⟩) * A.w (ix2 c ⟨640 + k, by omega⟩) := by
  refine (Fin.sum_univ_add (a := 128) (b := 128) _).trans ?_
  refine congr_arg₂ (· + ·) rfl (Finset.sum_congr rfl fun k _ => ?_)
  congr 3 <;> (apply Fin.ext; simp; omega)

/-- The cotangent of the modulated rows. -/
theorem ref_dh (l : Fin 4096) (c : Fin 1024) :
    val_main_v46 (F := Ideal) A.pa A.ps A.pp A.pg A.w (ix2 l c) = dh A l c := by
  unfold val_main_v46 val_main_v4 val_main_v45 val_main_v5 val_main_v6 val_main_v7 val_main_v8 val_main_v9 val_main_v10 val_main_v11 val_main_v12 val_main_v0 val_main_v1 val_main_v2 val_main_v3
  pointwise
  rw [sum_runs]
  simp (disch := omega) only [dif_pos, dif_neg]
  unfold dh
  rw [part_halves]
  unfold part
  simp only [Nat.sub_sub, Nat.reduceAdd, Nat.add_sub_cancel_left, Nat.zero_add]
  ac_rfl

/-- The mean square of a row. -/
theorem ref_meanSq (l : Fin 4096) (u : Fin 1) : val_main_v20 (F := Ideal) A.x (ix2 l u) = meanSq (row A l) := by
  unfold val_main_v20 val_main_v19 val_main_cst_2 val_main_v18 val_main_v17 val_main_cst_1 val_main_v16 val_main_v15 val_main_cst_0 val_main_v14 meanSq row
  pointwise

/-- Its inverse root. -/
theorem ref_rstd (l : Fin 4096) (u : Fin 1) : val_main_v21 (F := Ideal) A.x (ix2 l u) = rstd (row A l) := by
  unfold val_main_v21 rstd
  rw [← ref_meanSq A l u]
  pointwise

/-- The normalised row. -/
theorem ref_nrm (l : Fin 4096) (c : Fin 1024) : val_main_v26 (F := Ideal) A.x (ix2 l c) = nrm A l c := by
  unfold val_main_v26 val_main_v25 nrm
  pointwise [ref_rstd]
  rfl

/-- The cotangent before the modulation. -/
theorem ref_dmod (l : Fin 4096) (c : Fin 1024) :
    val_main_v53 (F := Ideal) A.pa A.ps A.pp A.pg A.w A.sc (ix2 l c) = dmod A l c := by
  unfold val_main_v53 val_main_v52 val_main_v30 val_main_v29 val_main_cst_4 dmod
  pointwise [ref_dh]

/-- The cotangent of the normalised row. -/
theorem ref_dn (l : Fin 4096) (c : Fin 1024) :
    val_main_v58 (F := Ideal) A.pa A.ps A.pp A.pg A.w A.g A.sc (ix2 l c) = dn A l c := by
  unfold val_main_v58 val_main_v57 dn
  pointwise [ref_dmod]

/-- What reaches a row through the inverse root. -/
theorem ref_viaRoot (l : Fin 4096) (c : Fin 1024) :
    val_main_v69 (F := Ideal) A.pa A.ps A.pp A.pg A.w A.x A.g A.sc (ix2 l c) = viaRoot (row A l) (dn A l) := by
  unfold val_main_v69 val_main_v68 val_main_cst_10 val_main_v67 val_main_v66 val_main_cst_9 val_main_v65 val_main_v24 val_main_v23 val_main_cst_3 val_main_v22
    val_main_v61 val_main_v60 val_main_cst_8 val_main_v59 viaRoot row
  pointwise [ref_dn]
  rw [Fin.sum_univ_one, ref_meanSq, ref_rstd]
  rfl

/-- THE FIRST RESULT: the gradient at the layer's input. -/
theorem ref_dx (l : Fin 4096) (c : Fin 1024) :
    val_main_v73 (F := Ideal) A.pa A.ps A.pp A.pg A.w A.x A.dres A.g A.sc (ix2 l c) = dx A l c := by
  unfold val_main_v73 val_main_v72 val_main_v71 val_main_v70 val_main_v64 val_main_v63 val_main_v62 dx
  rw [← row_grad]
  pointwise [ref_viaRoot, ref_dn, ref_rstd]
  rfl

/-- THE SECOND RESULT: the gradients at the shift, the modulation and the norm's weight. -/
theorem ref_sums (q : Fin 8) (c : Fin 1024) :
    val_main_v75 (F := Ideal) A.pa A.ps A.pp A.pg A.w A.x A.g A.sc (ix2 q c) = sums A q c := by
  unfold val_main_v75 val_main_v74 val_main_cst_11 val_main_v56 val_main_v55 val_main_cst_7 val_main_v54 val_main_v51 val_main_v50 val_main_cst_6 val_main_v49
    val_main_v28 val_main_v27 val_main_v48 val_main_v47 val_main_cst_5 sums rowTerm
  pointwise [ref_dh, ref_dmod, ref_nrm]
  fin_cases q <;> simp [mul_comm]

end Cert.Norm

end
-- ==== Proof.Norm.Claim.lean ====
/- The claims of the gradient of the norm and the projection: the kernel's run and the reference's run end with equal results. -/
module

public import proofs.«01_k».proof.Defs
public import proofs.«01_k».proof.Proof.Gen.ReferenceIdeal.Run
public import proofs.«01_k».proof.Proof.Ext.Index
public import proofs.«01_k».proof.Proof.Norm.Point
public import proofs.«01_k».proof.Proof.Norm.Reference
public import Idealize.ShloMosaic.Lib.Quiescent

@[expose] public section

noncomputable section

namespace Cert.Norm

open Idealize.ShloMosaic Idealize.ShloMosaic.TcCoe Idealize.SL.Sem

/-- The reference runs, keeps its arguments, and every counter ends at zero. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From equal arguments the kernel and the reference end with equal gradients, as extended reals. -/
theorem algebraic : Cert.algebraic_KernelIdeal_ReferenceIdeal := by
  intro m ρ m' ρ' _ hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v73_eq, h0, h1, h2, h3, h4, h5, h6, h7, h8, final_dx]
    exact Ext.matrix_ext (ref_dx (args m c))
  · obtain ⟨h0, h1, h2, h3, h4, h5, h6, h7, h8⟩ := hagree c
    rw [Cert.ReferenceIdeal.Read.val_main_v75_eq, h0, h1, h2, h3, h4, h5, h7, h8, final_sums]
    exact Ext.matrix_ext (ref_sums (args m c))

end Cert.Norm

end
-- ==== Proof.Weight.Spec.lean ====
/- The gradient at the projection's weight in closed form, entry by entry, over the extended reals. -/
module

public import Idealize.ShloMosaic.Lib.Pointwise
public import Idealize.ShloMosaic.PureOps.Ideal.Laws

@[expose] public section

noncomputable section

namespace Cert.Weight

open Idealize.ShloMosaic

/-- A matrix of extended reals. -/
abbrev Mat (a b : Nat) := (⟨2, ![a, b]⟩ : Shape).Idx → EReal

/-- The arrays the gradient is taken of: the modulated rows, and the cotangents of the four groups of columns. -/
structure Args where
  h : Mat 4096 1024
  pa : Mat 4096 1280
  ps : Mat 4096 1024
  pp : Mat 4096 1024
  pg : Mat 4096 3072

variable (A : Args)

/-- The cotangent of the projection's column `p`, at row `l`: each run of columns lies in one of the groups. -/
def col (l : Fin 4096) (p : Fin 6400) : EReal :=
  if h1 : p.val < 512 then A.pa (ix2 l ⟨p.val, by omega⟩)
  else if h2 : p.val < 768 then A.pa (ix2 l ⟨p.val + 512, by omega⟩)
  else if h3 : p.val < 1280 then A.ps (ix2 l ⟨p.val - 768, by omega⟩)
  else if h4 : p.val < 1792 then A.pp (ix2 l ⟨p.val - 1280, by omega⟩)
  else if h5 : p.val < 2304 then A.pa (ix2 l ⟨p.val - 1280, by omega⟩)
  else if h6 : p.val < 2816 then A.ps (ix2 l ⟨p.val - 1792, by omega⟩)
  else if h7 : p.val < 3328 then A.pp (ix2 l ⟨p.val - 2304, by omega⟩)
  else A.pg (ix2 l ⟨p.val - 3328, by omega⟩)

/-- The gradient at the weight's entry in row `r` and column `p`. -/
def dw (r : Fin 1024) (p : Fin 6400) : EReal := ∑ l : Fin 4096, A.h (ix2 l r) * col A l p

/-- The column of the weight that entry `k` of the shard at `(a, b)` holds: 800 columns to a shard, shard `2 b + a`. -/
abbrev shardCol (a : Fin 2) (b : Fin 4) (k : Fin 800) : Fin 6400 := ⟨(2 * b.val + a.val) * 800 + k.val, by omega⟩

/-- The gradient at the weight, laid out by shards. -/
def shards (a : Fin 2) (b : Fin 4) (r : Fin 1024) (k : Fin 800) : EReal := dw A r (shardCol a b k)

/-- What one group's products come to: the rows against the group's columns. -/
def acc {n : Nat} (d : Mat 4096 n) (r : Fin 1024) (j : Fin n) : EReal := ∑ l : Fin 4096, A.h (ix2 l r) * d (ix2 l j)

end Cert.Weight

end
-- ==== Proof.Weight.Point.lean ====
/- What a grid point leaves in the kernel's four accumulators and in its output window, at an index: the closed form of Spec.lean. -/
module

public import proofs.«01_k».proof.Proof.Gen.Kernel2Ideal.Value
public import proofs.«01_k».proof.Proof.Weight.Spec
public import Idealize.ShloMosaic.Lib.Pipeline.ReadBack
public import Idealize.ShloMosaic.Lib.Pipeline.ValueKit
public import Idealize.ShloMosaic.Lib.Pointwise
public import Idealize.ShloMosaic.Lib.WritesUnit

@[expose] public section

set_option maxRecDepth 16384

noncomputable section

namespace Cert.Weight

open Idealize.ShloMosaic Idealize.ShloMosaic.TcCoe Cert.Kernel2Ideal Cert.Kernel2Ideal.Gen

variable (m : (ℓ : Loc nD τ sig) → Buf (Elt Ideal) ℓ) (c : Dev nD)

/-- The gradient's arrays, as the kernel's arguments hold them. -/
def args : Args where
  h := m ((c : Thread nD τ).loc main_arg0)
  pa := m ((c : Thread nD τ).loc main_arg1)
  ps := m ((c : Thread nD τ).loc main_arg2)
  pp := m ((c : Thread nD τ).loc main_arg3)
  pg := m ((c : Thread nD τ).loc main_arg4)

/-- Row `r` of the token block of point `t`: the points run over eight token blocks twice. -/
abbrev tok (t : Fin cfg0.N) (r : Fin 512) : Fin 4096 := ⟨t.val % 8 * 512 + r.val, by omega⟩

/-- Row `r` of the weight's block of point `t`: eight points to each half of the rows. -/
abbrev half (t : Fin cfg0.N) (r : Fin 512) : Fin 1024 := ⟨512 * (t.val / 8) + r.val, by have := t.isLt; have : cfg0.N = 16 := N_0; omega⟩

/-- Where each window's block lies at a grid point. -/
theorem index : ∀ t : Fin cfg0.N, win0_0.index t = ![t.val % 8, t.val / 8] ∧ win0_1.index t = ![t.val % 8, 0] ∧ win0_2.index t = ![t.val % 8, 0] ∧
    win0_3.index t = ![t.val % 8, 0] ∧ win0_4.index t = ![t.val % 8, 0] ∧ win0_5.index t = ![0, 0, t.val / 8, 0] :=
  (by decide +kernel : ∀ t : Fin grid0.N, win0_0.index t = ![t.val % 8, t.val / 8] ∧ win0_1.index t = ![t.val % 8, 0] ∧ win0_2.index t = ![t.val % 8, 0] ∧
    win0_3.index t = ![t.val % 8, 0] ∧ win0_4.index t = ![t.val % 8, 0] ∧ win0_5.index t = ![0, 0, t.val / 8, 0])

theorem blk_h (t : Fin cfg0.N) (l r : Fin 512) : iblk m c 0 t (ix2 l r) = (args m c).h (ix2 (tok t l) (half t r)) := by
  unfold args
  blk_ext [iblk, V_main_arg0, index t]

theorem blk_pa (t : Fin cfg0.N) (l : Fin 512) (k : Fin 1280) : iblk m c 1 t (ix2 l k) = (args m c).pa (ix2 (tok t l) k) := by
  unfold args
  blk_ext [iblk, V_main_arg1, index t]

theorem blk_ps (t : Fin cfg0.N) (l : Fin 512) (k : Fin 1024) : iblk m c 2 t (ix2 l k) = (args m c).ps (ix2 (tok t l) k) := by
  unfold args
  blk_ext [iblk, V_main_arg2, index t]

theorem blk_pp (t : Fin cfg0.N) (l : Fin 512) (k : Fin 1024) : iblk m c 3 t (ix2 l k) = (args m c).pp (ix2 (tok t l) k) := by
  unfold args
  blk_ext [iblk, V_main_arg3, index t]

theorem blk_pg (t : Fin cfg0.N) (l : Fin 512) (k : Fin 3072) : iblk m c 4 t (ix2 l k) = (args m c).pg (ix2 (tok t l) k) := by
  unfold args
  blk_ext [iblk, V_main_arg4, index t]

/-- What point `t` adds to an accumulator. -/
def term {n : Nat} (d : Mat 4096 n) (t : Fin cfg0.N) (i : (⟨2, ![512, n]⟩ : Shape).Idx) : EReal :=
  ∑ l : Fin 512, (args m c).h (ix2 (tok t l) (half t (i 0))) * d (ix2 (tok t l) (i 1))

/-- An accumulator's new contents: its old ones and the point's products. -/
theorem pay_pa (t : Fin cfg0.N) (P : Vec Ideal S512x1280 .f32) (i : S512x1280.Idx) :
    k0_pay14 (iblk m c 0 t) P (iblk m c 1 t) i = P i + term m c (args m c).pa t i := by
  obtain ⟨r, k, rfl⟩ : ∃ (r : Fin 512) (k : Fin 1280), i = ix2 r k := ⟨i 0, i 1, by funext a; fin_cases a <;> rfl⟩
  unfold k0_pay14 term
  pointwise [blk_h m c t, blk_pa m c t]

theorem pay_ps (t : Fin cfg0.N) (P : Vec Ideal S512x1024 .f32) (i : S512x1024.Idx) :
    k0_pay19 (iblk m c 0 t) P (iblk m c 2 t) i = P i + term m c (args m c).ps t i := by
  obtain ⟨r, k, rfl⟩ : ∃ (r : Fin 512) (k : Fin 1024), i = ix2 r k := ⟨i 0, i 1, by funext a; fin_cases a <;> rfl⟩
  unfold k0_pay19 term
  pointwise [blk_h m c t, blk_ps m c t]

theorem pay_pp (t : Fin cfg0.N) (P : Vec Ideal S512x1024 .f32) (i : S512x1024.Idx) :
    k0_pay2 (iblk m c 0 t) P (iblk m c 3 t) i = P i + term m c (args m c).pp t i := by
  obtain ⟨r, k, rfl⟩ : ∃ (r : Fin 512) (k : Fin 1024), i = ix2 r k := ⟨i 0, i 1, by funext a; fin_cases a <;> rfl⟩
  unfold k0_pay2 term
  pointwise [blk_h m c t, blk_pp m c t]

theorem pay_pg (t : Fin cfg0.N) (P : Vec Ideal S512x3072 .f32) (i : S512x3072.Idx) :
    k0_pay8 (iblk m c 0 t) P (iblk m c 4 t) i = P i + term m c (args m c).pg t i := by
  obtain ⟨r, k, rfl⟩ : ∃ (r : Fin 512) (k : Fin 3072), i = ix2 r k := ⟨i 0, i 1, by funext a; fin_cases a <;> rfl⟩
  unfold k0_pay8 term
  pointwise [blk_h m c t, blk_pg m c t]

/-- The accumulators after a half's first point. -/
theorem first (t : Fin cfg0.N) (h0 : t.val % 8 = 0) :
    (∀ i, (outsAt0 m c t.val t.isLt).2.1 i = 0 + term m c (args m c).pa t i) ∧
    (∀ i, (outsAt0 m c t.val t.isLt).2.2.1 i = 0 + term m c (args m c).ps t i) ∧
    (∀ i, (outsAt0 m c t.val t.isLt).2.2.2.1 i = 0 + term m c (args m c).pp t i) ∧
    (∀ i, (outsAt0 m c t.val t.isLt).2.2.2.2 i = 0 + term m c (args m c).pg t i) := by
  have h1 : ¬t.val % 8 = 7 := by omega
  rw [outsAt0_A m c t h0 h1 h0 h1 h0 h1 h0 h1]
  frame_out
  refine ⟨fun i => (pay_pa m c t _ i).trans (congrArg (· + _) ?_), fun i => (pay_ps m c t _ i).trans (congrArg (· + _) ?_),
    fun i => (pay_pp m c t _ i).trans (congrArg (· + _) ?_), fun i => (pay_pg m c t _ i).trans (congrArg (· + _) ?_)⟩
  · unfold k0_pay13
    pointwise
  · unfold k0_pay18
    pointwise
  · unfold k0_pay1
    pointwise
  · unfold k0_pay7
    pointwise

/-- The accumulators after a further point. -/
theorem next (t : Fin cfg0.N) (h0 : ¬t.val % 8 = 0) :
    (∀ i, (outsAt0 m c t.val t.isLt).2.1 i = (outsAt0 m c (t.val - 1) (Nat.lt_of_le_of_lt (Nat.sub_le _ _) t.isLt)).2.1 i + term m c (args m c).pa t i) ∧
    (∀ i, (outsAt0 m c t.val t.isLt).2.2.1 i = (outsAt0 m c (t.val - 1) (Nat.lt_of_le_of_lt (Nat.sub_le _ _) t.isLt)).2.2.1 i + term m c (args m c).ps t i) ∧
    (∀ i, (outsAt0 m c t.val t.isLt).2.2.2.1 i = (outsAt0 m c (t.val - 1) (Nat.lt_of_le_of_lt (Nat.sub_le _ _) t.isLt)).2.2.2.1 i + term m c (args m c).pp t i) ∧
    (∀ i, (outsAt0 m c t.val t.isLt).2.2.2.2 i = (outsAt0 m c (t.val - 1) (Nat.lt_of_le_of_lt (Nat.sub_le _ _) t.isLt)).2.2.2.2 i + term m c (args m c).pg t i) := by
  by_cases h1 : t.val % 8 = 7
  · rw [outsAt0_C m c t h0 h1 h0 h1 h0 h1 h0 h1]
    frame_out
    exact ⟨fun i => (pay_pa m c t _ i).trans (congrArg (· + _) (congrFun (Memref.IsWhole.read_unread _ _) i)),
      fun i => (pay_ps m c t _ i).trans (congrArg (· + _) (congrFun (Memref.IsWhole.read_unread _ _) i)),
      fun i => (pay_pp m c t _ i).trans (congrArg (· + _) (congrFun (Memref.IsWhole.read_unread _ _) i)),
      fun i => (pay_pg m c t _ i).trans (congrArg (· + _) (congrFun (Memref.IsWhole.read_unread _ _) i))⟩
  · rw [outsAt0_B m c t h0 h1 h0 h1 h0 h1 h0 h1]
    frame_out
    exact ⟨fun i => (pay_pa m c t _ i).trans (congrArg (· + _) (congrFun (Memref.IsWhole.read_unread _ _) i)),
      fun i => (pay_ps m c t _ i).trans (congrArg (· + _) (congrFun (Memref.IsWhole.read_unread _ _) i)),
      fun i => (pay_pp m c t _ i).trans (congrArg (· + _) (congrFun (Memref.IsWhole.read_unread _ _) i)),
      fun i => (pay_pg m c t _ i).trans (congrArg (· + _) (congrFun (Memref.IsWhole.read_unread _ _) i))⟩

/-- A half's eight points, summed: all the token rows. -/
theorem sum_points {n : Nat} (d : Mat 4096 n) (t : Fin cfg0.N) (i : (⟨2, ![512, n]⟩ : Shape).Idx) (hs : ∀ s : Fin 8, 8 * (t.val / 8) + s.val < cfg0.N) :
    (0 : EReal) + ∑ s : Fin 8, term m c d ⟨8 * (t.val / 8) + s.val, hs s⟩ i = acc (args m c) d (half t (i 0)) (i 1) := by
  unfold acc term
  rw [zero_add]
  refine (Fin.sum_points_lanes_congr 8 (A := 1) (L := 4096) (g := fun _ l => (args m c).h (ix2 l (half t (i 0))) * d (ix2 l (i 1)))
    (fun s l ha hl => ?_) rfl rfl).trans (Fin.sum_univ_one _)
  have e : tok ⟨8 * (t.val / 8) + s.val, hs s⟩ l = ⟨s.val % 8 * 512 + l.val, hl⟩ := Fin.ext (by dsimp only; omega)
  have e' : half ⟨8 * (t.val / 8) + s.val, hs s⟩ (i 0) = half t (i 0) := Fin.ext (by dsimp only; omega)
  rw [e, e']

/-- The accumulators after a half's last point. -/
theorem full (t : Fin cfg0.N) (h7 : t.val % 8 = 7) :
    (∀ i, (outsAt0 m c t.val t.isLt).2.1 i = acc (args m c) (args m c).pa (half t (i 0)) (i 1)) ∧
    (∀ i, (outsAt0 m c t.val t.isLt).2.2.1 i = acc (args m c) (args m c).ps (half t (i 0)) (i 1)) ∧
    (∀ i, (outsAt0 m c t.val t.isLt).2.2.2.1 i = acc (args m c) (args m c).pp (half t (i 0)) (i 1)) ∧
    (∀ i, (outsAt0 m c t.val t.isLt).2.2.2.2 i = acc (args m c) (args m c).pg (half t (i 0)) (i 1)) :=
  ⟨fun i => (Pipeline.eq_sum_fin_of_reset_step_apply_of_flush (fun n h => (outsAt0 m c n h).2.1) 8 (fun _ => 0) (term m c (args m c).pa)
      (fun t h => (first m c t h).1) (fun t h => (next m c t h).1) t h7 i).trans (sum_points m c _ t i _),
    fun i => (Pipeline.eq_sum_fin_of_reset_step_apply_of_flush (fun n h => (outsAt0 m c n h).2.2.1) 8 (fun _ => 0) (term m c (args m c).ps)
      (fun t h => (first m c t h).2.1) (fun t h => (next m c t h).2.1) t h7 i).trans (sum_points m c _ t i _),
    fun i => (Pipeline.eq_sum_fin_of_reset_step_apply_of_flush (fun n h => (outsAt0 m c n h).2.2.2.1) 8 (fun _ => 0) (term m c (args m c).pp)
      (fun t h => (first m c t h).2.2.1) (fun t h => (next m c t h).2.2.1) t h7 i).trans (sum_points m c _ t i _),
    fun i => (Pipeline.eq_sum_fin_of_reset_step_apply_of_flush (fun n h => (outsAt0 m c n h).2.2.2.2) 8 (fun _ => 0) (term m c (args m c).pg)
      (fun t h => (first m c t h).2.2.2) (fun t h => (next m c t h).2.2.2) t h7 i).trans (sum_points m c _ t i _)⟩

/-- An accumulator's entry is the gradient's, where its column is the projection's. -/
theorem acc_eq (A : Args) {n : Nat} {d : Mat 4096 n} (t : Fin cfg0.N) {r r' : Fin 512} {j : Fin n} {p : Fin 6400} (hr : r.val = r'.val)
    (hc : ∀ l, d (ix2 l j) = col A l p) : acc A d (half t r) j = dw A (half t r') p := by
  obtain rfl := Fin.ext hr
  exact Finset.sum_congr rfl fun l _ => congrArg (A.h (ix2 l (half t r)) * ·) (hc l)

/-- What a half's last point leaves in the block of the result. -/
theorem last (t : Fin cfg0.N) (h7 : t.val % 8 = 7) (a : Fin 2) (b : Fin 4) (r : Fin 512) (k : Fin 800) :
    (outsAt0 m c t.val t.isLt).1 (ix4 a b r k) = shards (args m c) a b (half t r) k := by
  have h0 : ¬t.val % 8 = 0 := by omega
  have e := full m c t h7
  revert e
  rw [outsAt0_C m c t h0 h7 h0 h7 h0 h7 h0 h7]
  frame_open
  simp (disch := decide) only [↓ View.readCov_skip, ↓ View.readCov_cons_toLoadRect, ↓ View.readCov_fill]
  frame_out
  generalize k0_pay14 (iblk m c 0 t) _ (iblk m c 1 t) = X1
  generalize k0_pay19 (iblk m c 0 t) _ (iblk m c 2 t) = X2
  generalize k0_pay2 (iblk m c 0 t) _ (iblk m c 3 t) = X3
  generalize k0_pay8 (iblk m c 0 t) _ (iblk m c 4 t) = X4
  rintro ⟨e1, e2, e3, e4⟩
  canon_tiles x h using (View.cover_of_tiledBy _ ![1, 1, 512, 32] (by sl_kernel_rfl) _)
  all_goals
    have ex : x = ix4 (x 0) (x 1) (x 2) (x 3) := by funext a; fin_cases a <;> rfl
    rw [ex]
    open_payloads
    pointwise [e1, e2, e3, e4]
    replace h0 : a.val = _ := h0
    replace h1 : b.val = _ := h1
    replace h2 : r.val = _ := h2
    replace h3 : k.val = _ := h3
    refine acc_eq _ t h2.symm fun l => ?_
    unfold col
    dsimp only
    simp (disch := omega) only [dif_pos, dif_neg]
    exact congrArg _ (congrArg (ix2 l) (Fin.ext (by dsimp only; omega)))

/-- The gradient at the weight, after the run. -/
theorem final : (dats m 0 c).arrAt 5 cfg0.N = fun i => shards (args m c) (i 0) (i 1) (i 2) (i 3) := by
  refine (dats m 0 c).arrAt_eq_of_covers 5 _ (by decide +kernel) fun t hf y => ?_
  have h7 : t.val % 8 = 7 := (by decide +kernel : ∀ t : Fin grid0.N, win0_5.flush t = true → t.val % 8 = 7) t hf
  blk_simp [index t]
  rw [after0_5]
  obtain ⟨a, b, r, k, rfl⟩ : ∃ (a : Fin 2) (b : Fin 4) (r : Fin 512) (k : Fin 800), y = ix4 a b r k := ⟨y 0, y 1, y 2, y 3, by funext a; fin_cases a <;> rfl⟩
  rw [last m c t h7]
  have e0 : ((win0_5.blk t).view.emb (ix4 a b r k) 0) = a := by
    apply Fin.ext
    blk_simp [index t]
  have e1 : ((win0_5.blk t).view.emb (ix4 a b r k) 1) = b := by
    apply Fin.ext
    blk_simp [index t]
  have e2 : ((win0_5.blk t).view.emb (ix4 a b r k) 2) = half t r := by
    apply Fin.ext
    blk_simp [index t]
    simp [mul_comm]
  have e3 : ((win0_5.blk t).view.emb (ix4 a b r k) 3) = k := by
    apply Fin.ext
    blk_simp [index t]
  rw [e0, e1, e2, e3]

end Cert.Weight

end
-- ==== Proof.Weight.Reference.lean ====
/- The reference's result at an index: the closed form of Spec.lean. -/
module

public import proofs.«01_k».proof.Proof.Gen.Reference2Ideal.Read
public import proofs.«01_k».proof.Proof.Weight.Spec

@[expose] public section

set_option maxRecDepth 16384

noncomputable section

namespace Cert.Weight

open Idealize.ShloMosaic Cert.Reference2Ideal Cert.Reference2Ideal.Read

variable (A : Args)

/-- The cotangents in the projection's order of columns. -/
theorem ref_col (l : Fin 4096) (p : Fin 6400) :
    val_main_v24 (F := Ideal) A.pa A.ps A.pp A.pg (ix2 l p) = col A l p := by
  unfold val_main_v24 val_main_v23 val_main_v22 val_main_v21 val_main_v20 val_main_v19 val_main_v18 val_main_v17 val_main_v16 val_main_v15 val_main_v14
    val_main_v13 val_main_v12
  pointwise
  unfold col
  have h : p.val < 512 ∨ 512 ≤ p.val ∧ p.val < 640 ∨ 640 ≤ p.val ∧ p.val < 768 ∨ 768 ≤ p.val ∧ p.val < 1280 ∨ 1280 ≤ p.val ∧ p.val < 1792
      ∨ 1792 ≤ p.val ∧ p.val < 2304 ∨ 2304 ≤ p.val ∧ p.val < 2816 ∨ 2816 ≤ p.val ∧ p.val < 3328 ∨ 3328 ≤ p.val := by omega
  rcases h with h | h | h | h | h | h | h | h | h <;> simp (disch := omega) only [dif_pos, dif_neg] <;>
    exact congrArg _ (congrArg (ix2 l) (Fin.ext (by dsimp only; omega)))

/-- THE RESULT: the gradient at the weight, by shards. -/
theorem ref_shards (a : Fin 2) (b : Fin 4) (r : Fin 1024) (k : Fin 800) :
    val_main_v29 (F := Ideal) A.h A.pa A.ps A.pp A.pg (ix4 a b r k) = shards A a b r k := by
  unfold val_main_v29 val_main_v28 val_main_v27 val_main_v26 val_main_v25 val_main_v1
  pointwise [ref_col]
  unfold shards dw
  refine Finset.sum_congr rfl fun l _ => ?_
  rw [mul_comm]
  exact congrArg (fun p => A.h (ix2 l r) * col A l p) (Fin.ext (by dsimp only; omega))

end Cert.Weight

end
-- ==== Proof.Weight.Claim.lean ====
/- The claims of the gradient at the projection's weight: the kernel's run and the reference's run end with equal results. -/
module

public import proofs.«01_k».proof.Defs
public import proofs.«01_k».proof.Proof.Gen.Reference2Ideal.Run
public import proofs.«01_k».proof.Proof.Ext.Index
public import proofs.«01_k».proof.Proof.Weight.Point
public import proofs.«01_k».proof.Proof.Weight.Reference
public import Idealize.ShloMosaic.Lib.Quiescent

@[expose] public section

noncomputable section

namespace Cert.Weight

open Idealize.ShloMosaic Idealize.ShloMosaic.TcCoe Idealize.SL.Sem

/-- The reference runs, keeps its arguments, and every counter ends at zero. -/
theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the kernel and the reference end with equal gradients, as extended reals. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4⟩ := hagree c
  rw [Cert.Reference2Ideal.Read.val_main_v29_eq, h0, h1, h2, h3, h4, final]
  exact Ext.block_ext (ref_shards (args m c))

end Cert.Weight

end
-- ==== Proof.Proj.Spec.lean ====
/- The projection of a normalised and modulated row into the branches' inputs, in closed form. -/
module

public import proofs.«01_k».proof.Proof.Norm.Spec

@[expose] public section

noncomputable section

namespace Cert.Proj

open Idealize.ShloMosaic Cert.Norm

/-- The projection's arrays: the input, the norm's weight, the shift, the modulation and the weight. -/
structure Args where
  x : Mat 4096 1024
  g : Mat 1 1024
  sh : Mat 1 1024
  sc : Mat 1 1024
  w : Mat 1024 6400

variable (A : Args)

/-- The normalised row, modulated and shifted. -/
def h (l : Fin 4096) (c : Fin 1024) : EReal :=
  A.x (ix2 l c) * rstd (fun k => A.x (ix2 l k)) * A.g (ix2 0 c) * (1 + A.sc (ix2 0 c)) + A.sh (ix2 0 c)

/-- Its product with column `p` of the weight. -/
def proj (l : Fin 4096) (p : Fin 6400) : EReal := ∑ c : Fin 1024, h A l c * A.w (ix2 c p)

/-- The weight's column behind column `j` of the attention's group: queries, gate, keys and values. -/
def colA (j : Fin 1280) : Fin 6400 :=
  if j.val < 512 then ⟨j.val, by omega⟩ else if j.val < 1024 then ⟨1280 + j.val, by omega⟩ else ⟨j.val - 512, by omega⟩

/-- The weight's column behind column `j` of the recurrence's group: input and gate. -/
def colS (j : Fin 1024) : Fin 6400 := if j.val < 512 then ⟨768 + j.val, by omega⟩ else ⟨1792 + j.val, by omega⟩

/-- The weight's column behind column `j` of the pooling's group: input and gate. -/
def colP (j : Fin 1024) : Fin 6400 := if j.val < 512 then ⟨1280 + j.val, by omega⟩ else ⟨2304 + j.val, by omega⟩

/-- The weight's column behind column `j` of the merge's gates. -/
def colG (j : Fin 3072) : Fin 6400 := ⟨3328 + j.val, by omega⟩

end Cert.Proj

end
-- ==== Proof.Proj.Point.lean ====
/- What a grid point leaves in the kernel's five output windows, at an index: the closed form of Spec.lean. -/
module

public import proofs.«01_k».proof.Proof.Gen.Kernel3Ideal.Value
public import proofs.«01_k».proof.Proof.Proj.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Cert.Norm Cert.Kernel3Ideal Cert.Kernel3Ideal.Gen

variable (m : (ℓ : Loc nD τ sig) → Buf (Elt Ideal) ℓ) (c : Dev nD)

/-- The projection's arrays, as the kernel's arguments hold them. -/
def args : Args where
  x := m ((c : Thread nD τ).loc main_arg0)
  g := m ((c : Thread nD τ).loc main_arg1)
  sh := m ((c : Thread nD τ).loc main_arg2)
  sc := m ((c : Thread nD τ).loc main_arg3)
  w := m ((c : Thread nD τ).loc main_arg4)

/-- Row `r` of point `t`'s block. -/
abbrev at512 (t : Fin cfg0.N) (r : Fin 512) : Fin 4096 := ⟨512 * t.val + r.val, by have := t.isLt; have : cfg0.N = 8 := N_0; omega⟩

/-- Where each window's block lies at a grid point. -/
theorem index : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0])

theorem blk_x (t : Fin cfg0.N) (r : Fin 512) (k : Fin 1024) : iblk m c 0 t (ix2 r k) = (args m c).x (ix2 (at512 t r) k) := by
  unfold args
  blk_ext [iblk, V_main_arg0, index t]

theorem blk_g (t : Fin cfg0.N) (k : Fin 1024) : iblk m c 1 t (ix2 0 k) = (args m c).g (ix2 0 k) := by
  unfold args
  blk_ext [iblk, V_main_arg1, index t]

theorem blk_sh (t : Fin cfg0.N) (k : Fin 1024) : iblk m c 2 t (ix2 0 k) = (args m c).sh (ix2 0 k) := by
  unfold args
  blk_ext [iblk, V_main_arg2, index t]

theorem blk_sc (t : Fin cfg0.N) (k : Fin 1024) : iblk m c 3 t (ix2 0 k) = (args m c).sc (ix2 0 k) := by
  unfold args
  blk_ext [iblk, V_main_arg3, index t]

theorem blk_w (t : Fin cfg0.N) (r : Fin 1024) (p : Fin 6400) : iblk m c 4 t (ix2 r p) = (args m c).w (ix2 r p) := by
  unfold args
  blk_ext [iblk, V_main_arg4, index t]

/-- A point's modulated rows. -/
theorem pt_h (t : Fin cfg0.N) (r : Fin 512) (k : Fin 1024) :
    k0_pay1 (iblk m c 0 t) (iblk m c 1 t) (iblk m c 3 t) (iblk m c 2 t) (ix2 r k) = h (args m c) (at512 t r) k := by
  unfold k0_pay1
  pointwise [blk_x m c t, blk_g m c t, blk_sh m c t, blk_sc m c t]
  unfold h rstd meanSq
  rfl

/-- A product entry is the projection's at the column behind it. -/
theorem proj_congr (A : Args) (l : Fin 4096) {p q : Fin 6400} (e : p.val = q.val) : ∑ k : Fin 1024, h A l k * A.w (ix2 k p) = proj A l q := by
  obtain rfl := Fin.ext e
  rfl

/-- What a point leaves of the modulated rows. -/
theorem pt_rows (t : Fin cfg0.N) (r : Fin 512) (k : Fin 1024) : (outsAt0 m c t).1 (ix2 r k) = h (args m c) (at512 t r) k := by
  unfold outsAt0
  frame_out
  exact pt_h m c t r k

/-- What a point leaves of the merge's gates. -/
theorem pt_g (t : Fin cfg0.N) (r : Fin 512) (k : Fin 3072) : (outsAt0 m c t).2.2.2.2 (ix2 r k) = proj (args m c) (at512 t r) (colG k) := by
  unfold outsAt0
  frame_out
  unfold k0_pay9
  pointwise [pt_h m c t, blk_w m c t]
  rfl

/-- What a point leaves of the attention's group. -/
theorem pt_a (t : Fin cfg0.N) (r : Fin 512) (k : Fin 1280) : (outsAt0 m c t).2.1 (ix2 r k) = proj (args m c) (at512 t r) (colA k) := by
  unfold outsAt0
  frame_out
  canon_tiles x e using (View.cover_of_tiledBy _ ![512, 256] (by sl_kernel_rfl) _)
  all_goals
    have ex : x = ix2 (x 0) (x 1) := by funext a; fin_cases a <;> rfl
    rw [ex]
    first | unfold k0_pay2 | unfold k0_pay3 | unfold k0_pay4
    pointwise [pt_h m c t, blk_w m c t]
    replace e0 : r.val = _ := e0
    replace e1 : k.val = _ := e1
    obtain rfl := Fin.ext e0
    refine proj_congr _ _ ?_
    unfold colA
    dsimp only
    split_ifs <;> dsimp only <;> omega

/-- What a point leaves of the recurrence's group. -/
theorem pt_s (t : Fin cfg0.N) (r : Fin 512) (k : Fin 1024) : (outsAt0 m c t).2.2.1 (ix2 r k) = proj (args m c) (at512 t r) (colS k) := by
  unfold outsAt0
  frame_out
  canon_tiles x e using (View.cover_of_tiledBy _ ![512, 512] (by sl_kernel_rfl) _)
  all_goals
    have ex : x = ix2 (x 0) (x 1) := by funext a; fin_cases a <;> rfl
    rw [ex]
    first | unfold k0_pay5 | unfold k0_pay6 | unfold k0_pay7 | unfold k0_pay8
    pointwise [pt_h m c t, blk_w m c t]
    replace e0 : r.val = _ := e0
    replace e1 : k.val = _ := e1
    obtain rfl := Fin.ext e0
    refine proj_congr _ _ ?_
    unfold colS
    dsimp only
    split_ifs <;> dsimp only <;> omega

/-- What a point leaves of the pooling's group. -/
theorem pt_p (t : Fin cfg0.N) (r : Fin 512) (k : Fin 1024) : (outsAt0 m c t).2.2.2.1 (ix2 r k) = proj (args m c) (at512 t r) (colP k) := by
  unfold outsAt0
  frame_out
  canon_tiles x e using (View.cover_of_tiledBy _ ![512, 512] (by sl_kernel_rfl) _)
  all_goals
    have ex : x = ix2 (x 0) (x 1) := by funext a; fin_cases a <;> rfl
    rw [ex]
    first | unfold k0_pay5 | unfold k0_pay6 | unfold k0_pay7 | unfold k0_pay8
    pointwise [pt_h m c t, blk_w m c t]
    replace e0 : r.val = _ := e0
    replace e1 : k.val = _ := e1
    obtain rfl := Fin.ext e0
    refine proj_congr _ _ ?_
    unfold colP
    dsimp only
    split_ifs <;> dsimp only <;> omega

/-- The modulated rows, after the run. -/
theorem final_rows : (dats m 0 c).arrAt 5 cfg0.N = fun i => h (args m c) (i 0) (i 1) := by
  refine (dats m 0 c).arrAt_eq_of_covers 5 _ (by decide +kernel) fun t hf y => ?_
  blk_simp [index t]
  rw [after0_5]
  obtain ⟨r, k, rfl⟩ : ∃ (r : Fin 512) (k : Fin 1024), y = ix2 r k := ⟨y 0, y 1, by funext a; fin_cases a <;> rfl⟩
  have e0 : ((win0_5.blk t).view.emb (ix2 r k) 0) = at512 t r := by
    apply Fin.ext
    blk_simp [index t]
    simp [mul_comm]
  have e1 : ((win0_5.blk t).view.emb (ix2 r k) 1) = k := by
    apply Fin.ext
    blk_simp [index t]
  rw [e0, e1]
  exact pt_rows m c t r k

/-- The attention's group of columns, after the run. -/
theorem final_a : (dats m 0 c).arrAt 6 cfg0.N = fun i => proj (args m c) (i 0) (colA (i 1)) := by
  refine (dats m 0 c).arrAt_eq_of_covers 6 _ (by decide +kernel) fun t hf y => ?_
  blk_simp [index t]
  rw [after0_6]
  obtain ⟨r, k, rfl⟩ : ∃ (r : Fin 512) (k : Fin 1280), y = ix2 r k := ⟨y 0, y 1, by funext a; fin_cases a <;> rfl⟩
  have e0 : ((win0_6.blk t).view.emb (ix2 r k) 0) = at512 t r := by
    apply Fin.ext
    blk_simp [index t]
    simp [mul_comm]
  have e1 : ((win0_6.blk t).view.emb (ix2 r k) 1) = k := by
    apply Fin.ext
    blk_simp [index t]
  rw [e0, e1]
  exact pt_a m c t r k

/-- The recurrence's group of columns, after the run. -/
theorem final_s : (dats m 0 c).arrAt 7 cfg0.N = fun i => proj (args m c) (i 0) (colS (i 1)) := by
  refine (dats m 0 c).arrAt_eq_of_covers 7 _ (by decide +kernel) fun t hf y => ?_
  blk_simp [index t]
  rw [after0_7]
  obtain ⟨r, k, rfl⟩ : ∃ (r : Fin 512) (k : Fin 1024), y = ix2 r k := ⟨y 0, y 1, by funext a; fin_cases a <;> rfl⟩
  have e0 : ((win0_7.blk t).view.emb (ix2 r k) 0) = at512 t r := by
    apply Fin.ext
    blk_simp [index t]
    simp [mul_comm]
  have e1 : ((win0_7.blk t).view.emb (ix2 r k) 1) = k := by
    apply Fin.ext
    blk_simp [index t]
  rw [e0, e1]
  exact pt_s m c t r k

/-- The pooling's group of columns, after the run. -/
theorem final_p : (dats m 0 c).arrAt 8 cfg0.N = fun i => proj (args m c) (i 0) (colP (i 1)) := by
  refine (dats m 0 c).arrAt_eq_of_covers 8 _ (by decide +kernel) fun t hf y => ?_
  blk_simp [index t]
  rw [after0_8]
  obtain ⟨r, k, rfl⟩ : ∃ (r : Fin 512) (k : Fin 1024), y = ix2 r k := ⟨y 0, y 1, by funext a; fin_cases a <;> rfl⟩
  have e0 : ((win0_8.blk t).view.emb (ix2 r k) 0) = at512 t r := by
    apply Fin.ext
    blk_simp [index t]
    simp [mul_comm]
  have e1 : ((win0_8.blk t).view.emb (ix2 r k) 1) = k := by
    apply Fin.ext
    blk_simp [index t]
  rw [e0, e1]
  exact pt_p m c t r k

/-- The merge's gates, after the run. -/
theorem final_g : (dats m 0 c).arrAt 9 cfg0.N = fun i => proj (args m c) (i 0) (colG (i 1)) := by
  refine (dats m 0 c).arrAt_eq_of_covers 9 _ (by decide +kernel) fun t hf y => ?_
  blk_simp [index t]
  rw [after0_9]
  obtain ⟨r, k, rfl⟩ : ∃ (r : Fin 512) (k : Fin 3072), y = ix2 r k := ⟨y 0, y 1, by funext a; fin_cases a <;> rfl⟩
  have e0 : ((win0_9.blk t).view.emb (ix2 r k) 0) = at512 t r := by
    apply Fin.ext
    blk_simp [index t]
    simp [mul_comm]
  have e1 : ((win0_9.blk t).view.emb (ix2 r k) 1) = k := by
    apply Fin.ext
    blk_simp [index t]
  rw [e0, e1]
  exact pt_g m c t r k

end Cert.Proj

end
-- ==== Proof.Proj.Reference.lean ====
/- The reference's five results at an index: the closed form of Spec.lean. -/
module

public import proofs.«01_k».proof.Proof.Gen.Reference3Ideal.Read
public import proofs.«01_k».proof.Proof.Proj.Spec

@[expose] public section

set_option maxRecDepth 16384

noncomputable section

namespace Cert.Proj

open Idealize.ShloMosaic Cert.Norm Cert.Reference3Ideal Cert.Reference3Ideal.Read

variable (A : Args)

/-- The modulated rows, as the reference returns them. -/
theorem ref_h (l : Fin 4096) (c : Fin 1024) : val_main_v50 (F := Ideal) A.x A.g A.sh A.sc (ix2 l c) = h A l c := by
  unfold val_main_v50 val_main_v17 val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst val_main_cst_0 val_main_cst_1 val_main_cst_2
  pointwise
  rfl

/-- The modulated rows, as the product takes them. -/
theorem ref_rows (l : Fin 4096) (c : Fin 1024) : val_main_v36 (F := Ideal) A.x A.g A.sh A.sc (ix2 l c) = h A l c := ref_h A l c

/-- The product with the whole weight. -/
theorem ref_proj (l : Fin 4096) (p : Fin 6400) : val_main_v37 (F := Ideal) A.x A.g A.sh A.sc A.w (ix2 l p) = proj A l p := by
  unfold val_main_v37 val_main_v18
  pointwise [ref_rows]
  rfl

/-- The attention's group of columns. -/
theorem ref_a (l : Fin 4096) (j : Fin 1280) : val_main_v51 (F := Ideal) A.x A.g A.sh A.sc A.w (ix2 l j) = proj A l (colA j) := by
  unfold val_main_v51 val_main_v47 val_main_v38 val_main_v43 val_main_v39 val_main_v40
  pointwise [ref_proj]
  unfold colA
  have e : j.val < 512 ∨ 512 ≤ j.val ∧ j.val < 1024 ∨ 1024 ≤ j.val ∧ j.val < 1152 ∨ 1152 ≤ j.val := by omega
  rcases e with e | e | e | e <;> simp (disch := omega) only [dif_pos, dif_neg, if_pos, if_neg] <;>
    exact congrArg (proj A l) (Fin.ext (by dsimp only; omega))

/-- The recurrence's group of columns. -/
theorem ref_s (l : Fin 4096) (j : Fin 1024) : val_main_v52 (F := Ideal) A.x A.g A.sh A.sc A.w (ix2 l j) = proj A l (colS j) := by
  unfold val_main_v52 val_main_v48 val_main_v41 val_main_v44
  pointwise [ref_proj]
  unfold colS
  have e : j.val < 512 ∨ 512 ≤ j.val := by omega
  rcases e with e | e <;> simp (disch := omega) only [dif_pos, dif_neg, if_pos, if_neg] <;>
    exact congrArg (proj A l) (Fin.ext (by dsimp only; omega))

/-- The pooling's group of columns. -/
theorem ref_p (l : Fin 4096) (j : Fin 1024) : val_main_v53 (F := Ideal) A.x A.g A.sh A.sc A.w (ix2 l j) = proj A l (colP j) := by
  unfold val_main_v53 val_main_v49 val_main_v42 val_main_v45
  pointwise [ref_proj]
  unfold colP
  have e : j.val < 512 ∨ 512 ≤ j.val := by omega
  rcases e with e | e <;> simp (disch := omega) only [dif_pos, dif_neg, if_pos, if_neg] <;>
    exact congrArg (proj A l) (Fin.ext (by dsimp only; omega))

/-- The merge's gates. -/
theorem ref_g (l : Fin 4096) (j : Fin 3072) : val_main_v54 (F := Ideal) A.x A.g A.sh A.sc A.w (ix2 l j) = proj A l (colG j) := by
  unfold val_main_v54 val_main_v46
  pointwise [ref_proj]
  rfl

end Cert.Proj

end
-- ==== Proof.Proj.Claim.lean ====
/- The claims of the projection of the normalised rows: the kernel's run and the reference's run end with equal results. -/
module

public import proofs.«01_k».proof.Defs
public import proofs.«01_k».proof.Proof.Gen.Reference3Ideal.Run
public import proofs.«01_k».proof.Proof.Ext.Index
public import proofs.«01_k».proof.Proof.Proj.Point
public import proofs.«01_k».proof.Proof.Proj.Reference
public import Idealize.ShloMosaic.Lib.Quiescent

@[expose] public section

noncomputable section

namespace Cert.Proj

open Idealize.ShloMosaic Idealize.ShloMosaic.TcCoe Idealize.SL.Sem

/-- The reference runs, keeps its arguments, and every counter ends at zero. -/
theorem reference_frame : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- From equal arguments the kernel and the reference end with equal arrays, as extended reals. -/
theorem algebraic : Cert.algebraic_Kernel3Ideal_Reference3Ideal := by
  intro m ρ m' ρ' _ hagree
  refine ⟨_, _, _, _, _, Cert.Kernel3Ideal.Value.run_blocks (F := Ideal) m ρ, ?_⟩
  refine (θ_run Cert.Reference3Ideal.defs _ _).mono (fun _ h c => ⟨(h c).1.trans ?_, (h c).2.1.trans ?_, (h c).2.2.1.trans ?_, (h c).2.2.2.1.trans ?_,
    (h c).2.2.2.2.1.trans ?_, (h c).2.2.2.2.2⟩) (Cert.Reference3Ideal.Value.run (F := Ideal) m' ρ')
  · obtain ⟨h0, h1, h2, h3, h4⟩ := hagree c
    rw [Cert.Reference3Ideal.Read.val_main_v50_eq, h0, h1, h2, h3, final_rows]
    exact Ext.matrix_ext (ref_h (args m c))
  · obtain ⟨h0, h1, h2, h3, h4⟩ := hagree c
    rw [Cert.Reference3Ideal.Read.val_main_v51_eq, h0, h1, h2, h3, h4, final_a]
    exact Ext.matrix_ext (ref_a (args m c))
  · obtain ⟨h0, h1, h2, h3, h4⟩ := hagree c
    rw [Cert.Reference3Ideal.Read.val_main_v52_eq, h0, h1, h2, h3, h4, final_s]
    exact Ext.matrix_ext (ref_s (args m c))
  · obtain ⟨h0, h1, h2, h3, h4⟩ := hagree c
    rw [Cert.Reference3Ideal.Read.val_main_v53_eq, h0, h1, h2, h3, h4, final_p]
    exact Ext.matrix_ext (ref_p (args m c))
  · obtain ⟨h0, h1, h2, h3, h4⟩ := hagree c
    rw [Cert.Reference3Ideal.Read.val_main_v54_eq, h0, h1, h2, h3, h4, final_g]
    exact Ext.matrix_ext (ref_g (args m c))

end Cert.Proj

end
-- ==== Proof.Merge.Spec.lean ====
/- The gated merge of the three branches in closed form, entry by entry, over the extended reals. -/
module

public import Idealize.ShloMosaic.Lib.Pointwise
public import Idealize.ShloMosaic.PureOps.Ideal.Laws

@[expose] public section

noncomputable section

namespace Cert.Merge

open Idealize.ShloMosaic

/-- A matrix of extended reals. -/
abbrev Mat (a b : Nat) := (⟨2, ![a, b]⟩ : Shape).Idx → EReal

/-- The arrays the merge is taken of: the branches' outputs and weights, the gates before the logistic function, the output's weight, the layer's
    input and the gate of the residual. -/
structure Args where
  ya : Mat 4096 512
  ys : Mat 4096 512
  yp : Mat 4096 512
  wa : Mat 512 1024
  ws : Mat 512 1024
  wp : Mat 512 1024
  pg : Mat 4096 3072
  wo : Mat 1024 1024
  x : Mat 4096 1024
  g : Mat 1 1024

/-- A branch's projection. -/
def branch (y : Mat 4096 512) (w : Mat 512 1024) (l : Fin 4096) (k : Fin 1024) : EReal := ∑ j : Fin 512, y (ix2 l j) * w (ix2 j k)

variable (A : Args)

/-- The gates of the three branches. -/
def gateA (l : Fin 4096) (k : Fin 1024) : EReal := Ideal.logistic (A.pg (ix2 l ⟨k.val, by omega⟩))
def gateS (l : Fin 4096) (k : Fin 1024) : EReal := Ideal.logistic (A.pg (ix2 l ⟨1024 + k.val, by omega⟩))
def gateP (l : Fin 4096) (k : Fin 1024) : EReal := Ideal.logistic (A.pg (ix2 l ⟨2048 + k.val, by omega⟩))

/-- The branches, gated and added. -/
def merged (l : Fin 4096) (k : Fin 1024) : EReal :=
  gateA A l k * branch A.ya A.wa l k + gateS A l k * branch A.ys A.ws l k + gateP A l k * branch A.yp A.wp l k

/-- The merged branches' projection. -/
def out (l : Fin 4096) (k : Fin 1024) : EReal := ∑ j : Fin 1024, merged A l j * A.wo (ix2 j k)

/-- The layer's output. -/
def xn (l : Fin 4096) (k : Fin 1024) : EReal := A.x (ix2 l k) + A.g (ix2 0 k) * out A l k

end Cert.Merge

end
-- ==== Proof.Merge.Sigmoid.lean ====
/- The gate over the extended reals: the kernel's `0.5 + 0.5 · tanh (0.5 · x)` and the reference's `1 / (1 + exp (-x))`. -/
module

public import Idealize.ShloMosaic.PureOps.Ideal.Laws

@[expose] public section

namespace Cert.Merge

open Idealize.ShloMosaic

/-- The word `0x3F000000` is one half. -/
theorem half_f32 : Ideal.ofBits .f32 0x3F000000#32 = ((1 / 2 : ℝ) : EReal) := by
  simp [Ideal.ofBits, Ideal.ieee, -EReal.coe_mul]; norm_num

/-- The word `0x3F800000` is one. -/
theorem one_f32 : Ideal.ofBits .f32 0x3F800000#32 = 1 := by
  simp [Ideal.ofBits, Ideal.ieee, -EReal.coe_mul]; norm_num

/-- The logistic function of a real number by its hyperbolic tangent. -/
theorem logistic_real (x : ℝ) : 1 / 2 + 1 / 2 * Real.tanh (1 / 2 * x) = 1 / (1 + Real.exp (-x)) := by
  have h1 : Real.exp (-x) = Real.exp (-(1 / 2 * x)) * Real.exp (-(1 / 2 * x)) := by
    rw [← Real.exp_add]; ring_nf
  have h2 : Real.exp (1 / 2 * x) * Real.exp (-(1 / 2 * x)) = 1 := by rw [← Real.exp_add]; simp
  have p := Real.exp_pos (1 / 2 * x)
  have q := Real.exp_pos (-(1 / 2 * x))
  rw [Real.tanh_eq_sinh_div_cosh, Real.sinh_eq, Real.cosh_eq, h1]
  generalize Real.exp (1 / 2 * x) = a at *
  generalize Real.exp (-(1 / 2 * x)) = b at *
  field_simp
  nlinarith [h2]

/-- The two forms of the gate agree at every extended real. -/
theorem logistic_eq (x : EReal) :
    ((1 / 2 : ℝ) : EReal) + ((1 / 2 : ℝ) : EReal) * Ideal.tanh (((1 / 2 : ℝ) : EReal) * x) = Ideal.logistic x := by
  induction x with
  | bot =>
    rw [EReal.coe_mul_bot_of_pos (by norm_num), Ideal.tanh_bot, Ideal.logistic_bot, ← EReal.coe_one, ← EReal.coe_neg, ← EReal.coe_mul,
      ← EReal.coe_add]
    norm_num
  | top =>
    rw [EReal.coe_mul_top_of_pos (by norm_num), Ideal.tanh_top, Ideal.logistic_top, ← EReal.coe_one, ← EReal.coe_mul, ← EReal.coe_add]
    norm_num
  | coe x =>
    rw [← EReal.coe_mul, Ideal.tanh_coe, Ideal.logistic_coe, ← EReal.coe_mul, ← EReal.coe_add, logistic_real]
    norm_num

end Cert.Merge
-- ==== Proof.Merge.Point.lean ====
/- What a grid point leaves in the kernel's six output windows, at an index: the closed form of Spec.lean. -/
module

public import proofs.«01_k».proof.Proof.Gen.Kernel4Ideal.Value
public import proofs.«01_k».proof.Proof.Merge.Spec
public import proofs.«01_k».proof.Proof.Merge.Sigmoid
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Merge

open Idealize.ShloMosaic Idealize.ShloMosaic.TcCoe Cert.Kernel4Ideal Cert.Kernel4Ideal.Gen

variable (m : (ℓ : Loc nD τ sig) → Buf (Elt Ideal) ℓ) (c : Dev nD)

/-- The merge's arrays, as the kernel's arguments hold them. -/
def args : Args where
  ya := m ((c : Thread nD τ).loc main_arg0)
  ys := m ((c : Thread nD τ).loc main_arg1)
  yp := m ((c : Thread nD τ).loc main_arg2)
  wa := m ((c : Thread nD τ).loc main_arg3)
  ws := m ((c : Thread nD τ).loc main_arg4)
  wp := m ((c : Thread nD τ).loc main_arg5)
  pg := m ((c : Thread nD τ).loc main_arg6)
  wo := m ((c : Thread nD τ).loc main_arg7)
  x := m ((c : Thread nD τ).loc main_arg8)
  g := m ((c : Thread nD τ).loc main_arg9)

/-- Row `r` of point `t`'s block. -/
abbrev at512 (t : Fin cfg0.N) (r : Fin 512) : Fin 4096 := ⟨512 * t.val + r.val, by have := t.isLt; have : cfg0.N = 8 := N_0; omega⟩

/-- Where each window's block lies at a grid point. -/
theorem index : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧
    win0_6.index t = ![t.val, 0] ∧ win0_7.index t = ![0, 0] ∧ win0_8.index t = ![t.val, 0] ∧ win0_9.index t = ![0, 0] ∧ win0_10.index t = ![t.val, 0] ∧ win0_11.index t = ![t.val, 0] ∧
    win0_12.index t = ![t.val, 0] ∧ win0_13.index t = ![t.val, 0] ∧ win0_14.index t = ![t.val, 0] ∧ win0_15.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![0, 0] ∧
    win0_6.index t = ![t.val, 0] ∧ win0_7.index t = ![0, 0] ∧ win0_8.index t = ![t.val, 0] ∧ win0_9.index t = ![0, 0] ∧ win0_10.index t = ![t.val, 0] ∧ win0_11.index t = ![t.val, 0] ∧
    win0_12.index t = ![t.val, 0] ∧ win0_13.index t = ![t.val, 0] ∧ win0_14.index t = ![t.val, 0] ∧ win0_15.index t = ![t.val, 0])

theorem blk_ya (t : Fin cfg0.N) (r : Fin 512) (k : Fin 512) : iblk m c 0 t (ix2 r k) = (args m c).ya (ix2 (at512 t r) k) := by
  unfold args
  blk_ext [iblk, V_main_arg0, index t]

theorem blk_ys (t : Fin cfg0.N) (r : Fin 512) (k : Fin 512) : iblk m c 1 t (ix2 r k) = (args m c).ys (ix2 (at512 t r) k) := by
  unfold args
  blk_ext [iblk, V_main_arg1, index t]

theorem blk_yp (t : Fin cfg0.N) (r : Fin 512) (k : Fin 512) : iblk m c 2 t (ix2 r k) = (args m c).yp (ix2 (at512 t r) k) := by
  unfold args
  blk_ext [iblk, V_main_arg2, index t]

theorem blk_wa (t : Fin cfg0.N) (r : Fin 512) (k : Fin 1024) : iblk m c 3 t (ix2 r k) = (args m c).wa (ix2 r k) := by
  unfold args
  blk_ext [iblk, V_main_arg3, index t]

theorem blk_ws (t : Fin cfg0.N) (r : Fin 512) (k : Fin 1024) : iblk m c 4 t (ix2 r k) = (args m c).ws (ix2 r k) := by
  unfold args
  blk_ext [iblk, V_main_arg4, index t]

theorem blk_wp (t : Fin cfg0.N) (r : Fin 512) (k : Fin 1024) : iblk m c 5 t (ix2 r k) = (args m c).wp (ix2 r k) := by
  unfold args
  blk_ext [iblk, V_main_arg5, index t]

theorem blk_pg (t : Fin cfg0.N) (r : Fin 512) (k : Fin 3072) : iblk m c 6 t (ix2 r k) = (args m c).pg (ix2 (at512 t r) k) := by
  unfold args
  blk_ext [iblk, V_main_arg6, index t]

theorem blk_wo (t : Fin cfg0.N) (r : Fin 1024) (k : Fin 1024) : iblk m c 7 t (ix2 r k) = (args m c).wo (ix2 r k) := by
  unfold args
  blk_ext [iblk, V_main_arg7, index t]

theorem blk_x (t : Fin cfg0.N) (r : Fin 512) (k : Fin 1024) : iblk m c 8 t (ix2 r k) = (args m c).x (ix2 (at512 t r) k) := by
  unfold args
  blk_ext [iblk, V_main_arg8, index t]

theorem blk_g (t : Fin cfg0.N) (k : Fin 1024) : iblk m c 9 t (ix2 0 k) = (args m c).g (ix2 0 k) := by
  unfold args
  blk_ext [iblk, V_main_arg9, index t]

/-- A point's rows of a branch's projection. -/
theorem pt_ba (t : Fin cfg0.N) (r : Fin 512) (k : Fin 1024) : k0_pay7 (iblk m c 0 t) (iblk m c 3 t) (ix2 r k) = branch (args m c).ya (args m c).wa (at512 t r) k := by
  unfold k0_pay7
  pointwise [blk_ya m c t, blk_wa m c t]
  rfl

theorem pt_bs (t : Fin cfg0.N) (r : Fin 512) (k : Fin 1024) : k0_pay9 (iblk m c 1 t) (iblk m c 4 t) (ix2 r k) = branch (args m c).ys (args m c).ws (at512 t r) k := by
  unfold k0_pay9
  pointwise [blk_ys m c t, blk_ws m c t]
  rfl

theorem pt_bp (t : Fin cfg0.N) (r : Fin 512) (k : Fin 1024) : k0_pay1 (iblk m c 2 t) (iblk m c 5 t) (ix2 r k) = branch (args m c).yp (args m c).wp (at512 t r) k := by
  unfold k0_pay1
  pointwise [blk_yp m c t, blk_wp m c t]
  rfl

/-- The third gate's columns of a point's block. -/
abbrev pg3 (t : Fin cfg0.N) : Vec Ideal S512x1024 .bf16 := View.ld (iblk m c 6 t) r0_4

/-- The first two branches of a point, gated and added. -/
abbrev two (t : Fin cfg0.N) : FVec Ideal S512x1024 .f32 :=
  k0_pay12 (iblk m c 0 t) (iblk m c 1 t) (iblk m c 2 t) (iblk m c 3 t) (iblk m c 4 t) (iblk m c 5 t) (iblk m c 6 t) (iblk m c 7 t) (iblk m c 8 t) (iblk m c 9 t)

theorem pt_two (t : Fin cfg0.N) (r : Fin 512) (k : Fin 1024) :
    two m c t (ix2 r k) = gateA (args m c) (at512 t r) k * branch (args m c).ya (args m c).wa (at512 t r) k
      + gateS (args m c) (at512 t r) k * branch (args m c).ys (args m c).ws (at512 t r) k := by
  unfold two k0_pay12 k0_pay11
  frame_out
  pointwise [pt_ba m c t, pt_bs m c t, blk_pg m c t, half_f32, logistic_eq]
  rfl

/-- A point's merged branches. -/
theorem pt_merged (t : Fin cfg0.N) (r : Fin 512) (k : Fin 1024) :
    k0_pay3 (two m c t) (iblk m c 2 t) (iblk m c 5 t) (pg3 m c t) (ix2 r k) = merged (args m c) (at512 t r) k := by
  unfold k0_pay3 pg3
  pointwise [pt_two m c t, pt_bp m c t, blk_pg m c t, half_f32, logistic_eq]
  rfl

/-- A point's rows of the merged branches' projection. -/
theorem pt_out (t : Fin cfg0.N) (r : Fin 512) (k : Fin 1024) :
    k0_pay4 (two m c t) (iblk m c 2 t) (iblk m c 5 t) (pg3 m c t) (iblk m c 7 t) (ix2 r k) = out (args m c) (at512 t r) k := by
  unfold k0_pay4
  pointwise [pt_merged m c t, blk_wo m c t]
  rfl

/-- A point's rows of the layer's output. -/
theorem pt_xn (t : Fin cfg0.N) (r : Fin 512) (k : Fin 1024) :
    k0_pay6 (two m c t) (iblk m c 2 t) (iblk m c 5 t) (pg3 m c t) (iblk m c 7 t) (iblk m c 8 t) (iblk m c 9 t) (ix2 r k) = xn (args m c) (at512 t r) k := by
  unfold k0_pay6
  pointwise [pt_out m c t, blk_x m c t, blk_g m c t]
  rfl

/-- The layer's output, after the run. -/
theorem final_xn : (dats m 0 c).arrAt 10 cfg0.N = fun i => xn (args m c) (i 0) (i 1) := by
  refine (dats m 0 c).arrAt_eq_of_covers 10 _ (by decide +kernel) fun t hf y => ?_
  blk_simp [index t]
  rw [after0_10]
  frame_out
  obtain ⟨r, k, rfl⟩ : ∃ (r : Fin 512) (k : Fin 1024), y = ix2 r k := ⟨y 0, y 1, by funext a; fin_cases a <;> rfl⟩
  have e0 : ((win0_10.blk t).view.emb (ix2 r k) 0) = at512 t r := by
    apply Fin.ext
    blk_simp [index t]
    simp [mul_comm]
  have e1 : ((win0_10.blk t).view.emb (ix2 r k) 1) = k := by
    apply Fin.ext
    blk_simp [index t]
  rw [e0, e1]
  exact pt_xn m c t r k

/-- The merged branches, after the run. -/
theorem final_merged : (dats m 0 c).arrAt 11 cfg0.N = fun i => merged (args m c) (i 0) (i 1) := by
  refine (dats m 0 c).arrAt_eq_of_covers 11 _ (by decide +kernel) fun t hf y => ?_
  blk_simp [index t]
  rw [after0_11]
  frame_out
  obtain ⟨r, k, rfl⟩ : ∃ (r : Fin 512) (k : Fin 1024), y = ix2 r k := ⟨y 0, y 1, by funext a; fin_cases a <;> rfl⟩
  have e0 : ((win0_11.blk t).view.emb (ix2 r k) 0) = at512 t r := by
    apply Fin.ext
    blk_simp [index t]
    simp [mul_comm]
  have e1 : ((win0_11.blk t).view.emb (ix2 r k) 1) = k := by
    apply Fin.ext
    blk_simp [index t]
  rw [e0, e1]
  exact pt_merged m c t r k

/-- The first branch's projection, after the run. -/
theorem final_ba : (dats m 0 c).arrAt 12 cfg0.N = fun i => branch (args m c).ya (args m c).wa (i 0) (i 1) := by
  refine (dats m 0 c).arrAt_eq_of_covers 12 _ (by decide +kernel) fun t hf y => ?_
  blk_simp [index t]
  rw [after0_12]
  frame_out
  obtain ⟨r, k, rfl⟩ : ∃ (r : Fin 512) (k : Fin 1024), y = ix2 r k := ⟨y 0, y 1, by funext a; fin_cases a <;> rfl⟩
  have e0 : ((win0_12.blk t).view.emb (ix2 r k) 0) = at512 t r := by
    apply Fin.ext
    blk_simp [index t]
    simp [mul_comm]
  have e1 : ((win0_12.blk t).view.emb (ix2 r k) 1) = k := by
    apply Fin.ext
    blk_simp [index t]
  rw [e0, e1]
  exact pt_ba m c t r k

/-- The second branch's projection, after the run. -/
theorem final_bs : (dats m 0 c).arrAt 13 cfg0.N = fun i => branch (args m c).ys (args m c).ws (i 0) (i 1) := by
  refine (dats m 0 c).arrAt_eq_of_covers 13 _ (by decide +kernel) fun t hf y => ?_
  blk_simp [index t]
  rw [after0_13]
  frame_out
  obtain ⟨r, k, rfl⟩ : ∃ (r : Fin 512) (k : Fin 1024), y = ix2 r k := ⟨y 0, y 1, by funext a; fin_cases a <;> rfl⟩
  have e0 : ((win0_13.blk t).view.emb (ix2 r k) 0) = at512 t r := by
    apply Fin.ext
    blk_simp [index t]
    simp [mul_comm]
  have e1 : ((win0_13.blk t).view.emb (ix2 r k) 1) = k := by
    apply Fin.ext
    blk_simp [index t]
  rw [e0, e1]
  exact pt_bs m c t r k

/-- The third branch's projection, after the run. -/
theorem final_bp : (dats m 0 c).arrAt 14 cfg0.N = fun i => branch (args m c).yp (args m c).wp (i 0) (i 1) := by
  refine (dats m 0 c).arrAt_eq_of_covers 14 _ (by decide +kernel) fun t hf y => ?_
  blk_simp [index t]
  rw [after0_14]
  frame_out
  obtain ⟨r, k, rfl⟩ : ∃ (r : Fin 512) (k : Fin 1024), y = ix2 r k := ⟨y 0, y 1, by funext a; fin_cases a <;> rfl⟩
  have e0 : ((win0_14.blk t).view.emb (ix2 r k) 0) = at512 t r := by
    apply Fin.ext
    blk_simp [index t]
    simp [mul_comm]
  have e1 : ((win0_14.blk t).view.emb (ix2 r k) 1) = k := by
    apply Fin.ext
    blk_simp [index t]
  rw [e0, e1]
  exact pt_bp m c t r k

/-- The merged branches' projection, after the run. -/
theorem final_out : (dats m 0 c).arrAt 15 cfg0.N = fun i => out (args m c) (i 0) (i 1) := by
  refine (dats m 0 c).arrAt_eq_of_covers 15 _ (by decide +kernel) fun t hf y => ?_
  blk_simp [index t]
  rw [after0_15]
  frame_out
  obtain ⟨r, k, rfl⟩ : ∃ (r : Fin 512) (k : Fin 1024), y = ix2 r k := ⟨y 0, y 1, by funext a; fin_cases a <;> rfl⟩
  have e0 : ((win0_15.blk t).view.emb (ix2 r k) 0) = at512 t r := by
    apply Fin.ext
    blk_simp [index t]
    simp [mul_comm]
  have e1 : ((win0_15.blk t).view.emb (ix2 r k) 1) = k := by
    apply Fin.ext
    blk_simp [index t]
  rw [e0, e1]
  exact pt_out m c t r k

end Cert.Merge

end
-- ==== Proof.Merge.Reference.lean ====
/- The reference's results at an index: the closed form of Spec.lean. -/
module

public import proofs.«01_k».proof.Proof.Gen.Reference4Ideal.Read
public import proofs.«01_k».proof.Proof.Merge.Spec
public import proofs.«01_k».proof.Proof.Merge.Sigmoid

@[expose] public section

set_option maxRecDepth 16384

noncomputable section

namespace Cert.Merge

open Idealize.ShloMosaic Cert.Reference4Ideal Cert.Reference4Ideal.Read

variable (A : Args)

/-- The gates, before they are told apart. -/
theorem ref_gate (l : Fin 4096) (k : Fin 3072) : val_main_v13 (F := Ideal) A.pg (ix2 l k) = Ideal.logistic (A.pg (ix2 l k)) := by
  unfold val_main_v13 val_main_v12 val_main_v11 val_main_v10 val_main_v9 val_main_v8 val_main_v6 val_main_cst val_main_cst_0
  pointwise [one_f32]
  rfl

/-- The branches' projections. -/
theorem ref_ba (l : Fin 4096) (k : Fin 1024) : val_main_v15 (F := Ideal) A.ya A.wa (ix2 l k) = branch A.ya A.wa l k := by
  unfold val_main_v15 val_main_v0 val_main_v3
  pointwise
  rfl

theorem ref_bs (l : Fin 4096) (k : Fin 1024) : val_main_v16 (F := Ideal) A.ys A.ws (ix2 l k) = branch A.ys A.ws l k := by
  unfold val_main_v16 val_main_v1 val_main_v4
  pointwise
  rfl

theorem ref_bp (l : Fin 4096) (k : Fin 1024) : val_main_v17 (F := Ideal) A.yp A.wp (ix2 l k) = branch A.yp A.wp l k := by
  unfold val_main_v17 val_main_v2 val_main_v5
  pointwise
  rfl

/-- The branches, gated and added. -/
theorem ref_merged (l : Fin 4096) (k : Fin 1024) :
    val_main_v28 (F := Ideal) A.ya A.ys A.yp A.wa A.ws A.wp A.pg (ix2 l k) = merged A l k := by
  unfold val_main_v28 val_main_v27 val_main_v26 val_main_v25 val_main_v24 val_main_v23 val_main_v22 val_main_v21 val_main_v20 val_main_v19 val_main_v18
    val_main_v14
  pointwise [ref_gate, ref_ba, ref_bs, ref_bp]
  rfl

/-- Their projection. -/
theorem ref_out (l : Fin 4096) (k : Fin 1024) :
    val_main_v29 (F := Ideal) A.ya A.ys A.yp A.wa A.ws A.wp A.pg A.wo (ix2 l k) = out A l k := by
  unfold val_main_v29 val_main_v7
  pointwise [ref_merged]
  rfl

/-- The layer's output. -/
theorem ref_xn (l : Fin 4096) (k : Fin 1024) :
    val_main_v32 (F := Ideal) A.ya A.ys A.yp A.wa A.ws A.wp A.pg A.wo A.x A.g (ix2 l k) = xn A l k := by
  unfold val_main_v32 val_main_v31 val_main_v30
  pointwise [ref_out]
  rfl

end Cert.Merge

end
-- ==== Proof.Merge.Claim.lean ====
/- The claims of the gated merge of the branches: the kernel's run and the reference's run end with equal results. -/
module

public import proofs.«01_k».proof.Defs
public import proofs.«01_k».proof.Proof.Gen.Reference4Ideal.Run
public import proofs.«01_k».proof.Proof.Ext.Index
public import proofs.«01_k».proof.Proof.Merge.Point
public import proofs.«01_k».proof.Proof.Merge.Reference
public import Idealize.ShloMosaic.Lib.Quiescent

@[expose] public section

noncomputable section

namespace Cert.Merge

open Idealize.ShloMosaic Idealize.ShloMosaic.TcCoe Idealize.SL.Sem

/-- The reference runs, keeps its arguments, and every counter ends at zero. -/
theorem reference_frame : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- From equal arguments the kernel and the reference end with equal arrays, as extended reals. -/
theorem algebraic : Cert.algebraic_Kernel4Ideal_Reference4Ideal := by
  intro m ρ m' ρ' _ hagree
  refine ⟨_, _, _, _, _, _, Cert.Kernel4Ideal.Value.run_blocks (F := Ideal) m ρ, ?_⟩
  refine (θ_run Cert.Reference4Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference4Ideal.Value.run (F := Ideal) m' ρ')
  · obtain ⟨h0, h1, h2, h3, h4, h5, h6, h7, h8, h9⟩ := hagree c
    rw [Cert.Reference4Ideal.Read.val_main_v32_eq, h0, h1, h2, h3, h4, h5, h6, h7, h8, h9, final_xn]
    exact Ext.matrix_ext (ref_xn (args m c))
  · obtain ⟨h0, h1, h2, h3, h4, h5, h6, h7, h8, h9⟩ := hagree c
    rw [Cert.Reference4Ideal.Read.val_main_v33_eq, h0, h1, h2, h3, h4, h5, h6, final_merged]
    exact Ext.matrix_ext (ref_merged (args m c))
  · obtain ⟨h0, h1, h2, h3, h4, h5, h6, h7, h8, h9⟩ := hagree c
    rw [Cert.Reference4Ideal.Read.val_main_v34_eq, h0, h3, final_ba]
    exact Ext.matrix_ext (ref_ba (args m c))
  · obtain ⟨h0, h1, h2, h3, h4, h5, h6, h7, h8, h9⟩ := hagree c
    rw [Cert.Reference4Ideal.Read.val_main_v35_eq, h1, h4, final_bs]
    exact Ext.matrix_ext (ref_bs (args m c))
  · obtain ⟨h0, h1, h2, h3, h4, h5, h6, h7, h8, h9⟩ := hagree c
    rw [Cert.Reference4Ideal.Read.val_main_v36_eq, h2, h5, final_bp]
    exact Ext.matrix_ext (ref_bp (args m c))
  · obtain ⟨h0, h1, h2, h3, h4, h5, h6, h7, h8, h9⟩ := hagree c
    rw [Cert.Reference4Ideal.Read.val_main_v37_eq, h0, h1, h2, h3, h4, h5, h6, h7, final_out]
    exact Ext.matrix_ext (ref_out (args m c))

end Cert.Merge

end
-- ==== Proof.MergeBwd.Stage.lean ====
/- The gradient of the merge: when its body clears and stores its accumulators, and the buffers it is called on. -/
module

public import proofs.«01_k».proof.Proof.Gen.Kernel5Ideal.Frame
public import proofs.«01_k».proof.Proof.Gen.Kernel5Ideal.Points
public import proofs.«01_k».proof.Proof.Gen.Kernel5Ideal.Skeleton
public import Idealize.ShloMosaic.Lib.WordCmp

@[expose] public section

-- the blocks have axes of a thousand and more, along which the elaborator recurses
set_option maxRecDepth 16384

noncomputable section

namespace Cert.MergeBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

/-- The body's test for clearing its accumulators. -/
abbrev isFirst (i : grid0.Coords) : Prop :=
  (Scalar.cmpi .ne (Scalar.extui (Scalar.cmpi .eq (BitVec.ofNat 32 (i 0).val) 0#32)) 0#32) = 1#1

/-- The body's test for storing its accumulators. -/
abbrev isLast (i : grid0.Coords) : Prop := k0_cond2 i = 1#1

theorem coord (t : Fin cfg0.N) : (grid0.coords t 0).val = t.val / 1 % 16 :=
  Pipeline.Grid.coords_val t 0 (by decide) rfl

theorem lt_points (t : Fin cfg0.N) : t.val < 16 := lt_of_lt_of_eq t.isLt N_0

/-- The accumulators are cleared at the first point only. -/
theorem isFirst_iff (t : Fin cfg0.N) : isFirst (grid0.coords t) ↔ t.val % 16 = 0 := by
  have ht := lt_points t
  simp only [isFirst, coord]
  word_cmp

/-- The accumulators are stored at the last point only. -/
theorem isLast_iff (t : Fin cfg0.N) : isLast (grid0.coords t) ↔ t.val % 16 = 15 := by
  have ht := lt_points t
  simp only [isLast, k0_cond2, coord]
  word_cmp

/-- Every window but the four weight gradients is used at every point. -/
theorem live : ∀ (w : Fin 24), w.val < 20 → ∀ t : Fin cfg0.N, cfg0.idle w (grid0.coords t) = false := by
  decide +kernel

/-- The weight gradients are used at the last point. -/
theorem live_last : ∀ (w : Fin 24) (t : Fin cfg0.N), t.val % 16 = 15 → cfg0.idle w (grid0.coords t) = false := by
  decide +kernel

/-- The weight gradients are left alone before the last point, -/
theorem idle : ∀ (w : Fin 24), 20 ≤ w.val → ∀ t : Fin cfg0.N, ¬t.val % 16 = 15 →
    cfg0.idle w (grid0.coords t) = true := by decide +kernel

/-- and are not written back there. -/
theorem noFlush : ∀ (w : Fin 24), 20 ≤ w.val → ∀ t : Fin cfg0.N, ¬t.val % 16 = 15 →
    (cfg0.win w).flush t = false := by decide +kernel

/-! ## The buffer of each window at each point, and the two accumulators -/

abbrev ms0 (t : Fin cfg0.N) : Memref sig .tc .vmem S256x1024 .f32 := win0_0.stage (cfg0.slots t 0)
abbrev ms1 (t : Fin cfg0.N) : Memref sig .tc .vmem S256x1024 .bf16 := win0_1.stage (cfg0.slots t 1)
abbrev ms2 (t : Fin cfg0.N) : Memref sig .tc .vmem S1x1024 .f32 := win0_2.stage (cfg0.slots t 2)
abbrev ms3 (t : Fin cfg0.N) : Memref sig .tc .vmem S1024x1024 .bf16 := win0_3.stage (cfg0.slots t 3)
abbrev ms4 (t : Fin cfg0.N) : Memref sig .tc .vmem S256x3072 .bf16 := win0_4.stage (cfg0.slots t 4)
abbrev ms5 (t : Fin cfg0.N) : Memref sig .tc .vmem S256x1024 .bf16 := win0_5.stage (cfg0.slots t 5)
abbrev ms6 (t : Fin cfg0.N) : Memref sig .tc .vmem S256x1024 .bf16 := win0_6.stage (cfg0.slots t 6)
abbrev ms7 (t : Fin cfg0.N) : Memref sig .tc .vmem S256x1024 .bf16 := win0_7.stage (cfg0.slots t 7)
abbrev ms8 (t : Fin cfg0.N) : Memref sig .tc .vmem S512x1024 .bf16 := win0_8.stage (cfg0.slots t 8)
abbrev ms9 (t : Fin cfg0.N) : Memref sig .tc .vmem S512x1024 .bf16 := win0_9.stage (cfg0.slots t 9)
abbrev ms10 (t : Fin cfg0.N) : Memref sig .tc .vmem S512x1024 .bf16 := win0_10.stage (cfg0.slots t 10)
abbrev ms11 (t : Fin cfg0.N) : Memref sig .tc .vmem S256x512 .bf16 := win0_11.stage (cfg0.slots t 11)
abbrev ms12 (t : Fin cfg0.N) : Memref sig .tc .vmem S256x512 .bf16 := win0_12.stage (cfg0.slots t 12)
abbrev ms13 (t : Fin cfg0.N) : Memref sig .tc .vmem S256x512 .bf16 := win0_13.stage (cfg0.slots t 13)
abbrev ms14 (t : Fin cfg0.N) : Memref sig .tc .vmem S256x1024 .bf16 := win0_14.stage (cfg0.slots t 14)
abbrev ms15 (t : Fin cfg0.N) : Memref sig .tc .vmem S256x512 .f32 := win0_15.stage (cfg0.slots t 15)
abbrev ms16 (t : Fin cfg0.N) : Memref sig .tc .vmem S256x512 .f32 := win0_16.stage (cfg0.slots t 16)
abbrev ms17 (t : Fin cfg0.N) : Memref sig .tc .vmem S256x512 .f32 := win0_17.stage (cfg0.slots t 17)
abbrev ms18 (t : Fin cfg0.N) : Memref sig .tc .vmem S256x3072 .bf16 := win0_18.stage (cfg0.slots t 18)
abbrev ms19 (t : Fin cfg0.N) : Memref sig .tc .vmem S8x1024 .f32 := win0_19.stage (cfg0.slots t 19)
abbrev ms20 (t : Fin cfg0.N) : Memref sig .tc .vmem S512x1024 .bf16 := win0_20.stage (cfg0.slots t 20)
abbrev ms21 (t : Fin cfg0.N) : Memref sig .tc .vmem S512x1024 .bf16 := win0_21.stage (cfg0.slots t 21)
abbrev ms22 (t : Fin cfg0.N) : Memref sig .tc .vmem S512x1024 .bf16 := win0_22.stage (cfg0.slots t 22)
abbrev ms23 (t : Fin cfg0.N) : Memref sig .tc .vmem S1024x1024 .bf16 := win0_23.stage (cfg0.slots t 23)

theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
theorem hs5 (t : Fin cfg0.N) : (ms5 t).IsWhole := hstage0_5 ((cfg0.slots t 5).cast nbuf0_5)
theorem hs6 (t : Fin cfg0.N) : (ms6 t).IsWhole := hstage0_6 ((cfg0.slots t 6).cast nbuf0_6)
theorem hs7 (t : Fin cfg0.N) : (ms7 t).IsWhole := hstage0_7 ((cfg0.slots t 7).cast nbuf0_7)
theorem hs8 (t : Fin cfg0.N) : (ms8 t).IsWhole := hstage0_8 ((cfg0.slots t 8).cast nbuf0_8)
theorem hs9 (t : Fin cfg0.N) : (ms9 t).IsWhole := hstage0_9 ((cfg0.slots t 9).cast nbuf0_9)
theorem hs10 (t : Fin cfg0.N) : (ms10 t).IsWhole := hstage0_10 ((cfg0.slots t 10).cast nbuf0_10)
theorem hs11 (t : Fin cfg0.N) : (ms11 t).IsWhole := hstage0_11 ((cfg0.slots t 11).cast nbuf0_11)
theorem hs12 (t : Fin cfg0.N) : (ms12 t).IsWhole := hstage0_12 ((cfg0.slots t 12).cast nbuf0_12)
theorem hs13 (t : Fin cfg0.N) : (ms13 t).IsWhole := hstage0_13 ((cfg0.slots t 13).cast nbuf0_13)
theorem hs14 (t : Fin cfg0.N) : (ms14 t).IsWhole := hstage0_14 ((cfg0.slots t 14).cast nbuf0_14)
theorem hs15 (t : Fin cfg0.N) : (ms15 t).IsWhole := hstage0_15 ((cfg0.slots t 15).cast nbuf0_15)
theorem hs16 (t : Fin cfg0.N) : (ms16 t).IsWhole := hstage0_16 ((cfg0.slots t 16).cast nbuf0_16)
theorem hs17 (t : Fin cfg0.N) : (ms17 t).IsWhole := hstage0_17 ((cfg0.slots t 17).cast nbuf0_17)
theorem hs18 (t : Fin cfg0.N) : (ms18 t).IsWhole := hstage0_18 ((cfg0.slots t 18).cast nbuf0_18)
theorem hs19 (t : Fin cfg0.N) : (ms19 t).IsWhole := hstage0_19 ((cfg0.slots t 19).cast nbuf0_19)
theorem hs20 (t : Fin cfg0.N) : (ms20 t).IsWhole := hstage0_20 ((cfg0.slots t 20).cast nbuf0_20)
theorem hs21 (t : Fin cfg0.N) : (ms21 t).IsWhole := hstage0_21 ((cfg0.slots t 21).cast nbuf0_21)
theorem hs22 (t : Fin cfg0.N) : (ms22 t).IsWhole := hstage0_22 ((cfg0.slots t 22).cast nbuf0_22)
theorem hs23 (t : Fin cfg0.N) : (ms23 t).IsWhole := hstage0_23 ((cfg0.slots t 23).cast nbuf0_23)

/-- The accumulator of the three branch weights' gradients. -/
abbrev accBr : Memref sig .tc .vmem S3x512x1024 .f32 := Memref.whole cc0_scratch0

/-- The accumulator of the output projection's gradient. -/
abbrev accOut : Memref sig .tc .vmem S1024x1024 .f32 := Memref.whole cc0_scratch1

/-- What the run is handed beside the windows: both accumulators at anything, and the generator register. -/
theorem scratch_eq (c : Dev nD) :
    (Pipeline.ΦA spec0 c : sProp 𝕄)
      = iprop(iprop((∃ d, owns (c : Thread nD τ) accBr fullShare d) ∗ (∃ d, owns (c : Thread nD τ) accOut fullShare d))
          ∗ (∃ r, prngReg c r)) := by
  unfold Pipeline.ΦA; rw [scopedRest0_eq]; simp only [accBr, accOut, owns_whole]; try rfl

/-- What the stores `L` leave in a buffer they cover: the buffer they are made into does not matter. -/
abbrev leaves {S : Shape} {e : EltTy} (M : Memref sig .tc .vmem S e) (L : List (View.Piece (Elt F) S e)) : Vec F S e :=
  M.view.read (Elt F) (M.view.writes (Elt F) M.view.junk L)

end Cert.MergeBwd

end
-- ==== Proof.MergeBwd.RunFirst.lean ====
/- The body of the gradient of the merge, run at the first grid point: both accumulators are cleared before they are added to. -/
module

public import proofs.«01_k».proof.Proof.MergeBwd.Stage

@[expose] public section

-- the blocks have axes of a thousand and more, along which the elaborator recurses
set_option maxRecDepth 16384

noncomputable section

namespace Cert.MergeBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the memrefs the body is called on, in the order of its windows and then of its two accumulators
variable (c : Dev nD) (i : grid0.Coords) (arg1 : Memref sig .tc .vmem S256x1024 .f32) (harg1 : arg1.IsWhole)
  (arg2 : Memref sig .tc .vmem S256x1024 .bf16) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S256x3072 .bf16) (harg5 : arg5.IsWhole) (arg6 : Memref sig .tc .vmem S256x1024 .bf16)
  (harg6 : arg6.IsWhole) (arg7 : Memref sig .tc .vmem S256x1024 .bf16) (harg7 : arg7.IsWhole)
  (arg8 : Memref sig .tc .vmem S256x1024 .bf16) (harg8 : arg8.IsWhole) (arg9 : Memref sig .tc .vmem S512x1024 .bf16)
  (harg9 : arg9.IsWhole) (arg10 : Memref sig .tc .vmem S512x1024 .bf16) (harg10 : arg10.IsWhole)
  (arg11 : Memref sig .tc .vmem S512x1024 .bf16) (harg11 : arg11.IsWhole)
  (arg12 : Memref sig .tc .vmem S256x512 .bf16) (harg12 : arg12.IsWhole) (arg13 : Memref sig .tc .vmem S256x512 .bf16)
  (harg13 : arg13.IsWhole) (arg14 : Memref sig .tc .vmem S256x512 .bf16) (harg14 : arg14.IsWhole)
  (arg15 : Memref sig .tc .vmem S256x1024 .bf16) (harg15 : arg15.IsWhole) (arg16 : Memref sig .tc .vmem S256x512 .f32)
  (harg16 : arg16.IsWhole) (arg17 : Memref sig .tc .vmem S256x512 .f32) (harg17 : arg17.IsWhole)
  (arg18 : Memref sig .tc .vmem S256x512 .f32) (harg18 : arg18.IsWhole) (arg19 : Memref sig .tc .vmem S256x3072 .bf16)
  (harg19 : arg19.IsWhole) (arg20 : Memref sig .tc .vmem S8x1024 .f32) (harg20 : arg20.IsWhole)
  (arg21 : Memref sig .tc .vmem S512x1024 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1024x1024 .bf16) (harg24 : arg24.IsWhole)
  (arg25 : Memref sig .tc .vmem S3x512x1024 .f32) (harg25 : arg25.IsWhole)
  (arg26 : Memref sig .tc .vmem S1024x1024 .f32) (harg26 : arg26.IsWhole)
-- what the inputs hold
variable (x0 : Vec F S256x1024 .f32) (x1 : Vec F S256x1024 .bf16) (x2 : Vec F S1x1024 .f32)
  (x3 : Vec F S1024x1024 .bf16) (x4 : Vec F S256x3072 .bf16) (x5 : Vec F S256x1024 .bf16) (x6 : Vec F S256x1024 .bf16)
  (x7 : Vec F S256x1024 .bf16) (x8 : Vec F S512x1024 .bf16) (x9 : Vec F S512x1024 .bf16) (x10 : Vec F S512x1024 .bf16)
  (x11 : Vec F S256x512 .bf16) (x12 : Vec F S256x512 .bf16) (x13 : Vec F S256x512 .bf16) (x14 : Vec F S256x1024 .bf16)

-- the body makes some two hundred loads, stores and products on 26 buffers, and its term takes more than the
-- default number of steps to check
set_option maxHeartbeats 6000000 in
/-- At the first grid point, the stores the body makes into each output and each accumulator, last store first,
    and the proof that the body runs to them. The row of sums and both accumulators may hold anything before; the four weight gradients are left alone. -/
def runFirst (hc0 : isFirst i) (hc1 : ¬isLast i) :
    Σ' (L15 : List (View.Piece (Elt F) S256x512 .f32)), Σ' (L16 : List (View.Piece (Elt F) S256x512 .f32)), Σ' (L17 :
      List (View.Piece (Elt F) S256x512 .f32)), Σ' (L18 : List (View.Piece (Elt F) S256x3072 .bf16)), Σ' (L19 : List
      (View.Piece (Elt F) S8x1024 .f32)), Σ' (L20 : List (View.Piece (Elt F) S512x1024 .bf16)), Σ' (L21 : List
      (View.Piece (Elt F) S512x1024 .bf16)), Σ' (L22 : List (View.Piece (Elt F) S512x1024 .bf16)), Σ' (L23 : List
      (View.Piece (Elt F) S1024x1024 .bf16)), Σ' (LS0 : List (View.Piece (Elt F) S3x512x1024 .f32)), { LS1 : List
      (View.Piece (Elt F) S1024x1024 .f32) //
      ∀ (xi20 : Vec F S512x1024 .bf16) (xi21 : Vec F S512x1024 .bf16) (xi22 : Vec F S512x1024 .bf16) (xi23 : Vec F
        S1024x1024 .bf16) (E : Set ℕ) (K : PUnit → sProp 𝕄),
        iprop(owns (c : Thread nD τ) arg1 fullShare x0 ∗ owns (c : Thread nD τ) arg2 fullShare x1 ∗ owns (c : Thread
          nD τ) arg3 fullShare x2 ∗ owns (c : Thread nD τ) arg4 fullShare x3 ∗ owns (c : Thread nD τ) arg5 fullShare
          x4 ∗ owns (c : Thread nD τ) arg6 fullShare x5 ∗ owns (c : Thread nD τ) arg7 fullShare x6 ∗ owns (c : Thread
          nD τ) arg8 fullShare x7 ∗ owns (c : Thread nD τ) arg9 fullShare x8 ∗ owns (c : Thread nD τ) arg10 fullShare
          x9 ∗ owns (c : Thread nD τ) arg11 fullShare x10 ∗ owns (c : Thread nD τ) arg12 fullShare x11 ∗ owns (c :
          Thread nD τ) arg13 fullShare x12 ∗ owns (c : Thread nD τ) arg14 fullShare x13 ∗ owns (c : Thread nD τ) arg15
          fullShare x14 ∗ (∃ d, owns (c : Thread nD τ) arg16 fullShare d) ∗ (∃ d, owns (c : Thread nD τ) arg17
          fullShare d) ∗ (∃ d, owns (c : Thread nD τ) arg18 fullShare d) ∗ (∃ d, owns (c : Thread nD τ) arg19
          fullShare d) ∗ (∃ d, owns (c : Thread nD τ) arg20 fullShare d) ∗ owns (c : Thread nD τ) arg21 fullShare xi20
          ∗ owns (c : Thread nD τ) arg22 fullShare xi21 ∗ owns (c : Thread nD τ) arg23 fullShare xi22 ∗ owns (c :
          Thread nD τ) arg24 fullShare xi23 ∗ (∃ d, owns (c : Thread nD τ) arg25 fullShare d) ∗ (∃ d, owns (c : Thread
          nD τ) arg26 fullShare d)
            ∗ (iprop(owns (c : Thread nD τ) arg1 fullShare x0 ∗ owns (c : Thread nD τ) arg2 fullShare x1 ∗ owns (c :
              Thread nD τ) arg3 fullShare x2 ∗ owns (c : Thread nD τ) arg4 fullShare x3 ∗ owns (c : Thread nD τ) arg5
              fullShare x4 ∗ owns (c : Thread nD τ) arg6 fullShare x5 ∗ owns (c : Thread nD τ) arg7 fullShare x6 ∗
              owns (c : Thread nD τ) arg8 fullShare x7 ∗ owns (c : Thread nD τ) arg9 fullShare x8 ∗ owns (c : Thread
              nD τ) arg10 fullShare x9 ∗ owns (c : Thread nD τ) arg11 fullShare x10 ∗ owns (c : Thread nD τ) arg12
              fullShare x11 ∗ owns (c : Thread nD τ) arg13 fullShare x12 ∗ owns (c : Thread nD τ) arg14 fullShare x13
              ∗ owns (c : Thread nD τ) arg15 fullShare x14 ∗ (∃ f, arg16.view.loc (c : Thread nD τ)
              ↦[arg16.view.set]{fullShare} arg16.view.writes (Elt F) f L15) ∗ (∃ f, arg17.view.loc (c : Thread nD τ)
              ↦[arg17.view.set]{fullShare} arg17.view.writes (Elt F) f L16) ∗ (∃ f, arg18.view.loc (c : Thread nD τ)
              ↦[arg18.view.set]{fullShare} arg18.view.writes (Elt F) f L17) ∗ (∃ f, arg19.view.loc (c : Thread nD τ)
              ↦[arg19.view.set]{fullShare} arg19.view.writes (Elt F) f L18) ∗ (∃ f, arg20.view.loc (c : Thread nD τ)
              ↦[arg20.view.set]{fullShare} arg20.view.writes (Elt F) f L19) ∗ owns (c : Thread nD τ) arg21 fullShare
              xi20 ∗ owns (c : Thread nD τ) arg22 fullShare xi21 ∗ owns (c : Thread nD τ) arg23 fullShare xi22 ∗ owns
              (c : Thread nD τ) arg24 fullShare xi23 ∗ (∃ f, arg25.view.loc (c : Thread nD τ)
              ↦[arg25.view.set]{fullShare} arg25.view.writes (Elt F) f LS0) ∗ (∃ f, arg26.view.loc (c : Thread nD τ)
              ↦[arg26.view.set]{fullShare} arg26.view.writes (Elt F) f LS1)) -∗ K ⟨⟩))
          ⊢ wp frame (wpE (defs₀ (F := F)) Variants.none c none) E (cc0_merge_bwd_l1 i arg1 harg1 arg2 harg2 arg3
            harg3 arg4 harg4 arg5 harg5 arg6 harg6 arg7 harg7 arg8 harg8 arg9 harg9 arg10 harg10 arg11 harg11 arg12
            harg12 arg13 harg13 arg14 harg14 arg15 harg15 arg16 harg16 arg17 harg17 arg18 harg18 arg19 harg19 arg20
            harg20 arg21 harg21 arg22 harg22 arg23 harg23 arg24 harg24 arg25 harg25 arg26 harg26) K } := by
  refine ⟨?_, ?_, ?_, ?_, ?_, [], [], [], [], ?_, ?_, fun xi20 xi21 xi22 xi23 E K => ?run⟩
  case run =>
    simp only [cc0_merge_bwd_l1_eq_skeleton]; unfold cc0_merge_bwd_l1_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%d15, %f15, -, H15⟩, ⟨%d16, %f16, -, H16⟩, ⟨%d17,
      %f17, -, H17⟩, ⟨%d18, %f18, -, H18⟩, ⟨%d19, %f19, -, H19⟩, ⟨%f20, %hf20, H20⟩, ⟨%f21, %hf21, H21⟩, ⟨%f22, %hf22,
      H22⟩, ⟨%f23, %hf23, H23⟩, ⟨%ds0, %fs0, -, HS0⟩, ⟨%ds1, %fs1, -, HS1⟩, Hk⟩
    obtain rfl := harg1.eq_unread hf0; obtain rfl := harg2.eq_unread hf1; obtain rfl := harg3.eq_unread hf2; obtain
      rfl := harg4.eq_unread hf3; obtain rfl := harg5.eq_unread hf4; obtain rfl := harg6.eq_unread hf5; obtain rfl :=
      harg7.eq_unread hf6; obtain rfl := harg8.eq_unread hf7; obtain rfl := harg9.eq_unread hf8; obtain rfl :=
      harg10.eq_unread hf9; obtain rfl := harg11.eq_unread hf10; obtain rfl := harg12.eq_unread hf11; obtain rfl :=
      harg13.eq_unread hf12; obtain rfl := harg14.eq_unread hf13; obtain rfl := harg15.eq_unread hf14; obtain rfl :=
      harg21.eq_unread hf20; obtain rfl := harg22.eq_unread hf21; obtain rfl := harg23.eq_unread hf22; obtain rfl :=
      harg24.eq_unread hf23
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [HS0]; · iexists _; iexact HS0
    iexists _; iexact HS1

end Cert.MergeBwd

end
-- ==== Proof.MergeBwd.RunMiddle.lean ====
/- The body of the gradient of the merge, run at a grid point between the first and the last. -/
module

public import proofs.«01_k».proof.Proof.MergeBwd.RunFirst

@[expose] public section

-- the blocks have axes of a thousand and more, along which the elaborator recurses
set_option maxRecDepth 16384

noncomputable section

namespace Cert.MergeBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the memrefs the body is called on, in the order of its windows and then of its two accumulators
variable (c : Dev nD) (i : grid0.Coords) (arg1 : Memref sig .tc .vmem S256x1024 .f32) (harg1 : arg1.IsWhole)
  (arg2 : Memref sig .tc .vmem S256x1024 .bf16) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S256x3072 .bf16) (harg5 : arg5.IsWhole) (arg6 : Memref sig .tc .vmem S256x1024 .bf16)
  (harg6 : arg6.IsWhole) (arg7 : Memref sig .tc .vmem S256x1024 .bf16) (harg7 : arg7.IsWhole)
  (arg8 : Memref sig .tc .vmem S256x1024 .bf16) (harg8 : arg8.IsWhole) (arg9 : Memref sig .tc .vmem S512x1024 .bf16)
  (harg9 : arg9.IsWhole) (arg10 : Memref sig .tc .vmem S512x1024 .bf16) (harg10 : arg10.IsWhole)
  (arg11 : Memref sig .tc .vmem S512x1024 .bf16) (harg11 : arg11.IsWhole)
  (arg12 : Memref sig .tc .vmem S256x512 .bf16) (harg12 : arg12.IsWhole) (arg13 : Memref sig .tc .vmem S256x512 .bf16)
  (harg13 : arg13.IsWhole) (arg14 : Memref sig .tc .vmem S256x512 .bf16) (harg14 : arg14.IsWhole)
  (arg15 : Memref sig .tc .vmem S256x1024 .bf16) (harg15 : arg15.IsWhole) (arg16 : Memref sig .tc .vmem S256x512 .f32)
  (harg16 : arg16.IsWhole) (arg17 : Memref sig .tc .vmem S256x512 .f32) (harg17 : arg17.IsWhole)
  (arg18 : Memref sig .tc .vmem S256x512 .f32) (harg18 : arg18.IsWhole) (arg19 : Memref sig .tc .vmem S256x3072 .bf16)
  (harg19 : arg19.IsWhole) (arg20 : Memref sig .tc .vmem S8x1024 .f32) (harg20 : arg20.IsWhole)
  (arg21 : Memref sig .tc .vmem S512x1024 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1024x1024 .bf16) (harg24 : arg24.IsWhole)
  (arg25 : Memref sig .tc .vmem S3x512x1024 .f32) (harg25 : arg25.IsWhole)
  (arg26 : Memref sig .tc .vmem S1024x1024 .f32) (harg26 : arg26.IsWhole)
-- what the inputs hold, then the row of sums and the two accumulators
variable (x0 : Vec F S256x1024 .f32) (x1 : Vec F S256x1024 .bf16) (x2 : Vec F S1x1024 .f32)
  (x3 : Vec F S1024x1024 .bf16) (x4 : Vec F S256x3072 .bf16) (x5 : Vec F S256x1024 .bf16) (x6 : Vec F S256x1024 .bf16)
  (x7 : Vec F S256x1024 .bf16) (x8 : Vec F S512x1024 .bf16) (x9 : Vec F S512x1024 .bf16) (x10 : Vec F S512x1024 .bf16)
  (x11 : Vec F S256x512 .bf16) (x12 : Vec F S256x512 .bf16) (x13 : Vec F S256x512 .bf16) (x14 : Vec F S256x1024 .bf16)
  (xo19 : Vec F S8x1024 .f32) (xs0 : Vec F S3x512x1024 .f32) (xs1 : Vec F S1024x1024 .f32)

-- the body makes some two hundred loads, stores and products on 26 buffers, and its term takes more than the
-- default number of steps to check
set_option maxHeartbeats 6000000 in
/-- At a point between the first and the last, the stores the body makes into each output and each accumulator, last store first,
    and the proof that the body runs to them. The row of sums and both accumulators are added to; the four weight gradients are left alone. -/
def runMiddle (hc0 : ¬isFirst i) (hc1 : ¬isLast i) :
    Σ' (L15 : List (View.Piece (Elt F) S256x512 .f32)), Σ' (L16 : List (View.Piece (Elt F) S256x512 .f32)), Σ' (L17 :
      List (View.Piece (Elt F) S256x512 .f32)), Σ' (L18 : List (View.Piece (Elt F) S256x3072 .bf16)), Σ' (L19 : List
      (View.Piece (Elt F) S8x1024 .f32)), Σ' (L20 : List (View.Piece (Elt F) S512x1024 .bf16)), Σ' (L21 : List
      (View.Piece (Elt F) S512x1024 .bf16)), Σ' (L22 : List (View.Piece (Elt F) S512x1024 .bf16)), Σ' (L23 : List
      (View.Piece (Elt F) S1024x1024 .bf16)), Σ' (LS0 : List (View.Piece (Elt F) S3x512x1024 .f32)), { LS1 : List
      (View.Piece (Elt F) S1024x1024 .f32) //
      ∀ (xi20 : Vec F S512x1024 .bf16) (xi21 : Vec F S512x1024 .bf16) (xi22 : Vec F S512x1024 .bf16) (xi23 : Vec F
        S1024x1024 .bf16) (E : Set ℕ) (K : PUnit → sProp 𝕄),
        iprop(owns (c : Thread nD τ) arg1 fullShare x0 ∗ owns (c : Thread nD τ) arg2 fullShare x1 ∗ owns (c : Thread
          nD τ) arg3 fullShare x2 ∗ owns (c : Thread nD τ) arg4 fullShare x3 ∗ owns (c : Thread nD τ) arg5 fullShare
          x4 ∗ owns (c : Thread nD τ) arg6 fullShare x5 ∗ owns (c : Thread nD τ) arg7 fullShare x6 ∗ owns (c : Thread
          nD τ) arg8 fullShare x7 ∗ owns (c : Thread nD τ) arg9 fullShare x8 ∗ owns (c : Thread nD τ) arg10 fullShare
          x9 ∗ owns (c : Thread nD τ) arg11 fullShare x10 ∗ owns (c : Thread nD τ) arg12 fullShare x11 ∗ owns (c :
          Thread nD τ) arg13 fullShare x12 ∗ owns (c : Thread nD τ) arg14 fullShare x13 ∗ owns (c : Thread nD τ) arg15
          fullShare x14 ∗ (∃ d, owns (c : Thread nD τ) arg16 fullShare d) ∗ (∃ d, owns (c : Thread nD τ) arg17
          fullShare d) ∗ (∃ d, owns (c : Thread nD τ) arg18 fullShare d) ∗ (∃ d, owns (c : Thread nD τ) arg19
          fullShare d) ∗ owns (c : Thread nD τ) arg20 fullShare xo19 ∗ owns (c : Thread nD τ) arg21 fullShare xi20 ∗
          owns (c : Thread nD τ) arg22 fullShare xi21 ∗ owns (c : Thread nD τ) arg23 fullShare xi22 ∗ owns (c : Thread
          nD τ) arg24 fullShare xi23 ∗ owns (c : Thread nD τ) arg25 fullShare xs0 ∗ owns (c : Thread nD τ) arg26
          fullShare xs1
            ∗ (iprop(owns (c : Thread nD τ) arg1 fullShare x0 ∗ owns (c : Thread nD τ) arg2 fullShare x1 ∗ owns (c :
              Thread nD τ) arg3 fullShare x2 ∗ owns (c : Thread nD τ) arg4 fullShare x3 ∗ owns (c : Thread nD τ) arg5
              fullShare x4 ∗ owns (c : Thread nD τ) arg6 fullShare x5 ∗ owns (c : Thread nD τ) arg7 fullShare x6 ∗
              owns (c : Thread nD τ) arg8 fullShare x7 ∗ owns (c : Thread nD τ) arg9 fullShare x8 ∗ owns (c : Thread
              nD τ) arg10 fullShare x9 ∗ owns (c : Thread nD τ) arg11 fullShare x10 ∗ owns (c : Thread nD τ) arg12
              fullShare x11 ∗ owns (c : Thread nD τ) arg13 fullShare x12 ∗ owns (c : Thread nD τ) arg14 fullShare x13
              ∗ owns (c : Thread nD τ) arg15 fullShare x14 ∗ (∃ f, arg16.view.loc (c : Thread nD τ)
              ↦[arg16.view.set]{fullShare} arg16.view.writes (Elt F) f L15) ∗ (∃ f, arg17.view.loc (c : Thread nD τ)
              ↦[arg17.view.set]{fullShare} arg17.view.writes (Elt F) f L16) ∗ (∃ f, arg18.view.loc (c : Thread nD τ)
              ↦[arg18.view.set]{fullShare} arg18.view.writes (Elt F) f L17) ∗ (∃ f, arg19.view.loc (c : Thread nD τ)
              ↦[arg19.view.set]{fullShare} arg19.view.writes (Elt F) f L18) ∗ (arg20.view.loc (c : Thread nD τ)
              ↦[arg20.view.set]{fullShare} arg20.view.writes (Elt F) (harg20.unread xo19) L19) ∗ owns (c : Thread nD
              τ) arg21 fullShare xi20 ∗ owns (c : Thread nD τ) arg22 fullShare xi21 ∗ owns (c : Thread nD τ) arg23
              fullShare xi22 ∗ owns (c : Thread nD τ) arg24 fullShare xi23 ∗ (∃ f, arg25.view.loc (c : Thread nD τ)
              ↦[arg25.view.set]{fullShare} arg25.view.writes (Elt F) f LS0) ∗ (∃ f, arg26.view.loc (c : Thread nD τ)
              ↦[arg26.view.set]{fullShare} arg26.view.writes (Elt F) f LS1)) -∗ K ⟨⟩))
          ⊢ wp frame (wpE (defs₀ (F := F)) Variants.none c none) E (cc0_merge_bwd_l1 i arg1 harg1 arg2 harg2 arg3
            harg3 arg4 harg4 arg5 harg5 arg6 harg6 arg7 harg7 arg8 harg8 arg9 harg9 arg10 harg10 arg11 harg11 arg12
            harg12 arg13 harg13 arg14 harg14 arg15 harg15 arg16 harg16 arg17 harg17 arg18 harg18 arg19 harg19 arg20
            harg20 arg21 harg21 arg22 harg22 arg23 harg23 arg24 harg24 arg25 harg25 arg26 harg26) K } := by
  refine ⟨?_, ?_, ?_, ?_, ?_, [], [], [], [], ?_, ?_, fun xi20 xi21 xi22 xi23 E K => ?run⟩
  case run =>
    simp only [cc0_merge_bwd_l1_eq_skeleton]; unfold cc0_merge_bwd_l1_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%d15, %f15, -, H15⟩, ⟨%d16, %f16, -, H16⟩, ⟨%d17,
      %f17, -, H17⟩, ⟨%d18, %f18, -, H18⟩, ⟨%f19, %hf19, H19⟩, ⟨%f20, %hf20, H20⟩, ⟨%f21, %hf21, H21⟩, ⟨%f22, %hf22,
      H22⟩, ⟨%f23, %hf23, H23⟩, ⟨%fs0, %hfs0, HS0⟩, ⟨%fs1, %hfs1, HS1⟩, Hk⟩
    obtain rfl := harg1.eq_unread hf0; obtain rfl := harg2.eq_unread hf1; obtain rfl := harg3.eq_unread hf2; obtain
      rfl := harg4.eq_unread hf3; obtain rfl := harg5.eq_unread hf4; obtain rfl := harg6.eq_unread hf5; obtain rfl :=
      harg7.eq_unread hf6; obtain rfl := harg8.eq_unread hf7; obtain rfl := harg9.eq_unread hf8; obtain rfl :=
      harg10.eq_unread hf9; obtain rfl := harg11.eq_unread hf10; obtain rfl := harg12.eq_unread hf11; obtain rfl :=
      harg13.eq_unread hf12; obtain rfl := harg14.eq_unread hf13; obtain rfl := harg15.eq_unread hf14; obtain rfl :=
      harg20.eq_unread hf19; obtain rfl := harg21.eq_unread hf20; obtain rfl := harg22.eq_unread hf21; obtain rfl :=
      harg23.eq_unread hf22; obtain rfl := harg24.eq_unread hf23; obtain rfl := harg25.eq_unread hfs0; obtain rfl :=
      harg26.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [HS0]; · iexists _; iexact HS0
    iexists _; iexact HS1

end Cert.MergeBwd

end
-- ==== Proof.MergeBwd.RunLast.lean ====
/- The body of the gradient of the merge, run at the last grid point: the accumulators are stored as the four weight gradients. -/
module

public import proofs.«01_k».proof.Proof.MergeBwd.RunMiddle

@[expose] public section

-- the blocks have axes of a thousand and more, along which the elaborator recurses
set_option maxRecDepth 16384

noncomputable section

namespace Cert.MergeBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- the memrefs the body is called on, in the order of its windows and then of its two accumulators
variable (c : Dev nD) (i : grid0.Coords) (arg1 : Memref sig .tc .vmem S256x1024 .f32) (harg1 : arg1.IsWhole)
  (arg2 : Memref sig .tc .vmem S256x1024 .bf16) (harg2 : arg2.IsWhole) (arg3 : Memref sig .tc .vmem S1x1024 .f32)
  (harg3 : arg3.IsWhole) (arg4 : Memref sig .tc .vmem S1024x1024 .bf16) (harg4 : arg4.IsWhole)
  (arg5 : Memref sig .tc .vmem S256x3072 .bf16) (harg5 : arg5.IsWhole) (arg6 : Memref sig .tc .vmem S256x1024 .bf16)
  (harg6 : arg6.IsWhole) (arg7 : Memref sig .tc .vmem S256x1024 .bf16) (harg7 : arg7.IsWhole)
  (arg8 : Memref sig .tc .vmem S256x1024 .bf16) (harg8 : arg8.IsWhole) (arg9 : Memref sig .tc .vmem S512x1024 .bf16)
  (harg9 : arg9.IsWhole) (arg10 : Memref sig .tc .vmem S512x1024 .bf16) (harg10 : arg10.IsWhole)
  (arg11 : Memref sig .tc .vmem S512x1024 .bf16) (harg11 : arg11.IsWhole)
  (arg12 : Memref sig .tc .vmem S256x512 .bf16) (harg12 : arg12.IsWhole) (arg13 : Memref sig .tc .vmem S256x512 .bf16)
  (harg13 : arg13.IsWhole) (arg14 : Memref sig .tc .vmem S256x512 .bf16) (harg14 : arg14.IsWhole)
  (arg15 : Memref sig .tc .vmem S256x1024 .bf16) (harg15 : arg15.IsWhole) (arg16 : Memref sig .tc .vmem S256x512 .f32)
  (harg16 : arg16.IsWhole) (arg17 : Memref sig .tc .vmem S256x512 .f32) (harg17 : arg17.IsWhole)
  (arg18 : Memref sig .tc .vmem S256x512 .f32) (harg18 : arg18.IsWhole) (arg19 : Memref sig .tc .vmem S256x3072 .bf16)
  (harg19 : arg19.IsWhole) (arg20 : Memref sig .tc .vmem S8x1024 .f32) (harg20 : arg20.IsWhole)
  (arg21 : Memref sig .tc .vmem S512x1024 .bf16) (harg21 : arg21.IsWhole)
  (arg22 : Memref sig .tc .vmem S512x1024 .bf16) (harg22 : arg22.IsWhole)
  (arg23 : Memref sig .tc .vmem S512x1024 .bf16) (harg23 : arg23.IsWhole)
  (arg24 : Memref sig .tc .vmem S1024x1024 .bf16) (harg24 : arg24.IsWhole)
  (arg25 : Memref sig .tc .vmem S3x512x1024 .f32) (harg25 : arg25.IsWhole)
  (arg26 : Memref sig .tc .vmem S1024x1024 .f32) (harg26 : arg26.IsWhole)
-- what the inputs hold, then the row of sums and the two accumulators
variable (x0 : Vec F S256x1024 .f32) (x1 : Vec F S256x1024 .bf16) (x2 : Vec F S1x1024 .f32)
  (x3 : Vec F S1024x1024 .bf16) (x4 : Vec F S256x3072 .bf16) (x5 : Vec F S256x1024 .bf16) (x6 : Vec F S256x1024 .bf16)
  (x7 : Vec F S256x1024 .bf16) (x8 : Vec F S512x1024 .bf16) (x9 : Vec F S512x1024 .bf16) (x10 : Vec F S512x1024 .bf16)
  (x11 : Vec F S256x512 .bf16) (x12 : Vec F S256x512 .bf16) (x13 : Vec F S256x512 .bf16) (x14 : Vec F S256x1024 .bf16)
  (xo19 : Vec F S8x1024 .f32) (xs0 : Vec F S3x512x1024 .f32) (xs1 : Vec F S1024x1024 .f32)

-- the body makes some two hundred loads, stores and products on 26 buffers, and its term takes more than the
-- default number of steps to check
set_option maxHeartbeats 6000000 in
/-- At the last grid point, the stores the body makes into each output and each accumulator, last store first,
    and the proof that the body runs to them. The row of sums and both accumulators are added to, and the accumulators are then stored as the four weight gradients. -/
def runLast (hc0 : ¬isFirst i) (hc1 : isLast i) :
    Σ' (L15 : List (View.Piece (Elt F) S256x512 .f32)), Σ' (L16 : List (View.Piece (Elt F) S256x512 .f32)), Σ' (L17 :
      List (View.Piece (Elt F) S256x512 .f32)), Σ' (L18 : List (View.Piece (Elt F) S256x3072 .bf16)), Σ' (L19 : List
      (View.Piece (Elt F) S8x1024 .f32)), Σ' (L20 : List (View.Piece (Elt F) S512x1024 .bf16)), Σ' (L21 : List
      (View.Piece (Elt F) S512x1024 .bf16)), Σ' (L22 : List (View.Piece (Elt F) S512x1024 .bf16)), Σ' (L23 : List
      (View.Piece (Elt F) S1024x1024 .bf16)), Σ' (LS0 : List (View.Piece (Elt F) S3x512x1024 .f32)), { LS1 : List
      (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread
          nD τ) arg3 fullShare x2 ∗ owns (c : Thread nD τ) arg4 fullShare x3 ∗ owns (c : Thread nD τ) arg5 fullShare
          x4 ∗ owns (c : Thread nD τ) arg6 fullShare x5 ∗ owns (c : Thread nD τ) arg7 fullShare x6 ∗ owns (c : Thread
          nD τ) arg8 fullShare x7 ∗ owns (c : Thread nD τ) arg9 fullShare x8 ∗ owns (c : Thread nD τ) arg10 fullShare
          x9 ∗ owns (c : Thread nD τ) arg11 fullShare x10 ∗ owns (c : Thread nD τ) arg12 fullShare x11 ∗ owns (c :
          Thread nD τ) arg13 fullShare x12 ∗ owns (c : Thread nD τ) arg14 fullShare x13 ∗ owns (c : Thread nD τ) arg15
          fullShare x14 ∗ (∃ d, owns (c : Thread nD τ) arg16 fullShare d) ∗ (∃ d, owns (c : Thread nD τ) arg17
          fullShare d) ∗ (∃ d, owns (c : Thread nD τ) arg18 fullShare d) ∗ (∃ d, owns (c : Thread nD τ) arg19
          fullShare d) ∗ owns (c : Thread nD τ) arg20 fullShare xo19 ∗ (∃ d, owns (c : Thread nD τ) arg21 fullShare d)
          ∗ (∃ d, owns (c : Thread nD τ) arg22 fullShare d) ∗ (∃ d, owns (c : Thread nD τ) arg23 fullShare d) ∗ (∃ d,
          owns (c : Thread nD τ) arg24 fullShare d) ∗ owns (c : Thread nD τ) arg25 fullShare xs0 ∗ owns (c : Thread nD
          τ) arg26 fullShare xs1
            ∗ (iprop(owns (c : Thread nD τ) arg1 fullShare x0 ∗ owns (c : Thread nD τ) arg2 fullShare x1 ∗ owns (c :
              Thread nD τ) arg3 fullShare x2 ∗ owns (c : Thread nD τ) arg4 fullShare x3 ∗ owns (c : Thread nD τ) arg5
              fullShare x4 ∗ owns (c : Thread nD τ) arg6 fullShare x5 ∗ owns (c : Thread nD τ) arg7 fullShare x6 ∗
              owns (c : Thread nD τ) arg8 fullShare x7 ∗ owns (c : Thread nD τ) arg9 fullShare x8 ∗ owns (c : Thread
              nD τ) arg10 fullShare x9 ∗ owns (c : Thread nD τ) arg11 fullShare x10 ∗ owns (c : Thread nD τ) arg12
              fullShare x11 ∗ owns (c : Thread nD τ) arg13 fullShare x12 ∗ owns (c : Thread nD τ) arg14 fullShare x13
              ∗ owns (c : Thread nD τ) arg15 fullShare x14 ∗ (∃ f, arg16.view.loc (c : Thread nD τ)
              ↦[arg16.view.set]{fullShare} arg16.view.writes (Elt F) f L15) ∗ (∃ f, arg17.view.loc (c : Thread nD τ)
              ↦[arg17.view.set]{fullShare} arg17.view.writes (Elt F) f L16) ∗ (∃ f, arg18.view.loc (c : Thread nD τ)
              ↦[arg18.view.set]{fullShare} arg18.view.writes (Elt F) f L17) ∗ (∃ f, arg19.view.loc (c : Thread nD τ)
              ↦[arg19.view.set]{fullShare} arg19.view.writes (Elt F) f L18) ∗ (arg20.view.loc (c : Thread nD τ)
              ↦[arg20.view.set]{fullShare} arg20.view.writes (Elt F) (harg20.unread xo19) L19) ∗ (∃ f, arg21.view.loc
              (c : Thread nD τ) ↦[arg21.view.set]{fullShare} arg21.view.writes (Elt F) f L20) ∗ (∃ f, arg22.view.loc
              (c : Thread nD τ) ↦[arg22.view.set]{fullShare} arg22.view.writes (Elt F) f L21) ∗ (∃ f, arg23.view.loc
              (c : Thread nD τ) ↦[arg23.view.set]{fullShare} arg23.view.writes (Elt F) f L22) ∗ (∃ f, arg24.view.loc
              (c : Thread nD τ) ↦[arg24.view.set]{fullShare} arg24.view.writes (Elt F) f L23) ∗ (∃ f, arg25.view.loc
              (c : Thread nD τ) ↦[arg25.view.set]{fullShare} arg25.view.writes (Elt F) f LS0) ∗ (∃ f, arg26.view.loc
              (c : Thread nD τ) ↦[arg26.view.set]{fullShare} arg26.view.writes (Elt F) f LS1)) -∗ K ⟨⟩))
          ⊢ wp frame (wpE (defs₀ (F := F)) Variants.none c none) E (cc0_merge_bwd_l1 i arg1 harg1 arg2 harg2 arg3
            harg3 arg4 harg4 arg5 harg5 arg6 harg6 arg7 harg7 arg8 harg8 arg9 harg9 arg10 harg10 arg11 harg11 arg12
            harg12 arg13 harg13 arg14 harg14 arg15 harg15 arg16 harg16 arg17 harg17 arg18 harg18 arg19 harg19 arg20
            harg20 arg21 harg21 arg22 harg22 arg23 harg23 arg24 harg24 arg25 harg25 arg26 harg26) K } := by
  refine ⟨?_, ?_, ?_, ?_, ?_, ?_, ?_, ?_, ?_, ?_, ?_, fun E K => ?run⟩
  case run =>
    simp only [cc0_merge_bwd_l1_eq_skeleton]; unfold cc0_merge_bwd_l1_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%d15, %f15, -, H15⟩, ⟨%d16, %f16, -, H16⟩, ⟨%d17,
      %f17, -, H17⟩, ⟨%d18, %f18, -, H18⟩, ⟨%f19, %hf19, H19⟩, ⟨%d20, %f20, -, H20⟩, ⟨%d21, %f21, -, H21⟩, ⟨%d22,
      %f22, -, H22⟩, ⟨%d23, %f23, -, H23⟩, ⟨%fs0, %hfs0, HS0⟩, ⟨%fs1, %hfs1, HS1⟩, Hk⟩
    obtain rfl := harg1.eq_unread hf0; obtain rfl := harg2.eq_unread hf1; obtain rfl := harg3.eq_unread hf2; obtain
      rfl := harg4.eq_unread hf3; obtain rfl := harg5.eq_unread hf4; obtain rfl := harg6.eq_unread hf5; obtain rfl :=
      harg7.eq_unread hf6; obtain rfl := harg8.eq_unread hf7; obtain rfl := harg9.eq_unread hf8; obtain rfl :=
      harg10.eq_unread hf9; obtain rfl := harg11.eq_unread hf10; obtain rfl := harg12.eq_unread hf11; obtain rfl :=
      harg13.eq_unread hf12; obtain rfl := harg14.eq_unread hf13; obtain rfl := harg15.eq_unread hf14; obtain rfl :=
      harg20.eq_unread hf19; obtain rfl := harg25.eq_unread hfs0; obtain rfl := harg26.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexact H19
    isplitl [H20]; · iexists _; iexact H20
    isplitl [H21]; · iexists _; iexact H21
    isplitl [H22]; · iexists _; iexact H22
    isplitl [H23]; · iexists _; iexact H23
    isplitl [HS0]; · iexists _; iexact HS0
    iexists _; iexact HS1

end Cert.MergeBwd

end
-- ==== Proof.MergeBwd.Frame.lean ====
/- The gradient of the merge, over any float values: what its body leaves at each grid point, and the run of the
   whole program. The accumulators pass from point to point; `left` follows them. -/
module

public import proofs.«01_k».proof.Proof.MergeBwd.RunLast
public import Idealize.ShloMosaic.Lib.Claim

@[expose] public section

-- the blocks have axes of a thousand and more, along which the elaborator recurses
set_option maxRecDepth 16384

noncomputable section

namespace Cert.MergeBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves at a point -/

/-- What the outputs' buffers and the two accumulators hold after a point. -/
structure Left (F : FTy → Type) [FloatOps F] where
  dya : Vec F S256x512 .f32
  dys : Vec F S256x512 .f32
  dyp : Vec F S256x512 .f32
  dpg : Vec F S256x3072 .bf16
  sums : Vec F S8x1024 .f32
  dwa : Vec F S512x1024 .bf16
  dws : Vec F S512x1024 .bf16
  dwp : Vec F S512x1024 .bf16
  dwo : Vec F S1024x1024 .bf16
  br : Vec F S3x512x1024 .f32
  out : Vec F S1024x1024 .f32

/-- What the stores `L` leave in a buffer that held `x`. -/
abbrev leavesOver {S : Shape} {e : EltTy} (M : Memref sig .tc .vmem S e) (hM : M.IsWhole) (x : Vec F S e)
    (L : List (View.Piece (Elt F) S e)) : Vec F S e :=
  M.view.read (Elt F) (M.view.writes (Elt F) (hM.unread x) L)

/-- The stores at the first point, on that point's buffers and blocks; -/
def firstAt (c : Dev nD) (t : Fin cfg0.N) (h0 : t.val % 16 = 0) :=
  runFirst (F := F) c (grid0.coords t)
    (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (ms9 t) (hs9 t) (ms10 t) (hs10 t) (ms11 t) (hs11 t) (ms12 t) (hs12 t) (ms13 t)
    (hs13 t) (ms14 t) (hs14 t) (ms15 t) (hs15 t) (ms16 t) (hs16 t) (ms17 t) (hs17 t) (ms18 t) (hs18 t) (ms19 t)
    (hs19 t) (ms20 t) (hs20 t) (ms21 t) (hs21 t) (ms22 t) (hs22 t) (ms23 t) (hs23 t) accBr (Memref.isWhole_whole _)
    accOut (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t)
    ((isFirst_iff t).mpr h0) (fun h => by have := (isLast_iff t).mp h; omega)

/-- at a point between, after `o`; -/
def middleAt (c : Dev nD) (t : Fin cfg0.N) (h0 : ¬t.val % 16 = 0) (h1 : ¬t.val % 16 = 15) (o : Left F) :=
  runMiddle (F := F) c (grid0.coords t)
    (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (ms9 t) (hs9 t) (ms10 t) (hs10 t) (ms11 t) (hs11 t) (ms12 t) (hs12 t) (ms13 t)
    (hs13 t) (ms14 t) (hs14 t) (ms15 t) (hs15 t) (ms16 t) (hs16 t) (ms17 t) (hs17 t) (ms18 t) (hs18 t) (ms19 t)
    (hs19 t) (ms20 t) (hs20 t) (ms21 t) (hs21 t) (ms22 t) (hs22 t) (ms23 t) (hs23 t) accBr (Memref.isWhole_whole _)
    accOut (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t)
    o.sums o.br o.out (fun h => h0 ((isFirst_iff t).mp h)) (fun h => h1 ((isLast_iff t).mp h))

/-- and at the last point, after `o`. -/
def lastAt (c : Dev nD) (t : Fin cfg0.N) (h1 : t.val % 16 = 15) (o : Left F) :=
  runLast (F := F) c (grid0.coords t)
    (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) (ms9 t) (hs9 t) (ms10 t) (hs10 t) (ms11 t) (hs11 t) (ms12 t) (hs12 t) (ms13 t)
    (hs13 t) (ms14 t) (hs14 t) (ms15 t) (hs15 t) (ms16 t) (hs16 t) (ms17 t) (hs17 t) (ms18 t) (hs18 t) (ms19 t)
    (hs19 t) (ms20 t) (hs20 t) (ms21 t) (hs21 t) (ms22 t) (hs22 t) (ms23 t) (hs23 t) accBr (Memref.isWhole_whole _)
    accOut (Memref.isWhole_whole _)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t)
    o.sums o.br o.out (fun h => by have := (isFirst_iff t).mp h; omega) ((isLast_iff t).mpr h1)

/-- What the body leaves at the first point, -/
def first (c : Dev nD) (t : Fin cfg0.N) (h0 : t.val % 16 = 0) : Left F where
  dya := leaves (ms15 t) (firstAt m c t h0).1
  dys := leaves (ms16 t) (firstAt m c t h0).2.1
  dyp := leaves (ms17 t) (firstAt m c t h0).2.2.1
  dpg := leaves (ms18 t) (firstAt m c t h0).2.2.2.1
  sums := leaves (ms19 t) (firstAt m c t h0).2.2.2.2.1
  dwa := leaves (ms20 t) (firstAt m c t h0).2.2.2.2.2.1
  dws := leaves (ms21 t) (firstAt m c t h0).2.2.2.2.2.2.1
  dwp := leaves (ms22 t) (firstAt m c t h0).2.2.2.2.2.2.2.1
  dwo := leaves (ms23 t) (firstAt m c t h0).2.2.2.2.2.2.2.2.1
  br := leaves accBr (firstAt m c t h0).2.2.2.2.2.2.2.2.2.1
  out := leaves accOut (firstAt m c t h0).2.2.2.2.2.2.2.2.2.2.1

/-- at a point between, after `o`, -/
def middle (c : Dev nD) (t : Fin cfg0.N) (h0 : ¬t.val % 16 = 0) (h1 : ¬t.val % 16 = 15) (o : Left F) : Left F where
  dya := leaves (ms15 t) (middleAt m c t h0 h1 o).1
  dys := leaves (ms16 t) (middleAt m c t h0 h1 o).2.1
  dyp := leaves (ms17 t) (middleAt m c t h0 h1 o).2.2.1
  dpg := leaves (ms18 t) (middleAt m c t h0 h1 o).2.2.2.1
  sums := leavesOver (ms19 t) (hs19 t) o.sums (middleAt m c t h0 h1 o).2.2.2.2.1
  dwa := leaves (ms20 t) (middleAt m c t h0 h1 o).2.2.2.2.2.1
  dws := leaves (ms21 t) (middleAt m c t h0 h1 o).2.2.2.2.2.2.1
  dwp := leaves (ms22 t) (middleAt m c t h0 h1 o).2.2.2.2.2.2.2.1
  dwo := leaves (ms23 t) (middleAt m c t h0 h1 o).2.2.2.2.2.2.2.2.1
  br := leaves accBr (middleAt m c t h0 h1 o).2.2.2.2.2.2.2.2.2.1
  out := leaves accOut (middleAt m c t h0 h1 o).2.2.2.2.2.2.2.2.2.2.1

/-- and at the last point, after `o`. -/
def last (c : Dev nD) (t : Fin cfg0.N) (h1 : t.val % 16 = 15) (o : Left F) : Left F where
  dya := leaves (ms15 t) (lastAt m c t h1 o).1
  dys := leaves (ms16 t) (lastAt m c t h1 o).2.1
  dyp := leaves (ms17 t) (lastAt m c t h1 o).2.2.1
  dpg := leaves (ms18 t) (lastAt m c t h1 o).2.2.2.1
  sums := leavesOver (ms19 t) (hs19 t) o.sums (lastAt m c t h1 o).2.2.2.2.1
  dwa := leaves (ms20 t) (lastAt m c t h1 o).2.2.2.2.2.1
  dws := leaves (ms21 t) (lastAt m c t h1 o).2.2.2.2.2.2.1
  dwp := leaves (ms22 t) (lastAt m c t h1 o).2.2.2.2.2.2.2.1
  dwo := leaves (ms23 t) (lastAt m c t h1 o).2.2.2.2.2.2.2.2.1
  br := leaves accBr (lastAt m c t h1 o).2.2.2.2.2.2.2.2.2.1
  out := leaves accOut (lastAt m c t h1 o).2.2.2.2.2.2.2.2.2.2.1

/-- What the body leaves at each point, from the first on. -/
def left (c : Dev nD) : (n : ℕ) → n < cfg0.N → Left F
  | 0, hn => first m c ⟨0, hn⟩ rfl
  | n + 1, hn =>
    if h1 : (n + 1) % 16 = 15 then last m c ⟨n + 1, hn⟩ h1 (left c n (Nat.lt_of_succ_lt hn))
    else middle m c ⟨n + 1, hn⟩ (by have := lt_points ⟨n + 1, hn⟩; dsimp only at this ⊢; omega) h1
      (left c n (Nat.lt_of_succ_lt hn))

/-- What the point before `t` left. -/
abbrev leftBefore (c : Dev nD) (t : Fin cfg0.N) : Left F :=
  left m c (t.val - 1) (Nat.lt_of_le_of_lt (Nat.sub_le _ _) t.isLt)

theorem left_first (c : Dev nD) (t : Fin cfg0.N) (h0 : t.val % 16 = 0) :
    left m c t.val t.isLt = first m c t h0 := by
  have ht := lt_points t
  obtain ⟨n, hn⟩ := t
  cases n with
  | zero => rfl
  | succ n => exfalso; dsimp only at h0 ht; omega

theorem left_middle (c : Dev nD) (t : Fin cfg0.N) (h0 : ¬t.val % 16 = 0) (h1 : ¬t.val % 16 = 15) :
    left m c t.val t.isLt = middle m c t h0 h1 (leftBefore m c t) := by
  obtain ⟨n, hn⟩ := t
  cases n with
  | zero => exact absurd rfl h0
  | succ n => exact dif_neg h1

theorem left_last (c : Dev nD) (t : Fin cfg0.N) (h1 : t.val % 16 = 15) :
    left m c t.val t.isLt = last m c t h1 (leftBefore m c t) := by
  obtain ⟨n, hn⟩ := t
  cases n with
  | zero => exact absurd (show 0 % 16 = 15 from h1) (by decide)
  | succ n => exact dif_pos h1

/-! ## The buffers between the points -/

/-- Before the first point the accumulators hold anything, and then what the point before left. -/
def between (c : Dev nD) : (n : ℕ) → n ≤ cfg0.N → sProp 𝕄
  | 0, _ => Pipeline.ΦA spec0 c
  | n + 1, hn => iprop(iprop(owns (c : Thread nD τ) accBr fullShare (left m c n hn).br
      ∗ owns (c : Thread nD τ) accOut fullShare (left m c n hn).out) ∗ (∃ r, prngReg c r))

theorem between_succ (c : Dev nD) (t : Fin cfg0.N) : between m c (t.val + 1) t.isLt
      = iprop(iprop(owns (c : Thread nD τ) accBr fullShare (left m c t.val t.isLt).br
      ∗ owns (c : Thread nD τ) accOut fullShare (left m c t.val t.isLt).out) ∗ (∃ r, prngReg c r)) := rfl

theorem between_pos (c : Dev nD) (n : ℕ) (h : n ≤ cfg0.N) (hz : n ≠ 0) :
    between m c n h = iprop(iprop(owns (c : Thread nD τ) accBr fullShare (left m c (n - 1) (by omega)).br
      ∗ owns (c : Thread nD τ) accOut fullShare (left m c (n - 1) (by omega)).out) ∗ (∃ r, prngReg c r)) := by
  cases n with
  | zero => exact absurd rfl hz
  | succ n => rfl

/-- What the pipeline's buffers hold: an input its block, an output what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (left m c t.val t.isLt).dya
    | ⟨16, _⟩ => (left m c t.val t.isLt).dys
    | ⟨17, _⟩ => (left m c t.val t.isLt).dyp
    | ⟨18, _⟩ => (left m c t.val t.isLt).dpg
    | ⟨19, _⟩ => (left m c t.val t.isLt).sums
    | ⟨20, _⟩ => (left m c t.val t.isLt).dwa
    | ⟨21, _⟩ => (left m c t.val t.isLt).dws
    | ⟨22, _⟩ => (left m c t.val t.isLt).dwp
    | ⟨23, _⟩ => (left m c t.val t.isLt).dwo
    | ⟨_ + 24, h⟩ => absurd h (Nat.not_lt.2 (Nat.le_add_left _ _))
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_eq (c : Dev nD) (t : Fin cfg0.N) :
    (dats m 0 c).Φ t.castSucc = between m c t.val (Nat.le_of_lt t.isLt) := by
  dsimp only [dats]; exact Pipeline.Dat.Φ_castSucc (between m c) t

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d

/-- The row of sums is not written back between the points, so its buffer still holds what the point before left. -/
theorem before19 (c : Dev nD) (t : Fin cfg0.N) (h0 : ¬t.val % 16 = 0) (d) :
    (dats m 0 c).before 19 t d = (leftBefore m c t).sums := by
  have ht := lt_points t
  rw [Dat.before_out_kept _ 19 rfl t (by omega)
    (Bool.eq_false_iff.mpr fun h => by have := (flush0_19 _).mp h; dsimp only at this; omega)
    (fun _ => rfl) (fun _ _ => rfl)]
  dsimp only [dats]

/-- A window used at a point is left at what the body leaves there. -/
theorem leaves_live (c : Dev nD) (w : Fin 24) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- A window left alone at a point is left as found. -/
theorem leaves_idle (c : Dev nD) (w : Fin 24) (hw : 20 ≤ w.val) (t : Fin cfg0.N) (h1 : ¬t.val % 16 = 15) :
    (dats m 0 c).leavesExact w t
      = iprop(∃ d, owns (c : Thread nD τ) ((cfg0.win w).stage (cfg0.slots t w)) fullShare ((dats m 0 c).before w t d)) :=
  Dat.leavesExact_idle _ w t (idle w hw t h1) (noFlush w hw t h1)

/-- So an input is left at its block, an output at what the body leaves, -/
theorem leaves0 (c : Dev nD) (t : Fin cfg0.N) :
    (dats m 0 c).leavesExact 0 t = owns (c : Thread nD τ) (ms0 t) fullShare (iblk m c 0 t) :=
  leaves_live m c 0 t (live 0 (by decide) t)
theorem leaves1 (c : Dev nD) (t : Fin cfg0.N) :
    (dats m 0 c).leavesExact 1 t = owns (c : Thread nD τ) (ms1 t) fullShare (iblk m c 1 t) :=
  leaves_live m c 1 t (live 1 (by decide) t)
theorem leaves2 (c : Dev nD) (t : Fin cfg0.N) :
    (dats m 0 c).leavesExact 2 t = owns (c : Thread nD τ) (ms2 t) fullShare (iblk m c 2 t) :=
  leaves_live m c 2 t (live 2 (by decide) t)
theorem leaves3 (c : Dev nD) (t : Fin cfg0.N) :
    (dats m 0 c).leavesExact 3 t = owns (c : Thread nD τ) (ms3 t) fullShare (iblk m c 3 t) :=
  leaves_live m c 3 t (live 3 (by decide) t)
theorem leaves4 (c : Dev nD) (t : Fin cfg0.N) :
    (dats m 0 c).leavesExact 4 t = owns (c : Thread nD τ) (ms4 t) fullShare (iblk m c 4 t) :=
  leaves_live m c 4 t (live 4 (by decide) t)
theorem leaves5 (c : Dev nD) (t : Fin cfg0.N) :
    (dats m 0 c).leavesExact 5 t = owns (c : Thread nD τ) (ms5 t) fullShare (iblk m c 5 t) :=
  leaves_live m c 5 t (live 5 (by decide) t)
theorem leaves6 (c : Dev nD) (t : Fin cfg0.N) :
    (dats m 0 c).leavesExact 6 t = owns (c : Thread nD τ) (ms6 t) fullShare (iblk m c 6 t) :=
  leaves_live m c 6 t (live 6 (by decide) t)
theorem leaves7 (c : Dev nD) (t : Fin cfg0.N) :
    (dats m 0 c).leavesExact 7 t = owns (c : Thread nD τ) (ms7 t) fullShare (iblk m c 7 t) :=
  leaves_live m c 7 t (live 7 (by decide) t)
theorem leaves8 (c : Dev nD) (t : Fin cfg0.N) :
    (dats m 0 c).leavesExact 8 t = owns (c : Thread nD τ) (ms8 t) fullShare (iblk m c 8 t) :=
  leaves_live m c 8 t (live 8 (by decide) t)
theorem leaves9 (c : Dev nD) (t : Fin cfg0.N) :
    (dats m 0 c).leavesExact 9 t = owns (c : Thread nD τ) (ms9 t) fullShare (iblk m c 9 t) :=
  leaves_live m c 9 t (live 9 (by decide) t)
theorem leaves10 (c : Dev nD) (t : Fin cfg0.N) :
    (dats m 0 c).leavesExact 10 t = owns (c : Thread nD τ) (ms10 t) fullShare (iblk m c 10 t) :=
  leaves_live m c 10 t (live 10 (by decide) t)
theorem leaves11 (c : Dev nD) (t : Fin cfg0.N) :
    (dats m 0 c).leavesExact 11 t = owns (c : Thread nD τ) (ms11 t) fullShare (iblk m c 11 t) :=
  leaves_live m c 11 t (live 11 (by decide) t)
theorem leaves12 (c : Dev nD) (t : Fin cfg0.N) :
    (dats m 0 c).leavesExact 12 t = owns (c : Thread nD τ) (ms12 t) fullShare (iblk m c 12 t) :=
  leaves_live m c 12 t (live 12 (by decide) t)
theorem leaves13 (c : Dev nD) (t : Fin cfg0.N) :
    (dats m 0 c).leavesExact 13 t = owns (c : Thread nD τ) (ms13 t) fullShare (iblk m c 13 t) :=
  leaves_live m c 13 t (live 13 (by decide) t)
theorem leaves14 (c : Dev nD) (t : Fin cfg0.N) :
    (dats m 0 c).leavesExact 14 t = owns (c : Thread nD τ) (ms14 t) fullShare (iblk m c 14 t) :=
  leaves_live m c 14 t (live 14 (by decide) t)
theorem leaves15 (c : Dev nD) (t : Fin cfg0.N) :
    (dats m 0 c).leavesExact 15 t = owns (c : Thread nD τ) (ms15 t) fullShare (left m c t.val t.isLt).dya :=
  leaves_live m c 15 t (live 15 (by decide) t)
theorem leaves16 (c : Dev nD) (t : Fin cfg0.N) :
    (dats m 0 c).leavesExact 16 t = owns (c : Thread nD τ) (ms16 t) fullShare (left m c t.val t.isLt).dys :=
  leaves_live m c 16 t (live 16 (by decide) t)
theorem leaves17 (c : Dev nD) (t : Fin cfg0.N) :
    (dats m 0 c).leavesExact 17 t = owns (c : Thread nD τ) (ms17 t) fullShare (left m c t.val t.isLt).dyp :=
  leaves_live m c 17 t (live 17 (by decide) t)
theorem leaves18 (c : Dev nD) (t : Fin cfg0.N) :
    (dats m 0 c).leavesExact 18 t = owns (c : Thread nD τ) (ms18 t) fullShare (left m c t.val t.isLt).dpg :=
  leaves_live m c 18 t (live 18 (by decide) t)
theorem leaves19 (c : Dev nD) (t : Fin cfg0.N) :
    (dats m 0 c).leavesExact 19 t = owns (c : Thread nD τ) (ms19 t) fullShare (left m c t.val t.isLt).sums :=
  leaves_live m c 19 t (live 19 (by decide) t)

/-- a weight gradient at the last point, -/
theorem leaves20 (c : Dev nD) (t : Fin cfg0.N) (h1 : t.val % 16 = 15) :
    (dats m 0 c).leavesExact 20 t = owns (c : Thread nD τ) (ms20 t) fullShare (left m c t.val t.isLt).dwa :=
  leaves_live m c 20 t (live_last 20 t h1)
theorem leaves21 (c : Dev nD) (t : Fin cfg0.N) (h1 : t.val % 16 = 15) :
    (dats m 0 c).leavesExact 21 t = owns (c : Thread nD τ) (ms21 t) fullShare (left m c t.val t.isLt).dws :=
  leaves_live m c 21 t (live_last 21 t h1)
theorem leaves22 (c : Dev nD) (t : Fin cfg0.N) (h1 : t.val % 16 = 15) :
    (dats m 0 c).leavesExact 22 t = owns (c : Thread nD τ) (ms22 t) fullShare (left m c t.val t.isLt).dwp :=
  leaves_live m c 22 t (live_last 22 t h1)
theorem leaves23 (c : Dev nD) (t : Fin cfg0.N) (h1 : t.val % 16 = 15) :
    (dats m 0 c).leavesExact 23 t = owns (c : Thread nD τ) (ms23 t) fullShare (left m c t.val t.isLt).dwo :=
  leaves_live m c 23 t (live_last 23 t h1)

/-- and before it as found. -/
theorem leavesAlone20 (c : Dev nD) (t : Fin cfg0.N) (h1 : ¬t.val % 16 = 15) : (dats m 0 c).leavesExact 20 t
      = iprop(∃ d, owns (c : Thread nD τ) (ms20 t) fullShare ((dats m 0 c).before 20 t d)) :=
  leaves_idle m c 20 (by decide) t h1
theorem leavesAlone21 (c : Dev nD) (t : Fin cfg0.N) (h1 : ¬t.val % 16 = 15) : (dats m 0 c).leavesExact 21 t
      = iprop(∃ d, owns (c : Thread nD τ) (ms21 t) fullShare ((dats m 0 c).before 21 t d)) :=
  leaves_idle m c 21 (by decide) t h1
theorem leavesAlone22 (c : Dev nD) (t : Fin cfg0.N) (h1 : ¬t.val % 16 = 15) : (dats m 0 c).leavesExact 22 t
      = iprop(∃ d, owns (c : Thread nD τ) (ms22 t) fullShare ((dats m 0 c).before 22 t d)) :=
  leaves_idle m c 22 (by decide) t h1
theorem leavesAlone23 (c : Dev nD) (t : Fin cfg0.N) (h1 : ¬t.val % 16 = 15) : (dats m 0 c).leavesExact 23 t
      = iprop(∃ d, owns (c : Thread nD τ) (ms23 t) fullShare ((dats m 0 c).before 23 t d)) :=
  leaves_idle m c 23 (by decide) t h1

/-- A buffer that stores cover is owned at what they leave. -/
theorem owns_of_stores {S : Shape} {e : EltTy} (c : Dev nD) (M : Memref sig .tc .vmem S e)
    (L : List (View.Piece (Elt F) S e)) (h : ∀ y, ∃ pc ∈ L, y ∈ pc.1.set) :
    iprop(∃ f, M.view.loc (c : Thread nD τ) ↦[M.view.set]{fullShare} M.view.writes (Elt F) f L)
      ⊢ (owns (c : Thread nD τ) M fullShare (leaves M L) : sProp 𝕄) := by
  iintro ⟨%f, H⟩
  unfold owns; iexists _; isplitr
  swap; · iexact H
  ipureintro; exact View.read_writes_of_cover _ _ _ _ _ h

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d))
    ∗ (∃ d, owns (c : Thread nD τ) (ms21 t) fullShare ((dats m 0 c).before 21 t d))
    ∗ (∃ d, owns (c : Thread nD τ) (ms22 t) fullShare ((dats m 0 c).before 22 t d))
    ∗ (∃ d, owns (c : Thread nD τ) (ms23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t ∗ (dats m 0 c).leavesExact 15 t
    ∗ (dats m 0 c).leavesExact 16 t ∗ (dats m 0 c).leavesExact 17 t ∗ (dats m 0 c).leavesExact 18 t ∗ (dats m 0 c).leavesExact 19 t
    ∗ (dats m 0 c).leavesExact 20 t ∗ (dats m 0 c).leavesExact 21 t ∗ (dats m 0 c).leavesExact 22 t ∗ (dats m 0 c).leavesExact 23 t)

theorem first_covers_dya (c : Dev nD) (t : Fin cfg0.N) (h0 : t.val % 16 = 0) (y) :
    ∃ pc ∈ (firstAt m c t h0).1, y ∈ pc.1.set :=
  View.cover_of_tiledL (firstAt m c t h0).1 S256x512.size (by sl_kernel_rfl) y

theorem first_covers_dys (c : Dev nD) (t : Fin cfg0.N) (h0 : t.val % 16 = 0) (y) :
    ∃ pc ∈ (firstAt m c t h0).2.1, y ∈ pc.1.set :=
  View.cover_of_tiledL (firstAt m c t h0).2.1 S256x512.size (by sl_kernel_rfl) y

theorem first_covers_dyp (c : Dev nD) (t : Fin cfg0.N) (h0 : t.val % 16 = 0) (y) :
    ∃ pc ∈ (firstAt m c t h0).2.2.1, y ∈ pc.1.set :=
  View.cover_of_tiledL (firstAt m c t h0).2.2.1 S256x512.size (by sl_kernel_rfl) y

theorem first_covers_dpg (c : Dev nD) (t : Fin cfg0.N) (h0 : t.val % 16 = 0) (y) :
    ∃ pc ∈ (firstAt m c t h0).2.2.2.1, y ∈ pc.1.set :=
  View.cover_of_tiledL (firstAt m c t h0).2.2.2.1 S256x1024.size (by sl_kernel_rfl) y

theorem first_covers_sums (c : Dev nD) (t : Fin cfg0.N) (h0 : t.val % 16 = 0) (y) :
    ∃ pc ∈ (firstAt m c t h0).2.2.2.2.1, y ∈ pc.1.set :=
  View.cover_of_tiledBy (firstAt m c t h0).2.2.2.2.1 ![1, 1024] (by sl_kernel_rfl) y

theorem first_covers_br (c : Dev nD) (t : Fin cfg0.N) (h0 : t.val % 16 = 0) (y) :
    ∃ pc ∈ (firstAt m c t h0).2.2.2.2.2.2.2.2.2.1, y ∈ pc.1.set :=
  View.cover_of_wholeMem (firstAt m c t h0).2.2.2.2.2.2.2.2.2.1 (by sl_whole_mem) y

theorem first_covers_out (c : Dev nD) (t : Fin cfg0.N) (h0 : t.val % 16 = 0) (y) :
    ∃ pc ∈ (firstAt m c t h0).2.2.2.2.2.2.2.2.2.2.1, y ∈ pc.1.set :=
  View.cover_of_tiledL (firstAt m c t h0).2.2.2.2.2.2.2.2.2.2.1 S1024x1024.size (by sl_kernel_rfl) y

-- the assertion has 26 buffers, each framed in turn
set_option maxHeartbeats 4000000 in
/-- The body's triple at the first point. -/
theorem sound_first (c : Dev nD) (t : Fin cfg0.N) (h0 : t.val % 16 = 0) :
    bodyPre m c t ⊢ wp frame (wpE (defs₀ (F := F)) Variants.none c none) Set.univ (bodyAt0 t) (fun _ => bodyPost m c t) := by
  have ht := lt_points t
  unfold bodyPre bodyPost bodyAt0
  simp only [before0, before1, before2, before3, before4, before5, before6, before7, before8, before9, before10, before11, before12, before13, before14]
  rw [show (dats m 0 c).owesAt () t.succ = (dats m 0 c).owesAt () t.castSucc from rfl,
    show (dats m 0 c).Φ t.succ = between m c (t.val + 1) t.isLt from rfl, between_eq]
  rw [between_succ,
    leaves0 m c t, leaves1 m c t, leaves2 m c t, leaves3 m c t, leaves4 m c t,
    leaves5 m c t, leaves6 m c t, leaves7 m c t, leaves8 m c t, leaves9 m c t,
    leaves10 m c t, leaves11 m c t, leaves12 m c t, leaves13 m c t, leaves14 m c t,
    leaves15 m c t, leaves16 m c t, leaves17 m c t, leaves18 m c t, leaves19 m c t,
    leavesAlone20 m c t (by omega),
    leavesAlone21 m c t (by omega),
    leavesAlone22 m c t (by omega),
    leavesAlone23 m c t (by omega)]
  rw [show between m c t.val (Nat.le_of_lt t.isLt) = Pipeline.ΦA spec0 c by
    obtain ⟨n, hn⟩ := t; obtain rfl : n = 0 := by dsimp only at h0 ht; omega
    rfl, scratch_eq, left_first m c t h0]
  dsimp only [first]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((firstAt m c t h0).2.2.2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexact H20
  isplitl [H21]; · iexact H21
  isplitl [H22]; · iexact H22
  isplitl [H23]; · iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]
      · iapply (owns_of_stores c _ _ (first_covers_br m c t h0)); iexact HS0
      iapply (owns_of_stores c _ _ (first_covers_out m c t h0)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (owns_of_stores c _ _ (first_covers_dya m c t h0)); iexact H15
  isplitl [H16]; · iapply (owns_of_stores c _ _ (first_covers_dys m c t h0)); iexact H16
  isplitl [H17]; · iapply (owns_of_stores c _ _ (first_covers_dyp m c t h0)); iexact H17
  isplitl [H18]; · iapply (owns_of_stores c _ _ (first_covers_dpg m c t h0)); iexact H18
  isplitl [H19]; · iapply (owns_of_stores c _ _ (first_covers_sums m c t h0)); iexact H19
  isplitl [H20]; · iexists _; iexact H20
  isplitl [H21]; · iexists _; iexact H21
  isplitl [H22]; · iexists _; iexact H22
  iexists _; iexact H23

theorem middle_covers_dya (c : Dev nD) (t : Fin cfg0.N) (h0 : ¬t.val % 16 = 0) (h1 : ¬t.val % 16 = 15) (y) :
    ∃ pc ∈ (middleAt m c t h0 h1 (leftBefore m c t)).1, y ∈ pc.1.set :=
  View.cover_of_tiledL (middleAt m c t h0 h1 (leftBefore m c t)).1 S256x512.size (by sl_kernel_rfl) y

theorem middle_covers_dys (c : Dev nD) (t : Fin cfg0.N) (h0 : ¬t.val % 16 = 0) (h1 : ¬t.val % 16 = 15) (y) :
    ∃ pc ∈ (middleAt m c t h0 h1 (leftBefore m c t)).2.1, y ∈ pc.1.set :=
  View.cover_of_tiledL (middleAt m c t h0 h1 (leftBefore m c t)).2.1 S256x512.size (by sl_kernel_rfl) y

theorem middle_covers_dyp (c : Dev nD) (t : Fin cfg0.N) (h0 : ¬t.val % 16 = 0) (h1 : ¬t.val % 16 = 15) (y) :
    ∃ pc ∈ (middleAt m c t h0 h1 (leftBefore m c t)).2.2.1, y ∈ pc.1.set :=
  View.cover_of_tiledL (middleAt m c t h0 h1 (leftBefore m c t)).2.2.1 S256x512.size (by sl_kernel_rfl) y

theorem middle_covers_dpg (c : Dev nD) (t : Fin cfg0.N) (h0 : ¬t.val % 16 = 0) (h1 : ¬t.val % 16 = 15) (y) :
    ∃ pc ∈ (middleAt m c t h0 h1 (leftBefore m c t)).2.2.2.1, y ∈ pc.1.set :=
  View.cover_of_tiledL (middleAt m c t h0 h1 (leftBefore m c t)).2.2.2.1 S256x1024.size (by sl_kernel_rfl) y

theorem middle_covers_br (c : Dev nD) (t : Fin cfg0.N) (h0 : ¬t.val % 16 = 0) (h1 : ¬t.val % 16 = 15) (y) :
    ∃ pc ∈ (middleAt m c t h0 h1 (leftBefore m c t)).2.2.2.2.2.2.2.2.2.1, y ∈ pc.1.set :=
  View.cover_of_tiledL (middleAt m c t h0 h1 (leftBefore m c t)).2.2.2.2.2.2.2.2.2.1 S1x512x1024.size (by sl_kernel_rfl) y

theorem middle_covers_out (c : Dev nD) (t : Fin cfg0.N) (h0 : ¬t.val % 16 = 0) (h1 : ¬t.val % 16 = 15) (y) :
    ∃ pc ∈ (middleAt m c t h0 h1 (leftBefore m c t)).2.2.2.2.2.2.2.2.2.2.1, y ∈ pc.1.set :=
  View.cover_of_tiledL (middleAt m c t h0 h1 (leftBefore m c t)).2.2.2.2.2.2.2.2.2.2.1 S1024x1024.size (by sl_kernel_rfl) y

-- the assertion has 26 buffers, each framed in turn
set_option maxHeartbeats 4000000 in
/-- The body's triple at a point between the first and the last. -/
theorem sound_middle (c : Dev nD) (t : Fin cfg0.N) (h0 : ¬t.val % 16 = 0) (h1 : ¬t.val % 16 = 15) :
    bodyPre m c t ⊢ wp frame (wpE (defs₀ (F := F)) Variants.none c none) Set.univ (bodyAt0 t) (fun _ => bodyPost m c t) := by
  have ht := lt_points t
  unfold bodyPre bodyPost bodyAt0
  simp only [before0, before1, before2, before3, before4, before5, before6, before7, before8, before9, before10, before11, before12, before13, before14]
  rw [show (dats m 0 c).owesAt () t.succ = (dats m 0 c).owesAt () t.castSucc from rfl,
    show (dats m 0 c).Φ t.succ = between m c (t.val + 1) t.isLt from rfl, between_eq]
  rw [between_succ,
    leaves0 m c t, leaves1 m c t, leaves2 m c t, leaves3 m c t, leaves4 m c t,
    leaves5 m c t, leaves6 m c t, leaves7 m c t, leaves8 m c t, leaves9 m c t,
    leaves10 m c t, leaves11 m c t, leaves12 m c t, leaves13 m c t, leaves14 m c t,
    leaves15 m c t, leaves16 m c t, leaves17 m c t, leaves18 m c t, leaves19 m c t,
    leavesAlone20 m c t (by omega),
    leavesAlone21 m c t (by omega),
    leavesAlone22 m c t (by omega),
    leavesAlone23 m c t (by omega)]
  rw [between_pos m c _ _ (by omega), left_middle m c t h0 h1]
  simp only [before19 m c t (by omega)]
  dsimp only [middle]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((middleAt m c t h0 h1 (leftBefore m c t)).2.2.2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]
      · iapply (owns_of_stores c _ _ (middle_covers_br m c t h0 h1)); iexact HS0
      iapply (owns_of_stores c _ _ (middle_covers_out m c t h0 h1)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (owns_of_stores c _ _ (middle_covers_dya m c t h0 h1)); iexact H15
  isplitl [H16]; · iapply (owns_of_stores c _ _ (middle_covers_dys m c t h0 h1)); iexact H16
  isplitl [H17]; · iapply (owns_of_stores c _ _ (middle_covers_dyp m c t h0 h1)); iexact H17
  isplitl [H18]; · iapply (owns_of_stores c _ _ (middle_covers_dpg m c t h0 h1)); iexact H18
  isplitl [H19]
  · unfold owns; iexists _; isplitr
    swap; · iexact H19
    ipureintro; rfl
  isplitl [H20]; · iexists _; iexact H20
  isplitl [H21]; · iexists _; iexact H21
  isplitl [H22]; · iexists _; iexact H22
  iexists _; iexact H23

theorem last_covers_dya (c : Dev nD) (t : Fin cfg0.N) (h1 : t.val % 16 = 15) (y) :
    ∃ pc ∈ (lastAt m c t h1 (leftBefore m c t)).1, y ∈ pc.1.set :=
  View.cover_of_tiledL (lastAt m c t h1 (leftBefore m c t)).1 S256x512.size (by sl_kernel_rfl) y

theorem last_covers_dys (c : Dev nD) (t : Fin cfg0.N) (h1 : t.val % 16 = 15) (y) :
    ∃ pc ∈ (lastAt m c t h1 (leftBefore m c t)).2.1, y ∈ pc.1.set :=
  View.cover_of_tiledL (lastAt m c t h1 (leftBefore m c t)).2.1 S256x512.size (by sl_kernel_rfl) y

theorem last_covers_dyp (c : Dev nD) (t : Fin cfg0.N) (h1 : t.val % 16 = 15) (y) :
    ∃ pc ∈ (lastAt m c t h1 (leftBefore m c t)).2.2.1, y ∈ pc.1.set :=
  View.cover_of_tiledL (lastAt m c t h1 (leftBefore m c t)).2.2.1 S256x512.size (by sl_kernel_rfl) y

theorem last_covers_dpg (c : Dev nD) (t : Fin cfg0.N) (h1 : t.val % 16 = 15) (y) :
    ∃ pc ∈ (lastAt m c t h1 (leftBefore m c t)).2.2.2.1, y ∈ pc.1.set :=
  View.cover_of_tiledL (lastAt m c t h1 (leftBefore m c t)).2.2.2.1 S256x1024.size (by sl_kernel_rfl) y

theorem last_covers_dwa (c : Dev nD) (t : Fin cfg0.N) (h1 : t.val % 16 = 15) (y) :
    ∃ pc ∈ (lastAt m c t h1 (leftBefore m c t)).2.2.2.2.2.1, y ∈ pc.1.set :=
  View.cover_of_tiledL (lastAt m c t h1 (leftBefore m c t)).2.2.2.2.2.1 S512x1024.size (by sl_kernel_rfl) y

theorem last_covers_dws (c : Dev nD) (t : Fin cfg0.N) (h1 : t.val % 16 = 15) (y) :
    ∃ pc ∈ (lastAt m c t h1 (leftBefore m c t)).2.2.2.2.2.2.1, y ∈ pc.1.set :=
  View.cover_of_tiledL (lastAt m c t h1 (leftBefore m c t)).2.2.2.2.2.2.1 S512x1024.size (by sl_kernel_rfl) y

theorem last_covers_dwp (c : Dev nD) (t : Fin cfg0.N) (h1 : t.val % 16 = 15) (y) :
    ∃ pc ∈ (lastAt m c t h1 (leftBefore m c t)).2.2.2.2.2.2.2.1, y ∈ pc.1.set :=
  View.cover_of_tiledL (lastAt m c t h1 (leftBefore m c t)).2.2.2.2.2.2.2.1 S512x1024.size (by sl_kernel_rfl) y

theorem last_covers_dwo (c : Dev nD) (t : Fin cfg0.N) (h1 : t.val % 16 = 15) (y) :
    ∃ pc ∈ (lastAt m c t h1 (leftBefore m c t)).2.2.2.2.2.2.2.2.1, y ∈ pc.1.set :=
  View.cover_of_tiledL (lastAt m c t h1 (leftBefore m c t)).2.2.2.2.2.2.2.2.1 S1024x1024.size (by sl_kernel_rfl) y

theorem last_covers_br (c : Dev nD) (t : Fin cfg0.N) (h1 : t.val % 16 = 15) (y) :
    ∃ pc ∈ (lastAt m c t h1 (leftBefore m c t)).2.2.2.2.2.2.2.2.2.1, y ∈ pc.1.set :=
  View.cover_of_tiledL (lastAt m c t h1 (leftBefore m c t)).2.2.2.2.2.2.2.2.2.1 S1x512x1024.size (by sl_kernel_rfl) y

theorem last_covers_out (c : Dev nD) (t : Fin cfg0.N) (h1 : t.val % 16 = 15) (y) :
    ∃ pc ∈ (lastAt m c t h1 (leftBefore m c t)).2.2.2.2.2.2.2.2.2.2.1, y ∈ pc.1.set :=
  View.cover_of_tiledL (lastAt m c t h1 (leftBefore m c t)).2.2.2.2.2.2.2.2.2.2.1 S1024x1024.size (by sl_kernel_rfl) y

-- the assertion has 26 buffers, each framed in turn
set_option maxHeartbeats 4000000 in
/-- The body's triple at the last point. -/
theorem sound_last (c : Dev nD) (t : Fin cfg0.N) (h1 : t.val % 16 = 15) :
    bodyPre m c t ⊢ wp frame (wpE (defs₀ (F := F)) Variants.none c none) Set.univ (bodyAt0 t) (fun _ => bodyPost m c t) := by
  have ht := lt_points t
  unfold bodyPre bodyPost bodyAt0
  simp only [before0, before1, before2, before3, before4, before5, before6, before7, before8, before9, before10, before11, before12, before13, before14]
  rw [show (dats m 0 c).owesAt () t.succ = (dats m 0 c).owesAt () t.castSucc from rfl,
    show (dats m 0 c).Φ t.succ = between m c (t.val + 1) t.isLt from rfl, between_eq]
  rw [between_succ,
    leaves0 m c t, leaves1 m c t, leaves2 m c t, leaves3 m c t, leaves4 m c t,
    leaves5 m c t, leaves6 m c t, leaves7 m c t, leaves8 m c t, leaves9 m c t,
    leaves10 m c t, leaves11 m c t, leaves12 m c t, leaves13 m c t, leaves14 m c t,
    leaves15 m c t, leaves16 m c t, leaves17 m c t, leaves18 m c t, leaves19 m c t,
    leaves20 m c t h1, leaves21 m c t h1, leaves22 m c t h1, leaves23 m c t h1]
  rw [between_pos m c _ _ (by omega), left_last m c t h1]
  simp only [before19 m c t (by omega)]
  dsimp only [last]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((lastAt m c t h1 (leftBefore m c t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]
      · iapply (owns_of_stores c _ _ (last_covers_br m c t h1)); iexact HS0
      iapply (owns_of_stores c _ _ (last_covers_out m c t h1)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iapply (owns_of_stores c _ _ (last_covers_dya m c t h1)); iexact H15
  isplitl [H16]; · iapply (owns_of_stores c _ _ (last_covers_dys m c t h1)); iexact H16
  isplitl [H17]; · iapply (owns_of_stores c _ _ (last_covers_dyp m c t h1)); iexact H17
  isplitl [H18]; · iapply (owns_of_stores c _ _ (last_covers_dpg m c t h1)); iexact H18
  isplitl [H19]
  · unfold owns; iexists _; isplitr
    swap; · iexact H19
    ipureintro; rfl
  isplitl [H20]; · iapply (owns_of_stores c _ _ (last_covers_dwa m c t h1)); iexact H20
  isplitl [H21]; · iapply (owns_of_stores c _ _ (last_covers_dws m c t h1)); iexact H21
  isplitl [H22]; · iapply (owns_of_stores c _ _ (last_covers_dwp m c t h1)); iexact H22
  iapply (owns_of_stores c _ _ (last_covers_dwo m c t h1)); iexact H23

/-- The body's triple, at every point, -/
theorem sound (c : Dev nD) (t : Fin cfg0.N) :
    bodyPre m c t ⊢ wp frame (wpE (defs₀ (F := F)) Variants.none c none) Set.univ (bodyAt0 t) (fun _ => bodyPost m c t) := by
  by_cases h0 : t.val % 16 = 0
  · exact sound_first m c t h0
  · by_cases h1 : t.val % 16 = 15
    · exact sound_last m c t h1
    · exact sound_middle m c t h0 h1

theorem body_row (t : Fin cfg0.N) :
    defs₀ (F := F) .tc cfg0.body (cfg0.bodyArgs t (cfg0.slots t)) = bodyAt0 t := by
  unfold defs₀; rw [Defs.onTc_tc]

-- both assertions are unfolded, window by window
set_option maxHeartbeats 4000000 in
/-- which is the pipeline's obligation. -/
theorem body_obligation (c : Dev nD) :
    BodyObligation (dats (F := F) m 0 c) (defs₀ (F := F)) Variants.none () Set.univ := fun t => by
  rw [bigSep_W0, bigSep_W0, body_row]
  exact triple_restated (sound m c t) rfl .rfl fun _ => .rfl

/-! ## The run -/

/-- After the last point the accumulators are given back at anything. -/
theorem between_out (c : Dev nD) : (dats m 0 c).Φ (Fin.last cfg0.N) ⊢ Pipeline.ΦA spec0 c := by
  rw [show (dats m 0 c).Φ (Fin.last cfg0.N) = between m c cfg0.N (Nat.le_refl _) from rfl,
    between_pos m c _ _ (by rw [show cfg0.N = 16 from N_0]; decide), scratch_eq]
  iintro ⟨⟨HS0, HS1⟩, Hg⟩
  isplitl [HS0 HS1]
  · isplitl [HS0]
    · iexists _; iexact HS0
    iexists _; iexact HS1
  iexact Hg

-- the library's launch is stated over any configuration, and its arguments are found by unfolding this one
set_option backward.isDefEq.respectTransparency.types false in
/-- The program runs to its end, with every counter back at zero, and leaves each array at what the pipeline makes of it. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := between_out m)

theorem run_main : θ_run defs (onTc (τ := τ) (main (F := F))) (s₀ m ρ) (Pipeline.FramePost cfgs (dats m) 0 (V m)) :=
  (θ_run defs _ _).mono (fun _ h => h.1) (run_quiescent m ρ)

end Cert.MergeBwd

end
-- ==== Proof.MergeBwd.Spec.lean ====
/- The gradient of the gated merge in closed form, entry by entry, over the extended reals. The arrays are the merge's,
   but for the layer's input, whose place is taken by the gradient at the layer's output. -/
module

public import proofs.«01_k».proof.Proof.Merge.Spec

@[expose] public section

noncomputable section

namespace Cert.MergeBwd

open Idealize.ShloMosaic Cert.Merge

variable (A : Args)

/-- The gradient at the merged branches' projection. -/
def dout (l : Fin 4096) (k : Fin 1024) : EReal := A.x (ix2 l k) * A.g (ix2 0 k)

/-- The gradient at the merged branches. -/
def dmerged (l : Fin 4096) (k : Fin 1024) : EReal := ∑ j : Fin 1024, dout A l j * A.wo (ix2 k j)

/-- The gradient at the gate of the residual. -/
def dgate (k : Fin 1024) : EReal := ∑ l : Fin 4096, A.x (ix2 l k) * out A l k

/-- The gradient at the projection's weight. -/
def dwo (i k : Fin 1024) : EReal := ∑ l : Fin 4096, merged A l i * dout A l k

variable (gate : Fin 4096 → Fin 1024 → EReal) (y : Mat 4096 512) (w : Mat 512 1024)

/-- The gradient at a branch's output, of its gate and weight; -/
def dy (l : Fin 4096) (i : Fin 512) : EReal := ∑ k : Fin 1024, dmerged A l k * gate l k * w (ix2 i k)

/-- at its weight, of its gate and output; -/
def dw (i : Fin 512) (k : Fin 1024) : EReal := ∑ l : Fin 4096, y (ix2 l i) * (dmerged A l k * gate l k)

/-- and at its gate before the logistic function. -/
def dpg (l : Fin 4096) (k : Fin 1024) : EReal := dmerged A l k * branch y w l k * gate l k * (1 - gate l k)

end Cert.MergeBwd

end
-- ==== Proof.MergeBwd.Host.lean ====
/- The gradient kernel's arrays at an index: its arguments, and what the host saved of the forward pass. -/
module

public import proofs.«01_k».proof.Proof.Gen.Kernel5Ideal.Frame
public import proofs.«01_k».proof.Proof.Merge.Reference
public import proofs.«01_k».proof.Proof.MergeBwd.Spec
public import Idealize.ShloMosaic.Lib.StableHlo.ReadAt
public import Idealize.ShloMosaic.Lib.Pipeline.ReadBack
public import Idealize.ShloMosaic.Lib.Pipeline.ValueKit
public import Idealize.ShloMosaic.Lib.Pointwise

@[expose] public section

set_option maxRecDepth 16384

noncomputable section

namespace Cert.MergeBwd

open Idealize.ShloMosaic Idealize.ShloMosaic.TcCoe Cert.Merge Cert.Kernel5Ideal Cert.Kernel5Ideal.Gen

variable (m : (ℓ : Loc nD τ sig) → Buf (Elt Ideal) ℓ) (c : Dev nD)

/-- The arrays, as the kernel's arguments hold them. -/
def args : Args where
  ya := m ((c : Thread nD τ).loc main_arg0)
  ys := m ((c : Thread nD τ).loc main_arg1)
  yp := m ((c : Thread nD τ).loc main_arg2)
  wa := m ((c : Thread nD τ).loc main_arg3)
  ws := m ((c : Thread nD τ).loc main_arg4)
  wp := m ((c : Thread nD τ).loc main_arg5)
  pg := m ((c : Thread nD τ).loc main_arg6)
  wo := m ((c : Thread nD τ).loc main_arg7)
  g := m ((c : Thread nD τ).loc main_arg8)
  x := m ((c : Thread nD τ).loc main_arg9)

/-- The branches' projections the host saved are the reference's, -/
theorem host_ba : V m c main_v32 = Reference4Ideal.Read.val_main_v15 (F := Ideal) (args m c).ya (args m c).wa := by
  unfold args
  after_results_simp <;> rfl

theorem host_bs : V m c main_v33 = Reference4Ideal.Read.val_main_v16 (F := Ideal) (args m c).ys (args m c).ws := by
  unfold args
  after_results_simp <;> rfl

theorem host_bp : V m c main_v34 = Reference4Ideal.Read.val_main_v17 (F := Ideal) (args m c).yp (args m c).wp := by
  unfold args
  after_results_simp <;> rfl

/-- so are the merged branches, -/
theorem host_merged : V m c main_v31 = Reference4Ideal.Read.val_main_v28 (F := Ideal) (args m c).ya (args m c).ys
    (args m c).yp (args m c).wa (args m c).ws (args m c).wp (args m c).pg := by
  unfold args
  after_results_simp <;> rfl

/-- and their projection. -/
theorem host_out : V m c main_v30 = Reference4Ideal.Read.val_main_v29 (F := Ideal) (args m c).ya (args m c).ys
    (args m c).yp (args m c).wa (args m c).ws (args m c).wp (args m c).pg (args m c).wo := by
  unfold args
  after_results_simp <;> rfl

end Cert.MergeBwd

end
-- ==== Proof.MergeBwd.Payload.lean ====
/- What the payloads of a grid point of the gradient kernel compute, at an index: the closed form of Spec.lean. -/
module

public import proofs.«01_k».proof.Proof.Gen.Kernel5Ideal.Skeleton
public import proofs.«01_k».proof.Proof.MergeBwd.Host
public import proofs.«01_k».proof.Proof.Merge.Sigmoid

@[expose] public section

set_option maxRecDepth 16384

noncomputable section

namespace Cert.MergeBwd

open Idealize.ShloMosaic Idealize.ShloMosaic.TcCoe Cert.Merge Cert.Kernel5Ideal Cert.Kernel5Ideal.Gen

variable (m : (ℓ : Loc nD τ sig) → Buf (Elt Ideal) ℓ) (c : Dev nD)

/-- Row `r` of point `t`'s block. -/
abbrev at256 (t : Fin cfg0.N) (r : Fin 256) : Fin 4096 := ⟨256 * t.val + r.val, by have := t.isLt; have : cfg0.N = 16 := N_0; omega⟩

/-- Where each window's block lies at a grid point. -/
theorem index : ∀ t : Fin cfg0.N, win0_0.index t = ![t.val, 0] ∧ win0_1.index t = ![t.val, 0] ∧ win0_2.index t = ![0, 0] ∧ win0_3.index t = ![0, 0] ∧ win0_4.index t = ![t.val, 0] ∧
    win0_5.index t = ![t.val, 0] ∧ win0_6.index t = ![t.val, 0] ∧ win0_7.index t = ![t.val, 0] ∧ win0_8.index t = ![0, 0] ∧ win0_9.index t = ![0, 0] ∧
    win0_10.index t = ![0, 0] ∧ win0_11.index t = ![t.val, 0] ∧ win0_12.index t = ![t.val, 0] ∧ win0_13.index t = ![t.val, 0] ∧ win0_14.index t = ![t.val, 0] ∧
    win0_15.index t = ![t.val, 0] ∧ win0_16.index t = ![t.val, 0] ∧ win0_17.index t = ![t.val, 0] ∧ win0_18.index t = ![t.val, 0] ∧ win0_19.index t = ![0, 0] ∧
    win0_20.index t = ![0, 0] ∧ win0_21.index t = ![0, 0] ∧ win0_22.index t = ![0, 0] ∧ win0_23.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧
    win0_5.index t = ![t.val, 0] ∧ win0_6.index t = ![t.val, 0] ∧ win0_7.index t = ![t.val, 0] ∧ win0_8.index t = ![0, 0] ∧ win0_9.index t = ![0, 0] ∧
    win0_10.index t = ![0, 0] ∧ win0_11.index t = ![t.val, 0] ∧ win0_12.index t = ![t.val, 0] ∧ win0_13.index t = ![t.val, 0] ∧ win0_14.index t = ![t.val, 0] ∧
    win0_15.index t = ![t.val, 0] ∧ win0_16.index t = ![t.val, 0] ∧ win0_17.index t = ![t.val, 0] ∧ win0_18.index t = ![t.val, 0] ∧ win0_19.index t = ![0, 0] ∧
    win0_20.index t = ![0, 0] ∧ win0_21.index t = ![0, 0] ∧ win0_22.index t = ![0, 0] ∧ win0_23.index t = ![0, 0])

/-- What a point's input blocks hold of the arguments, -/
theorem blk_x (t : Fin cfg0.N) (r : Fin 256) (k : Fin 1024) : iblk m c 0 t (ix2 r k) = (args m c).x (ix2 (at256 t r) k) := by
  unfold args
  blk_ext [iblk, V_main_arg9, index t]

theorem blk_g (t : Fin cfg0.N) (k : Fin 1024) : iblk m c 2 t (ix2 0 k) = (args m c).g (ix2 0 k) := by
  unfold args
  blk_ext [iblk, V_main_arg8, index t]

theorem blk_wo (t : Fin cfg0.N) (r : Fin 1024) (k : Fin 1024) : iblk m c 3 t (ix2 r k) = (args m c).wo (ix2 r k) := by
  unfold args
  blk_ext [iblk, V_main_arg7, index t]

theorem blk_pg (t : Fin cfg0.N) (r : Fin 256) (k : Fin 3072) : iblk m c 4 t (ix2 r k) = (args m c).pg (ix2 (at256 t r) k) := by
  unfold args
  blk_ext [iblk, V_main_arg6, index t]

theorem blk_wa (t : Fin cfg0.N) (r : Fin 512) (k : Fin 1024) : iblk m c 8 t (ix2 r k) = (args m c).wa (ix2 r k) := by
  unfold args
  blk_ext [iblk, V_main_arg3, index t]

theorem blk_ws (t : Fin cfg0.N) (r : Fin 512) (k : Fin 1024) : iblk m c 9 t (ix2 r k) = (args m c).ws (ix2 r k) := by
  unfold args
  blk_ext [iblk, V_main_arg4, index t]

theorem blk_wp (t : Fin cfg0.N) (r : Fin 512) (k : Fin 1024) : iblk m c 10 t (ix2 r k) = (args m c).wp (ix2 r k) := by
  unfold args
  blk_ext [iblk, V_main_arg5, index t]

theorem blk_ya (t : Fin cfg0.N) (r : Fin 256) (k : Fin 512) : iblk m c 11 t (ix2 r k) = (args m c).ya (ix2 (at256 t r) k) := by
  unfold args
  blk_ext [iblk, V_main_arg0, index t]

theorem blk_ys (t : Fin cfg0.N) (r : Fin 256) (k : Fin 512) : iblk m c 12 t (ix2 r k) = (args m c).ys (ix2 (at256 t r) k) := by
  unfold args
  blk_ext [iblk, V_main_arg1, index t]

theorem blk_yp (t : Fin cfg0.N) (r : Fin 256) (k : Fin 512) : iblk m c 13 t (ix2 r k) = (args m c).yp (ix2 (at256 t r) k) := by
  unfold args
  blk_ext [iblk, V_main_arg2, index t]

/-- and of what the host saved. -/
theorem blk_ba (t : Fin cfg0.N) (r : Fin 256) (k : Fin 1024) : iblk m c 5 t (ix2 r k) = branch (args m c).ya (args m c).wa (at256 t r) k := by
  refine Eq.trans ?_ (Merge.ref_ba (args m c) (at256 t r) k)
  blk_ext [iblk, host_ba, index t]

theorem blk_bs (t : Fin cfg0.N) (r : Fin 256) (k : Fin 1024) : iblk m c 6 t (ix2 r k) = branch (args m c).ys (args m c).ws (at256 t r) k := by
  refine Eq.trans ?_ (Merge.ref_bs (args m c) (at256 t r) k)
  blk_ext [iblk, host_bs, index t]

theorem blk_bp (t : Fin cfg0.N) (r : Fin 256) (k : Fin 1024) : iblk m c 7 t (ix2 r k) = branch (args m c).yp (args m c).wp (at256 t r) k := by
  refine Eq.trans ?_ (Merge.ref_bp (args m c) (at256 t r) k)
  blk_ext [iblk, host_bp, index t]

theorem blk_merged (t : Fin cfg0.N) (r : Fin 256) (k : Fin 1024) : iblk m c 14 t (ix2 r k) = merged (args m c) (at256 t r) k := by
  refine Eq.trans ?_ (Merge.ref_merged (args m c) (at256 t r) k)
  blk_ext [iblk, host_merged, index t]

theorem blk_out (t : Fin cfg0.N) (r : Fin 256) (k : Fin 1024) : iblk m c 1 t (ix2 r k) = out (args m c) (at256 t r) k := by
  refine Eq.trans ?_ (Merge.ref_out (args m c) (at256 t r) k)
  blk_ext [iblk, host_out, index t]

/-- A point's gradient at the merged branches' projection, -/
theorem pt_dout (t : Fin cfg0.N) (r : Fin 256) (k : Fin 1024) :
    k0_pay9 (iblk m c 0 t) (iblk m c 2 t) (ix2 r k) = dout (args m c) (at256 t r) k := by
  unfold k0_pay9
  pointwise [blk_x m c t, blk_g m c t]
  rfl

/-- and at the merged branches. -/
abbrev D (t : Fin cfg0.N) : FVec Ideal S256x1024 .f32 := k0_pay11 (iblk m c 0 t) (iblk m c 2 t) (iblk m c 3 t)

theorem pt_dmerged (t : Fin cfg0.N) (r : Fin 256) (k : Fin 1024) : D m c t (ix2 r k) = dmerged (args m c) (at256 t r) k := by
  unfold D k0_pay11
  pointwise [pt_dout m c t, blk_wo m c t]
  rfl

/-- What a point adds to the residual's gate's gradient, -/
def termGate (t : Fin cfg0.N) (k : Fin 1024) : EReal := ∑ l : Fin 256, (args m c).x (ix2 (at256 t l) k) * out (args m c) (at256 t l) k

theorem pay_gate (t : Fin cfg0.N) (S : Vec Ideal S1x1024 .f32) (k : Fin 1024) :
    k0_pay8 (iblk m c 0 t) S (iblk m c 1 t) (ix2 0 k) = S (ix2 0 k) + termGate m c t k := by
  unfold k0_pay8 termGate
  pointwise [blk_x m c t, blk_out m c t]

/-- to the projection's weight's, -/
def termOut (t : Fin cfg0.N) (i : S1024x1024.Idx) : EReal :=
  ∑ l : Fin 256, merged (args m c) (at256 t l) (i 0) * dout (args m c) (at256 t l) (i 1)

theorem pay_out (t : Fin cfg0.N) (S : Vec Ideal S1024x1024 .f32) (i : S1024x1024.Idx) :
    k0_pay10 (iblk m c 0 t) (iblk m c 2 t) S (iblk m c 14 t) i = S i + termOut m c t i := by
  obtain ⟨r, k, rfl⟩ : ∃ (r k : Fin 1024), i = ix2 r k := ⟨i 0, i 1, by funext a; fin_cases a <;> rfl⟩
  unfold k0_pay10 termOut
  pointwise [blk_merged m c t, pt_dout m c t]

/-- and to a branch's weight's. -/
def termBr (gate : Fin 4096 → Fin 1024 → EReal) (y : Mat 4096 512) (t : Fin cfg0.N) (i : Fin 512) (k : Fin 1024) : EReal :=
  ∑ l : Fin 256, y (ix2 (at256 t l) i) * (dmerged (args m c) (at256 t l) k * gate (at256 t l) k)

variable {gate : Fin 4096 → Fin 1024 → EReal}

/-! ## The attention branch, its gate's columns being `G` -/

/-- The gradient at its gated output, -/
theorem pt_dba (t : Fin cfg0.N) (G : Vec Ideal S256x1024 .bf16) (hG : ∀ r k, Ideal.logistic (G (ix2 r k)) = gate (at256 t r) k) (r : Fin 256) (k : Fin 1024) :
    k0_pay14 (D m c t) (k0_pay12 G) (Scalar.ofBits .f32 0x3F000000#32 : Ideal .f32) (ix2 r k) = dmerged (args m c) (at256 t r) k * gate (at256 t r) k := by
  rw [← hG]
  unfold k0_pay14 k0_pay13 k0_pay12
  pointwise [pt_dmerged m c t, half_f32, logistic_eq]

/-- before its gate's logistic function, -/
theorem pt_dpga (t : Fin cfg0.N) (G : Vec Ideal S256x1024 .bf16) (hG : ∀ r k, Ideal.logistic (G (ix2 r k)) = gate (at256 t r) k) (r : Fin 256) (k : Fin 1024) :
    k0_pay15 (D m c t) (k0_pay12 G) (Scalar.ofBits .f32 0x3F000000#32 : Ideal .f32) (iblk m c 5 t) (ix2 r k) = dpg (args m c) gate (args m c).ya (args m c).wa (at256 t r) k := by
  unfold dpg
  rw [← hG]
  unfold k0_pay15 k0_pay13 k0_pay12
  pointwise [pt_dmerged m c t, blk_ba m c t, half_f32, one_f32, logistic_eq]

/-- at its output, -/
theorem pt_dya (t : Fin cfg0.N) (G : Vec Ideal S256x1024 .bf16) (hG : ∀ r k, Ideal.logistic (G (ix2 r k)) = gate (at256 t r) k) (r : Fin 256) (i : Fin 512) :
    k0_pay16 (D m c t) (k0_pay12 G) (Scalar.ofBits .f32 0x3F000000#32 : Ideal .f32) (iblk m c 8 t) (ix2 r i) = dy (args m c) gate (args m c).wa (at256 t r) i := by
  unfold k0_pay16 dy
  pointwise [blk_wa m c t]
  exact Finset.sum_congr rfl fun x _ => congrArg (· * _) (pt_dba m c t G hG r x)

/-- and its weight's, added to what was accumulated. -/
theorem pay_a (t : Fin cfg0.N) (G : Vec Ideal S256x1024 .bf16) (hG : ∀ r k, Ideal.logistic (G (ix2 r k)) = gate (at256 t r) k) (S : Vec Ideal S1x512x1024 .f32) (i : Fin 512) (k : Fin 1024) :
    k0_pay17 (D m c t) (k0_pay12 G) (Scalar.ofBits .f32 0x3F000000#32 : Ideal .f32) S (iblk m c 11 t) (ix3 0 i k) = S (ix3 0 i k) + termBr m c gate (args m c).ya t i k := by
  unfold k0_pay17 termBr
  pointwise [blk_ya m c t]
  exact congrArg (_ + ·) (Finset.sum_congr rfl fun x _ => congrArg (_ * ·) (pt_dba m c t G hG x k))

/-! ## The state space branch, its gate's columns being `G` -/

/-- The gradient at its gated output, -/
theorem pt_dbs (t : Fin cfg0.N) (G : Vec Ideal S256x1024 .bf16) (hG : ∀ r k, Ideal.logistic (G (ix2 r k)) = gate (at256 t r) k) (r : Fin 256) (k : Fin 1024) :
    k0_pay21 (D m c t) (k0_pay18 G) k0_pay19 (ix2 r k) = dmerged (args m c) (at256 t r) k * gate (at256 t r) k := by
  rw [← hG]
  unfold k0_pay21 k0_pay20 k0_pay18 k0_pay19
  pointwise [pt_dmerged m c t, half_f32, logistic_eq]

/-- before its gate's logistic function, -/
theorem pt_dpgs (t : Fin cfg0.N) (G : Vec Ideal S256x1024 .bf16) (hG : ∀ r k, Ideal.logistic (G (ix2 r k)) = gate (at256 t r) k) (r : Fin 256) (k : Fin 1024) :
    k0_pay22 (D m c t) (k0_pay18 G) k0_pay19 (iblk m c 6 t) (ix2 r k) = dpg (args m c) gate (args m c).ys (args m c).ws (at256 t r) k := by
  unfold dpg
  rw [← hG]
  unfold k0_pay22 k0_pay20 k0_pay18 k0_pay19
  pointwise [pt_dmerged m c t, blk_bs m c t, half_f32, one_f32, logistic_eq]

/-- at its output, -/
theorem pt_dys (t : Fin cfg0.N) (G : Vec Ideal S256x1024 .bf16) (hG : ∀ r k, Ideal.logistic (G (ix2 r k)) = gate (at256 t r) k) (r : Fin 256) (i : Fin 512) :
    k0_pay23 (D m c t) (k0_pay18 G) k0_pay19 (iblk m c 9 t) (ix2 r i) = dy (args m c) gate (args m c).ws (at256 t r) i := by
  unfold k0_pay23 dy
  pointwise [pt_dbs m c t G hG, blk_ws m c t]

/-- and its weight's, added to what was accumulated. -/
theorem pay_s (t : Fin cfg0.N) (G : Vec Ideal S256x1024 .bf16) (hG : ∀ r k, Ideal.logistic (G (ix2 r k)) = gate (at256 t r) k) (S : Vec Ideal S1x512x1024 .f32) (i : Fin 512) (k : Fin 1024) :
    k0_pay24 (D m c t) (k0_pay18 G) k0_pay19 S (iblk m c 12 t) (ix3 0 i k) = S (ix3 0 i k) + termBr m c gate (args m c).ys t i k := by
  unfold k0_pay24 termBr
  pointwise [pt_dbs m c t G hG, blk_ys m c t]

/-! ## The pooling branch, its gate's columns being `G` -/

/-- The gradient at its gated output, -/
theorem pt_dbp (t : Fin cfg0.N) (G : Vec Ideal S256x1024 .bf16) (hG : ∀ r k, Ideal.logistic (G (ix2 r k)) = gate (at256 t r) k) (r : Fin 256) (k : Fin 1024) :
    k0_pay27 (D m c t) (k0_pay25 G) (ix2 r k) = dmerged (args m c) (at256 t r) k * gate (at256 t r) k := by
  rw [← hG]
  unfold k0_pay27 k0_pay26 k0_pay25
  pointwise [pt_dmerged m c t, half_f32, logistic_eq]

/-- before its gate's logistic function, -/
theorem pt_dpgp (t : Fin cfg0.N) (G : Vec Ideal S256x1024 .bf16) (hG : ∀ r k, Ideal.logistic (G (ix2 r k)) = gate (at256 t r) k) (r : Fin 256) (k : Fin 1024) :
    k0_pay28 (D m c t) (k0_pay25 G) (iblk m c 7 t) (ix2 r k) = dpg (args m c) gate (args m c).yp (args m c).wp (at256 t r) k := by
  unfold dpg
  rw [← hG]
  unfold k0_pay28 k0_pay26 k0_pay25
  pointwise [pt_dmerged m c t, blk_bp m c t, half_f32, one_f32, logistic_eq]

/-- at its output, -/
theorem pt_dyp (t : Fin cfg0.N) (G : Vec Ideal S256x1024 .bf16) (hG : ∀ r k, Ideal.logistic (G (ix2 r k)) = gate (at256 t r) k) (r : Fin 256) (i : Fin 512) :
    k0_pay29 (D m c t) (k0_pay25 G) (iblk m c 10 t) (ix2 r i) = dy (args m c) gate (args m c).wp (at256 t r) i := by
  unfold k0_pay29 dy
  pointwise [pt_dbp m c t G hG, blk_wp m c t]

/-- and its weight's, added to what was accumulated. -/
theorem pay_p (t : Fin cfg0.N) (G : Vec Ideal S256x1024 .bf16) (hG : ∀ r k, Ideal.logistic (G (ix2 r k)) = gate (at256 t r) k) (S : Vec Ideal S1x512x1024 .f32) (i : Fin 512) (k : Fin 1024) :
    k0_pay30 (D m c t) (k0_pay25 G) S (iblk m c 13 t) (ix3 0 i k) = S (ix3 0 i k) + termBr m c gate (args m c).yp t i k := by
  unfold k0_pay30 termBr
  pointwise [pt_dbp m c t G hG, blk_yp m c t]

end Cert.MergeBwd

end
-- ==== Proof.MergeBwd.Step.lean ====
/- What a grid point of the gradient kernel leaves, of its blocks and of what the point before left. -/
module

public import proofs.«01_k».proof.Proof.MergeBwd.Frame
public import proofs.«01_k».proof.Proof.MergeBwd.Payload

@[expose] public section

set_option maxRecDepth 16384

noncomputable section

namespace Cert.MergeBwd

open Idealize.ShloMosaic Idealize.ShloMosaic.TcCoe Cert.Merge Cert.Kernel5Ideal Cert.Kernel5Ideal.Gen

variable (m : (ℓ : Loc nD τ sig) → Buf (Elt Ideal) ℓ) (c : Dev nD)

/-- The newest of a list of stores, read where it lies, -/
theorem canon_hit {S : Shape} {e : EltTy} (r : Rect S) (w : r.shape.Idx → Elt Ideal e) (L : List (View.Piece (Elt Ideal) S e))
    (x : r.shape.Idx) (y : S.Idx) (hx : ∀ a, (y a).val = r.off a + r.stride a * (x a).val) :
    View.canon (⟨r, w⟩ :: L) y = w x := by
  rw [← r.emb_eq_of_coords x y hx]; exact View.canon_cons_emb r w L x

/-- and where an axis tells the place apart from it. -/
theorem canon_miss {S : Shape} {e : EltTy} (r : Rect S) (w : r.shape.Idx → Elt Ideal e) (L : List (View.Piece (Elt Ideal) S e))
    (y : S.Idx) (a : Fin S.rank) (h1 : r.stride a = 1) (h : (y a).val < r.off a ∨ r.off a + r.size a ≤ (y a).val) :
    View.canon (⟨r, w⟩ :: L) y = View.canon L y :=
  View.canon_cons_of_not_mem _ L (r.not_mem_set_of_axis y a _ _ rfl h1 rfl h)

/-- A gate's columns of a point's block. -/
theorem col_a (t : Fin cfg0.N) (r : Fin 256) (k : Fin 1024) :
    Ideal.logistic (View.ld (iblk m c 4 t) (Rect.unit ![0, 0] ![256, 1024] inb_S256x3072_S256x1024_0_0) (ix2 r k))
      = gateA (args m c) (at256 t r) k := by
  pointwise [blk_pg m c t]
  rfl

/-- (the state space branch) -/
theorem col_s (t : Fin cfg0.N) (r : Fin 256) (k : Fin 1024) :
    Ideal.logistic (View.ld (iblk m c 4 t) (Rect.unit ![0, 1024] ![256, 1024] inb_S256x3072_S256x1024_0_1024) (ix2 r k))
      = gateS (args m c) (at256 t r) k := by
  pointwise [blk_pg m c t]
  rfl

/-- (the pooling branch) -/
theorem col_p (t : Fin cfg0.N) (r : Fin 256) (k : Fin 1024) :
    Ideal.logistic (View.ld (iblk m c 4 t) (Rect.unit ![0, 2048] ![256, 1024] inb_S256x3072_S256x1024_0_2048) (ix2 r k))
      = gateP (args m c) (at256 t r) k := by
  pointwise [blk_pg m c t]
  rfl

/-- A point is the first, one between, or the last. -/
theorem kinds (t : Fin cfg0.N) : t.val % 16 = 0 ∨ (¬t.val % 16 = 0 ∧ ¬t.val % 16 = 15) ∨ t.val % 16 = 15 := by omega

/-- What a point leaves of the gradients that are written block by block. -/
theorem tiles (t : Fin cfg0.N) :
    (∀ r i, (left m c t.val t.isLt).dya (ix2 r i) = dy (args m c) (gateA (args m c)) (args m c).wa (at256 t r) i) ∧
    (∀ r i, (left m c t.val t.isLt).dys (ix2 r i) = dy (args m c) (gateS (args m c)) (args m c).ws (at256 t r) i) ∧
    (∀ r i, (left m c t.val t.isLt).dyp (ix2 r i) = dy (args m c) (gateP (args m c)) (args m c).wp (at256 t r) i) ∧
    (∀ r (k : Fin 1024), (left m c t.val t.isLt).dpg (ix2 r ⟨k.val, by omega⟩)
      = dpg (args m c) (gateA (args m c)) (args m c).ya (args m c).wa (at256 t r) k) ∧
    (∀ r (k : Fin 1024), (left m c t.val t.isLt).dpg (ix2 r ⟨1024 + k.val, by omega⟩)
      = dpg (args m c) (gateS (args m c)) (args m c).ys (args m c).ws (at256 t r) k) ∧
    (∀ r (k : Fin 1024), (left m c t.val t.isLt).dpg (ix2 r ⟨2048 + k.val, by omega⟩)
      = dpg (args m c) (gateP (args m c)) (args m c).yp (args m c).wp (at256 t r) k) := by
  rcases kinds t with h | h | h
  on_goal 1 => rw [left_first m c t h]; dsimp only [first, firstAt]
  on_goal 2 => rw [left_middle m c t h.1 h.2]; dsimp only [middle, middleAt]
  on_goal 3 => rw [left_last m c t h]; dsimp only [last, lastAt]
  all_goals
    frame_out
    refine ⟨pt_dya m c t _ (col_a m c t), pt_dys m c t _ (col_s m c t), pt_dyp m c t _ (col_p m c t),
      fun r k => ?_, fun r k => ?_, fun r k => ?_⟩
    · rw [canon_miss _ _ _ _ 1 rfl (.inl (by simp; omega)), canon_miss _ _ _ _ 1 rfl (.inl (by simp)),
        canon_hit _ _ _ (ix2 r k) _ (fun a => by fin_cases a <;> simp)]
      exact pt_dpga m c t _ (col_a m c t) r k
    · rw [canon_miss _ _ _ _ 1 rfl (.inl (by simp; omega)), canon_hit _ _ _ (ix2 r k) _ (fun a => by fin_cases a <;> simp)]
      exact pt_dpgs m c t _ (col_s m c t) r k
    · rw [canon_hit _ _ _ (ix2 r k) _ (fun a => by fin_cases a <;> simp)]
      exact pt_dpgp m c t _ (col_p m c t) r k

/-- The accumulators after the first point. -/
theorem start (t : Fin cfg0.N) (h0 : t.val % 16 = 0) (i : Fin 512) (k : Fin 1024) :
    (∀ j, (left m c t.val t.isLt).out j = 0 + termOut m c t j) ∧
    (left m c t.val t.isLt).br (ix3 0 i k) = 0 + termBr m c (gateA (args m c)) (args m c).ya t i k ∧
    (left m c t.val t.isLt).br (ix3 1 i k) = 0 + termBr m c (gateS (args m c)) (args m c).ys t i k ∧
    (left m c t.val t.isLt).br (ix3 2 i k) = 0 + termBr m c (gateP (args m c)) (args m c).yp t i k := by
  rw [left_first m c t h0]
  dsimp only [first, firstAt]
  frame_open
  simp (disch := decide) only [↓ View.readCov_skip, ↓ View.readCov_cons_toLoadRect, ↓ View.readCov_fill]
  frame_out
  refine ⟨fun j => (pay_out m c t _ j).trans (congrArg (· + _) ?_), ?_, ?_, ?_⟩
  · unfold k0_pay7
    pointwise
  · rw [canon_miss _ _ _ _ 0 rfl (.inl (by simp)), canon_miss _ _ _ _ 0 rfl (.inl (by simp)),
        canon_hit _ _ _ (ix3 0 i k) _ (fun a => by fin_cases a <;> simp)]
    refine (pay_a m c t _ (col_a m c t) _ i k).trans (congrArg (· + _) ?_)
    unfold k0_pay6
    pointwise
  · rw [canon_miss _ _ _ _ 0 rfl (.inl (by simp)),
        canon_hit _ _ _ (ix3 0 i k) _ (fun a => by fin_cases a <;> simp)]
    refine (pay_s m c t _ (col_s m c t) _ i k).trans (congrArg (· + _) ?_)
    unfold k0_pay6
    pointwise
  · rw [canon_hit _ _ _ (ix3 0 i k) _ (fun a => by fin_cases a <;> simp)]
    refine (pay_p m c t _ (col_p m c t) _ i k).trans (congrArg (· + _) ?_)
    unfold k0_pay6
    pointwise

end Cert.MergeBwd

end
-- ==== Proof.MergeBwd.Sums.lean ====
/- The accumulators of the gradient kernel, from point to point, and what they have come to at the last. -/
module

public import proofs.«01_k».proof.Proof.MergeBwd.Step

@[expose] public section

set_option maxRecDepth 16384

noncomputable section

namespace Cert.MergeBwd

open Idealize.ShloMosaic Idealize.ShloMosaic.TcCoe Cert.Merge Cert.Kernel5Ideal Cert.Kernel5Ideal.Gen

variable (m : (ℓ : Loc nD τ sig) → Buf (Elt Ideal) ℓ) (c : Dev nD)

/-- A rectangle of an array, read at an index. -/
theorem ld_at {S : Shape} {e : EltTy} (X : Vec Ideal S e) (r : Rect S) (x : r.shape.Idx) (y : S.Idx)
    (hx : ∀ a, (y a).val = r.off a + r.stride a * (x a).val) : View.ld X r x = X y := by
  rw [← r.emb_eq_of_coords x y hx]; rfl

/-- What a point that isn't the first adds to the weights' gradients. -/
theorem next (t : Fin cfg0.N) (h : ¬t.val % 16 = 0) (i : Fin 512) (k : Fin 1024) :
    (∀ j, (left m c t.val t.isLt).out j = (leftBefore m c t).out j + termOut m c t j) ∧
    (left m c t.val t.isLt).br (ix3 0 i k)
      = (leftBefore m c t).br (ix3 0 i k) + termBr m c (gateA (args m c)) (args m c).ya t i k ∧
    (left m c t.val t.isLt).br (ix3 1 i k)
      = (leftBefore m c t).br (ix3 1 i k) + termBr m c (gateS (args m c)) (args m c).ys t i k ∧
    (left m c t.val t.isLt).br (ix3 2 i k)
      = (leftBefore m c t).br (ix3 2 i k) + termBr m c (gateP (args m c)) (args m c).yp t i k := by
  rcases kinds t with h' | h' | h'
  · exact absurd h' h
  on_goal 1 => rw [left_middle m c t h'.1 h'.2]; dsimp only [middle, middleAt]
  on_goal 2 => rw [left_last m c t h']; dsimp only [last, lastAt]
  all_goals
    frame_open
    simp (disch := decide) only [↓ View.readCov_skip, ↓ View.readCov_cons_toLoadRect, ↓ View.readCov_fill]
    frame_out
    simp only [read_unread_whole]
    refine ⟨fun j => pay_out m c t _ j, ?_, ?_, ?_⟩
    · rw [canon_miss _ _ _ _ 0 rfl (.inl (by simp)), canon_miss _ _ _ _ 0 rfl (.inl (by simp)),
        canon_hit _ _ _ (ix3 0 i k) _ (fun a => by fin_cases a <;> simp)]
      exact (pay_a m c t _ (col_a m c t) _ i k).trans
        (congrArg (· + _) (ld_at _ _ _ _ (fun a => by fin_cases a <;> simp)))
    · rw [canon_miss _ _ _ _ 0 rfl (.inl (by simp)),
        canon_hit _ _ _ (ix3 0 i k) _ (fun a => by fin_cases a <;> simp)]
      exact (pay_s m c t _ (col_s m c t) _ i k).trans
        (congrArg (· + _) (ld_at _ _ _ _ (fun a => by fin_cases a <;> simp)))
    · rw [canon_hit _ _ _ (ix3 0 i k) _ (fun a => by fin_cases a <;> simp)]
      exact (pay_p m c t _ (col_p m c t) _ i k).trans
        (congrArg (· + _) (ld_at _ _ _ _ (fun a => by fin_cases a <;> simp)))

/-- What the first point leaves of the gate's gradient: the first row a sum, the others zero; -/
theorem start_gate (t : Fin cfg0.N) (h0 : t.val % 16 = 0) (k : Fin 1024) :
    (left m c t.val t.isLt).sums (ix2 0 k) = 0 + termGate m c t k ∧
    ∀ r : Fin 7, (left m c t.val t.isLt).sums (ix2 r.succ k) = 0 := by
  rw [left_first m c t h0]
  dsimp only [first, firstAt]
  frame_open
  simp (disch := decide) only [↓ View.readCov_skip, ↓ View.readCov_cons_toLoadRect, ↓ View.readCov_fill]
  frame_out
  refine ⟨?_, fun r => ?_⟩
  · rw [canon_hit _ _ _ (ix2 0 k) _ (fun a => by fin_cases a <;> simp)]
    refine (pay_gate m c t _ k).trans (congrArg (· + _) ?_)
    unfold k0_pay5
    pointwise
  · rw [canon_miss _ _ _ _ 0 rfl (.inr (by simp)),
      canon_hit _ _ _ (ix2 r.succ k) _ (fun a => by fin_cases a <;> simp)]
    unfold k0_pay5
    pointwise

/-- and what a later one makes of it. -/
theorem next_gate (t : Fin cfg0.N) (h : ¬t.val % 16 = 0) (k : Fin 1024) :
    (left m c t.val t.isLt).sums (ix2 0 k) = (leftBefore m c t).sums (ix2 0 k) + termGate m c t k ∧
    ∀ r : Fin 7, (left m c t.val t.isLt).sums (ix2 r.succ k) = (leftBefore m c t).sums (ix2 r.succ k) := by
  rcases kinds t with h' | h' | h'
  · exact absurd h' h
  on_goal 1 => rw [left_middle m c t h'.1 h'.2]; dsimp only [middle, middleAt]
  on_goal 2 => rw [left_last m c t h']; dsimp only [last, lastAt]
  all_goals
    frame_open
    simp (disch := decide) only [↓ View.readCov_skip, ↓ View.readCov_cons_toLoadRect, ↓ View.readCov_fill]
    frame_out
    refine ⟨?_, fun r => ?_⟩
    · rw [View.read_writes_cons_hit_of_coords _ _ _ _ _ (ix2 0 k) _ (fun a => by fin_cases a <;> simp)]
      exact (pay_gate m c t _ k).trans (congrArg (· + _) (ld_at _ _ _ _ (fun a => by fin_cases a <;> simp)))
    · rw [View.read_writes_cons_miss_of_axis _ _ _ _ _ 0 0 1 rfl rfl rfl (.inr (by simp))]
      exact congrFun (Memref.IsWhole.read_unread _ _) _

/-- The gradients at the weights are written where they have been accumulated. -/
theorem slice_br (X : Vec Ideal S1x512x1024 .f32) (i : Fin 512) (k : Fin 1024) :
    k0_pay1 X (ix2 i k) = X (ix3 0 i k) ∧ k0_pay2 X (ix2 i k) = X (ix3 0 i k) ∧ k0_pay3 X (ix2 i k) = X (ix3 0 i k) := by
  refine ⟨?_, ?_, ?_⟩
  · unfold k0_pay1
    pointwise
  · unfold k0_pay2
    pointwise
  · unfold k0_pay3
    pointwise

/-- What the last point writes of the accumulators. -/
theorem written (t : Fin cfg0.N) (h : t.val % 16 = 15) (i : Fin 512) (k : Fin 1024) :
    (left m c t.val t.isLt).dwa (ix2 i k) = (left m c t.val t.isLt).br (ix3 0 i k) ∧
    (left m c t.val t.isLt).dws (ix2 i k) = (left m c t.val t.isLt).br (ix3 1 i k) ∧
    (left m c t.val t.isLt).dwp (ix2 i k) = (left m c t.val t.isLt).br (ix3 2 i k) ∧
    ∀ j, (left m c t.val t.isLt).dwo j = (left m c t.val t.isLt).out j := by
  rw [left_last m c t h]
  dsimp only [last, lastAt]
  frame_open
  simp (disch := decide) only [↓ View.readCov_skip, ↓ View.readCov_cons_toLoadRect, ↓ View.readCov_fill]
  frame_out
  refine ⟨?_, ?_, ?_, fun j => ?_⟩
  · rw [canon_miss _ _ _ _ 0 rfl (.inl (by simp)), canon_miss _ _ _ _ 0 rfl (.inl (by simp)),
      canon_hit _ _ _ (ix3 0 i k) _ (fun a => by fin_cases a <;> simp)]
    exact (slice_br _ i k).1
  · rw [canon_miss _ _ _ _ 0 rfl (.inl (by simp)),
      canon_hit _ _ _ (ix3 0 i k) _ (fun a => by fin_cases a <;> simp)]
    exact (slice_br _ i k).2.1
  · rw [canon_hit _ _ _ (ix3 0 i k) _ (fun a => by fin_cases a <;> simp)]
    exact (slice_br _ i k).2.2
  · unfold k0_pay4
    pointwise

/-- What every point adds its rows' share to comes, at the last point, to the sum over all the token rows. -/
theorem total {ι : Type} (f : (n : ℕ) → n < cfg0.N → ι → EReal) (g : ι → Fin 4096 → EReal)
    (h0 : ∀ t : Fin cfg0.N, t.val % 16 = 0 → ∀ i, f t.val t.isLt i = 0 + ∑ l : Fin 256, g i (at256 t l))
    (hs : ∀ t : Fin cfg0.N, ¬t.val % 16 = 0 → ∀ i, f t.val t.isLt i
      = f (t.val - 1) (Nat.lt_of_le_of_lt (Nat.sub_le _ _) t.isLt) i + ∑ l : Fin 256, g i (at256 t l))
    (t : Fin cfg0.N) (h : t.val % 16 = 15) (i : ι) : f t.val t.isLt i = ∑ l : Fin 4096, g i l := by
  have hN : cfg0.N = 16 := N_0
  refine (Pipeline.eq_sum_fin_of_reset_step_apply_of_flush f 16 (fun _ => 0)
    (fun t i => ∑ l : Fin 256, g i (at256 t l)) h0 hs t h i).trans ?_
  rw [zero_add]
  refine (Fin.sum_points_lanes_congr 16 (A := 1) (L := 4096) (g := fun _ l => g i l)
    (fun s l ha hl => ?_) rfl rfl).trans (Fin.sum_univ_one _)
  exact congrArg (g i) (Fin.ext (by have := t.isLt; dsimp only; omega))

/-- The gradients at the gate and at the weights, after the last point. -/
theorem full (t : Fin cfg0.N) (h : t.val % 16 = 15) (i : Fin 512) (k : Fin 1024) :
    (left m c t.val t.isLt).sums (ix2 0 k) = dgate (args m c) k ∧
    (left m c t.val t.isLt).dwa (ix2 i k) = dw (args m c) (gateA (args m c)) (args m c).ya i k ∧
    (left m c t.val t.isLt).dws (ix2 i k) = dw (args m c) (gateS (args m c)) (args m c).ys i k ∧
    (left m c t.val t.isLt).dwp (ix2 i k) = dw (args m c) (gateP (args m c)) (args m c).yp i k ∧
    ∀ i' : Fin 1024, (left m c t.val t.isLt).dwo (ix2 i' k) = dwo (args m c) i' k := by
  obtain ⟨wa, ws, wp, wo⟩ := written m c t h i k
  refine ⟨?_, wa.trans ?_, ws.trans ?_, wp.trans ?_, fun i' => (wo _).trans ?_⟩
  · exact total (fun n hn (k : Fin 1024) => (left m c n hn).sums (ix2 0 k))
      (fun k l => (args m c).x (ix2 l k) * out (args m c) l k)
      (fun t h k => (start_gate m c t h k).1) (fun t h k => (next_gate m c t h k).1) t h k
  · exact total (fun n hn (j : Fin 512 × Fin 1024) => (left m c n hn).br (ix3 0 j.1 j.2))
      (fun j l => (args m c).ya (ix2 l j.1) * (dmerged (args m c) l j.2 * gateA (args m c) l j.2))
      (fun t h j => (start m c t h j.1 j.2).2.1) (fun t h j => (next m c t h j.1 j.2).2.1) t h (i, k)
  · exact total (fun n hn (j : Fin 512 × Fin 1024) => (left m c n hn).br (ix3 1 j.1 j.2))
      (fun j l => (args m c).ys (ix2 l j.1) * (dmerged (args m c) l j.2 * gateS (args m c) l j.2))
      (fun t h j => (start m c t h j.1 j.2).2.2.1) (fun t h j => (next m c t h j.1 j.2).2.2.1) t h (i, k)
  · exact total (fun n hn (j : Fin 512 × Fin 1024) => (left m c n hn).br (ix3 2 j.1 j.2))
      (fun j l => (args m c).yp (ix2 l j.1) * (dmerged (args m c) l j.2 * gateP (args m c) l j.2))
      (fun t h j => (start m c t h j.1 j.2).2.2.2) (fun t h j => (next m c t h j.1 j.2).2.2.2) t h (i, k)
  · exact total (fun n hn (j : S1024x1024.Idx) => (left m c n hn).out j)
      (fun j l => merged (args m c) l (j 0) * dout (args m c) l (j 1))
      (fun t h j => (start m c t h i k).1 j) (fun t h j => (next m c t h i k).1 j) t h (ix2 i' k)

/-- The other rows of the gate's gradient stay zero. -/
theorem zeros (t : Fin cfg0.N) (r : Fin 7) (k : Fin 1024) : (left m c t.val t.isLt).sums (ix2 r.succ k) = 0 := by
  obtain ⟨n, hn⟩ := t
  induction n with
  | zero => exact (start_gate m c ⟨0, hn⟩ rfl k).2 r
  | succ n ih =>
    have hN : cfg0.N = 16 := N_0
    exact ((next_gate m c ⟨n + 1, hn⟩ (by dsimp only; omega) k).2 r).trans (ih (Nat.lt_of_succ_lt hn))

end Cert.MergeBwd

end
-- ==== Proof.MergeBwd.Reference.lean ====
/- The reference's results at an index: the closed form of Spec.lean. -/
module

public import proofs.«01_k».proof.Proof.Gen.Reference5Ideal.Read
public import proofs.«01_k».proof.Proof.Merge.Reference
public import proofs.«01_k».proof.Proof.MergeBwd.Spec

@[expose] public section

set_option maxRecDepth 16384

noncomputable section

namespace Cert.MergeBwd

open Idealize.ShloMosaic Cert.Merge Cert.Reference5Ideal Cert.Reference5Ideal.Read

variable (A : Args)

/-- The gates, before they are told apart. -/
theorem ref_gate (l : Fin 4096) (k : Fin 3072) :
    val_main_v13 (F := Ideal) A.pg (ix2 l k) = Ideal.logistic (A.pg (ix2 l k)) := Merge.ref_gate A l k

/-- The gates of the three branches. -/
theorem ref_gateA (l : Fin 4096) (k : Fin 1024) : val_main_v22 (F := Ideal) A.pg (ix2 l k) = gateA A l k := by
  unfold val_main_v22 val_main_v21 val_main_v17
  pointwise [ref_gate]
  rfl

theorem ref_gateS (l : Fin 4096) (k : Fin 1024) : val_main_v25 (F := Ideal) A.pg (ix2 l k) = gateS A l k := by
  unfold val_main_v25 val_main_v24 val_main_v17
  pointwise [ref_gate]
  rfl

theorem ref_gateP (l : Fin 4096) (k : Fin 1024) : val_main_v29 (F := Ideal) A.pg (ix2 l k) = gateP A l k := by
  unfold val_main_v29 val_main_v28 val_main_v17
  pointwise [ref_gate]
  rfl

theorem ref_ba (l : Fin 4096) (k : Fin 1024) : val_main_v18 (F := Ideal) A.ya A.wa (ix2 l k) = branch A.ya A.wa l k :=
  Merge.ref_ba A l k

theorem ref_bs (l : Fin 4096) (k : Fin 1024) : val_main_v19 (F := Ideal) A.ys A.ws (ix2 l k) = branch A.ys A.ws l k :=
  Merge.ref_bs A l k

theorem ref_bp (l : Fin 4096) (k : Fin 1024) : val_main_v20 (F := Ideal) A.yp A.wp (ix2 l k) = branch A.yp A.wp l k :=
  Merge.ref_bp A l k

theorem ref_merged (l : Fin 4096) (k : Fin 1024) :
    val_main_v31 (F := Ideal) A.ya A.ys A.yp A.wa A.ws A.wp A.pg (ix2 l k) = merged A l k := Merge.ref_merged A l k

theorem ref_out (l : Fin 4096) (k : Fin 1024) :
    val_main_v32 (F := Ideal) A.ya A.ys A.yp A.wa A.ws A.wp A.pg A.wo (ix2 l k) = out A l k := Merge.ref_out A l k

/-- The gradient at the merged branches' projection, -/
theorem ref_dout (l : Fin 4096) (k : Fin 1024) : val_main_v36 (F := Ideal) A.g A.x (ix2 l k) = dout A l k := by
  unfold val_main_v36 val_main_v35
  pointwise
  exact mul_comm _ _

/-- and at the merged branches. -/
theorem ref_dmerged (l : Fin 4096) (k : Fin 1024) :
    val_main_v42 (F := Ideal) A.wo A.g A.x (ix2 l k) = dmerged A l k := by
  unfold val_main_v42 val_main_v7
  pointwise [ref_dout]
  rfl

/-- The gradients at the gated branches. -/
theorem ref_dba (l : Fin 4096) (k : Fin 1024) :
    val_main_v52 (F := Ideal) A.pg A.wo A.g A.x (ix2 l k) = dmerged A l k * gateA A l k := by
  unfold val_main_v52
  pointwise [ref_gateA, ref_dmerged]
  exact mul_comm _ _

theorem ref_dbs (l : Fin 4096) (k : Fin 1024) :
    val_main_v47 (F := Ideal) A.pg A.wo A.g A.x (ix2 l k) = dmerged A l k * gateS A l k := by
  unfold val_main_v47
  pointwise [ref_gateS, ref_dmerged]
  exact mul_comm _ _

theorem ref_dbp (l : Fin 4096) (k : Fin 1024) :
    val_main_v43 (F := Ideal) A.pg A.wo A.g A.x (ix2 l k) = dmerged A l k * gateP A l k := by
  unfold val_main_v43
  pointwise [ref_gateP, ref_dmerged]
  exact mul_comm _ _

/-- The branches' outputs. -/
theorem ref_dya (l : Fin 4096) (i : Fin 512) :
    val_main_v65 (F := Ideal) A.wa A.pg A.wo A.g A.x (ix2 l i) = dy A (gateA A) A.wa l i := by
  unfold val_main_v65 val_main_v3
  pointwise [ref_dba]
  rfl

theorem ref_dys (l : Fin 4096) (i : Fin 512) :
    val_main_v62 (F := Ideal) A.ws A.pg A.wo A.g A.x (ix2 l i) = dy A (gateS A) A.ws l i := by
  unfold val_main_v62 val_main_v4
  pointwise [ref_dbs]
  rfl

theorem ref_dyp (l : Fin 4096) (i : Fin 512) :
    val_main_v59 (F := Ideal) A.wp A.pg A.wo A.g A.x (ix2 l i) = dy A (gateP A) A.wp l i := by
  unfold val_main_v59 val_main_v5
  pointwise [ref_dbp]
  rfl

/-- Their weights. -/
theorem ref_dwa (i : Fin 512) (k : Fin 1024) :
    val_main_v71 (F := Ideal) A.ya A.pg A.wo A.g A.x (ix2 i k) = dw A (gateA A) A.ya i k := by
  unfold val_main_v71 val_main_v64 val_main_v63 val_main_v0
  pointwise [ref_dba]
  exact Finset.sum_congr rfl fun l _ => mul_comm _ _

theorem ref_dws (i : Fin 512) (k : Fin 1024) :
    val_main_v72 (F := Ideal) A.ys A.pg A.wo A.g A.x (ix2 i k) = dw A (gateS A) A.ys i k := by
  unfold val_main_v72 val_main_v61 val_main_v60 val_main_v1
  pointwise [ref_dbs]
  exact Finset.sum_congr rfl fun l _ => mul_comm _ _

theorem ref_dwp (i : Fin 512) (k : Fin 1024) :
    val_main_v73 (F := Ideal) A.yp A.pg A.wo A.g A.x (ix2 i k) = dw A (gateP A) A.yp i k := by
  unfold val_main_v73 val_main_v58 val_main_v57 val_main_v2
  pointwise [ref_dbp]
  exact Finset.sum_congr rfl fun l _ => mul_comm _ _

/-- The projection's weight. -/
theorem ref_dwo (i k : Fin 1024) :
    val_main_v74 (F := Ideal) A.ya A.ys A.yp A.wa A.ws A.wp A.pg A.g A.x (ix2 i k) = dwo A i k := by
  unfold val_main_v74 val_main_v41 val_main_v40
  pointwise [ref_dout, ref_merged]
  exact Finset.sum_congr rfl fun l _ => mul_comm _ _

/-- The gate of the residual, in the first of eight rows. -/
theorem ref_dgate (k : Fin 1024) :
    val_main_v70 (F := Ideal) A.ya A.ys A.yp A.wa A.ws A.wp A.pg A.wo A.x (ix2 0 k) = dgate A k := by
  unfold val_main_v70 val_main_v39 val_main_v38 val_main_v37 val_main_cst_2
  pointwise [ref_out]
  rfl

theorem ref_dgate_pad (r : Fin 7) (k : Fin 1024) :
    val_main_v70 (F := Ideal) A.ya A.ys A.yp A.wa A.ws A.wp A.pg A.wo A.x (ix2 ⟨r.val + 1, by omega⟩ k) = 0 := by
  unfold val_main_v70 val_main_v69 val_main_cst_6
  pointwise
  exact dif_neg (by omega)

/-- The gates before the logistic function: the attention branch's columns, -/
theorem ref_dpgA (l : Fin 4096) (k : Fin 1024) :
    val_main_v68 (F := Ideal) A.ya A.ys A.yp A.wa A.ws A.wp A.pg A.wo A.g A.x (ix2 l ⟨k.val, by omega⟩)
      = dpg A (gateA A) A.ya A.wa l k := by
  unfold val_main_v68 val_main_v67 val_main_v66 val_main_v56 val_main_v55 val_main_v54 val_main_v53 val_main_v51
    val_main_v50 val_main_v49 val_main_v48 val_main_v46 val_main_v45 val_main_v44 val_main_v16 val_main_v15
    val_main_v14 val_main_cst_1 val_main_cst_3 val_main_cst_4 val_main_cst_5
  pointwise [ref_gate, ref_ba, ref_bs, ref_bp, ref_dmerged]
  have hd : (k.val) / 1024 = 0 := by omega
  have hr : (k.val) % 1024 = k.val := by omega
  simp only [hd, hr]
  simp [dpg, gateA, mul_assoc]

/-- the state space branch's -/
theorem ref_dpgS (l : Fin 4096) (k : Fin 1024) :
    val_main_v68 (F := Ideal) A.ya A.ys A.yp A.wa A.ws A.wp A.pg A.wo A.g A.x (ix2 l ⟨1024 + k.val, by omega⟩)
      = dpg A (gateS A) A.ys A.ws l k := by
  unfold val_main_v68 val_main_v67 val_main_v66 val_main_v56 val_main_v55 val_main_v54 val_main_v53 val_main_v51
    val_main_v50 val_main_v49 val_main_v48 val_main_v46 val_main_v45 val_main_v44 val_main_v16 val_main_v15
    val_main_v14 val_main_cst_1 val_main_cst_3 val_main_cst_4 val_main_cst_5
  pointwise [ref_gate, ref_ba, ref_bs, ref_bp, ref_dmerged]
  have hd : (1024 + k.val) / 1024 = 1 := by omega
  have hr : (1024 + k.val) % 1024 = k.val := by omega
  simp only [hd, hr]
  simp [dpg, gateS, mul_assoc]

/-- and the pooling branch's. -/
theorem ref_dpgP (l : Fin 4096) (k : Fin 1024) :
    val_main_v68 (F := Ideal) A.ya A.ys A.yp A.wa A.ws A.wp A.pg A.wo A.g A.x (ix2 l ⟨2048 + k.val, by omega⟩)
      = dpg A (gateP A) A.yp A.wp l k := by
  unfold val_main_v68 val_main_v67 val_main_v66 val_main_v56 val_main_v55 val_main_v54 val_main_v53 val_main_v51
    val_main_v50 val_main_v49 val_main_v48 val_main_v46 val_main_v45 val_main_v44 val_main_v16 val_main_v15
    val_main_v14 val_main_cst_1 val_main_cst_3 val_main_cst_4 val_main_cst_5
  pointwise [ref_gate, ref_ba, ref_bs, ref_bp, ref_dmerged]
  have hd : (2048 + k.val) / 1024 = 2 := by omega
  have hr : (2048 + k.val) % 1024 = k.val := by omega
  simp only [hd, hr]
  simp [dpg, gateP, mul_assoc]

end Cert.MergeBwd

end
-- ==== Proof.MergeBwd.Point.lean ====
/- The nine arrays of the gradient kernel after its run: the reference's. -/
module

public import proofs.«01_k».proof.Proof.MergeBwd.Sums
public import proofs.«01_k».proof.Proof.MergeBwd.Reference

@[expose] public section

set_option maxRecDepth 16384

noncomputable section

namespace Cert.MergeBwd

open Idealize.ShloMosaic Idealize.ShloMosaic.TcCoe Cert.Merge Cert.Kernel5Ideal Cert.Kernel5Ideal.Gen
open Cert.Reference5Ideal.Read

variable (m : (ℓ : Loc nD τ sig) → Buf (Elt Ideal) ℓ) (c : Dev nD)

/-- A matrix's index is a row and a column. -/
theorem exists_ix2 {a b : Nat} (y : (⟨2, ![a, b]⟩ : Shape).Idx) : ∃ (r : Fin a) (k : Fin b), y = ix2 r k :=
  ⟨y 0, y 1, by funext a; fin_cases a <;> rfl⟩

/-- A column of the three gates' is one of the first's, the second's or the third's. -/
theorem column (k : Fin 3072) : (∃ j : Fin 1024, k = ⟨j.val, by omega⟩) ∨ (∃ j : Fin 1024, k = ⟨1024 + j.val, by omega⟩) ∨
    ∃ j : Fin 1024, k = ⟨2048 + j.val, by omega⟩ := by
  by_cases h : k.val < 1024
  · exact .inl ⟨⟨k.val, h⟩, rfl⟩
  by_cases h' : k.val < 2048
  · exact .inr (.inl ⟨⟨k.val - 1024, by omega⟩, Fin.ext (by dsimp only; omega)⟩)
  · exact .inr (.inr ⟨⟨k.val - 2048, by omega⟩, Fin.ext (by dsimp only; omega)⟩)

/-- The gradient at the attention branch's output, after the run, -/
theorem final_dya : (dats m 0 c).arrAt 15 cfg0.N
    = val_main_v65 (F := Ideal) (args m c).wa (args m c).pg (args m c).wo (args m c).g (args m c).x := by
  refine (dats m 0 c).arrAt_eq_of_covers 15 _ (by decide +kernel) fun t hf y => ?_
  blk_simp [index t]
  obtain ⟨r, k, rfl⟩ : ∃ (r : Fin 256) (k : Fin 512), y = ix2 r k := exists_ix2 y
  have e : (win0_15.blk t).view.emb (ix2 r k) = ix2 (at256 t r) k := by
    funext a; apply Fin.ext; fin_cases a <;> blk_simp [index t] <;> simp [mul_comm]
  rw [e, ref_dya]
  exact (tiles m c t).1 r k

/-- at the state space branch's, -/
theorem final_dys : (dats m 0 c).arrAt 16 cfg0.N
    = val_main_v62 (F := Ideal) (args m c).ws (args m c).pg (args m c).wo (args m c).g (args m c).x := by
  refine (dats m 0 c).arrAt_eq_of_covers 16 _ (by decide +kernel) fun t hf y => ?_
  blk_simp [index t]
  obtain ⟨r, k, rfl⟩ : ∃ (r : Fin 256) (k : Fin 512), y = ix2 r k := exists_ix2 y
  have e : (win0_16.blk t).view.emb (ix2 r k) = ix2 (at256 t r) k := by
    funext a; apply Fin.ext; fin_cases a <;> blk_simp [index t] <;> simp [mul_comm]
  rw [e, ref_dys]
  exact (tiles m c t).2.1 r k

/-- at the pooling branch's, -/
theorem final_dyp : (dats m 0 c).arrAt 17 cfg0.N
    = val_main_v59 (F := Ideal) (args m c).wp (args m c).pg (args m c).wo (args m c).g (args m c).x := by
  refine (dats m 0 c).arrAt_eq_of_covers 17 _ (by decide +kernel) fun t hf y => ?_
  blk_simp [index t]
  obtain ⟨r, k, rfl⟩ : ∃ (r : Fin 256) (k : Fin 512), y = ix2 r k := exists_ix2 y
  have e : (win0_17.blk t).view.emb (ix2 r k) = ix2 (at256 t r) k := by
    funext a; apply Fin.ext; fin_cases a <;> blk_simp [index t] <;> simp [mul_comm]
  rw [e, ref_dyp]
  exact (tiles m c t).2.2.1 r k

/-- and at the gates. -/
theorem final_dpg : (dats m 0 c).arrAt 18 cfg0.N
    = val_main_v68 (F := Ideal) (args m c).ya (args m c).ys (args m c).yp (args m c).wa (args m c).ws (args m c).wp
      (args m c).pg (args m c).wo (args m c).g (args m c).x := by
  refine (dats m 0 c).arrAt_eq_of_covers 18 _ (by decide +kernel) fun t hf y => ?_
  blk_simp [index t]
  obtain ⟨r, k, rfl⟩ : ∃ (r : Fin 256) (k : Fin 3072), y = ix2 r k := exists_ix2 y
  have e : (win0_18.blk t).view.emb (ix2 r k) = ix2 (at256 t r) k := by
    funext a; apply Fin.ext; fin_cases a <;> blk_simp [index t] <;> simp [mul_comm]
  rw [e]
  obtain ⟨j, rfl⟩ | ⟨j, rfl⟩ | ⟨j, rfl⟩ := column k
  · rw [ref_dpgA]; exact (tiles m c t).2.2.2.1 r j
  · rw [ref_dpgS]; exact (tiles m c t).2.2.2.2.1 r j
  · rw [ref_dpgP]; exact (tiles m c t).2.2.2.2.2 r j

/-- The gradient at the residual's gate, with its rows of zeros, after the run, -/
theorem final_sums : (dats m 0 c).arrAt 19 cfg0.N
    = val_main_v70 (F := Ideal) (args m c).ya (args m c).ys (args m c).yp (args m c).wa (args m c).ws (args m c).wp
      (args m c).pg (args m c).wo (args m c).x := by
  refine (dats m 0 c).arrAt_eq_of_covers 19 _ (by decide +kernel) fun t hf y => ?_
  have h : t.val % 16 = 15 := (by decide +kernel : ∀ t : Fin grid0.N, win0_19.flush t = true → t.val % 16 = 15) t hf
  blk_simp [index t]
  obtain ⟨r, k, rfl⟩ : ∃ (r : Fin 8) (k : Fin 1024), y = ix2 r k := exists_ix2 y
  have e : (win0_19.blk t).view.emb (ix2 r k) = ix2 r k := by
    funext a; apply Fin.ext; fin_cases a <;> blk_simp [index t]
  rw [e]
  refine Fin.cases ?_ (fun r => ?_) r
  · exact (full m c t h 0 k).1.trans (ref_dgate (args m c) k).symm
  · exact (zeros m c t r k).trans (ref_dgate_pad (args m c) r k).symm

/-- at the attention branch's weight, -/
theorem final_dwa : (dats m 0 c).arrAt 20 cfg0.N
    = val_main_v71 (F := Ideal) (args m c).ya (args m c).pg (args m c).wo (args m c).g (args m c).x := by
  refine (dats m 0 c).arrAt_eq_of_covers 20 _ (by decide +kernel) fun t hf y => ?_
  have h : t.val % 16 = 15 := (by decide +kernel : ∀ t : Fin grid0.N, win0_20.flush t = true → t.val % 16 = 15) t hf
  blk_simp [index t]
  obtain ⟨i, k, rfl⟩ : ∃ (i : Fin 512) (k : Fin 1024), y = ix2 i k := exists_ix2 y
  have e : (win0_20.blk t).view.emb (ix2 i k) = ix2 i k := by
    funext a; apply Fin.ext; fin_cases a <;> blk_simp [index t]
  rw [e]
  exact (full m c t h i k).2.1.trans (ref_dwa (args m c) i k).symm

/-- the state space branch's, -/
theorem final_dws : (dats m 0 c).arrAt 21 cfg0.N
    = val_main_v72 (F := Ideal) (args m c).ys (args m c).pg (args m c).wo (args m c).g (args m c).x := by
  refine (dats m 0 c).arrAt_eq_of_covers 21 _ (by decide +kernel) fun t hf y => ?_
  have h : t.val % 16 = 15 := (by decide +kernel : ∀ t : Fin grid0.N, win0_21.flush t = true → t.val % 16 = 15) t hf
  blk_simp [index t]
  obtain ⟨i, k, rfl⟩ : ∃ (i : Fin 512) (k : Fin 1024), y = ix2 i k := exists_ix2 y
  have e : (win0_21.blk t).view.emb (ix2 i k) = ix2 i k := by
    funext a; apply Fin.ext; fin_cases a <;> blk_simp [index t]
  rw [e]
  exact (full m c t h i k).2.2.1.trans (ref_dws (args m c) i k).symm

/-- the pooling branch's, -/
theorem final_dwp : (dats m 0 c).arrAt 22 cfg0.N
    = val_main_v73 (F := Ideal) (args m c).yp (args m c).pg (args m c).wo (args m c).g (args m c).x := by
  refine (dats m 0 c).arrAt_eq_of_covers 22 _ (by decide +kernel) fun t hf y => ?_
  have h : t.val % 16 = 15 := (by decide +kernel : ∀ t : Fin grid0.N, win0_22.flush t = true → t.val % 16 = 15) t hf
  blk_simp [index t]
  obtain ⟨i, k, rfl⟩ : ∃ (i : Fin 512) (k : Fin 1024), y = ix2 i k := exists_ix2 y
  have e : (win0_22.blk t).view.emb (ix2 i k) = ix2 i k := by
    funext a; apply Fin.ext; fin_cases a <;> blk_simp [index t]
  rw [e]
  exact (full m c t h i k).2.2.2.1.trans (ref_dwp (args m c) i k).symm

/-- and the projection's. -/
theorem final_dwo : (dats m 0 c).arrAt 23 cfg0.N
    = val_main_v74 (F := Ideal) (args m c).ya (args m c).ys (args m c).yp (args m c).wa (args m c).ws (args m c).wp
      (args m c).pg (args m c).g (args m c).x := by
  refine (dats m 0 c).arrAt_eq_of_covers 23 _ (by decide +kernel) fun t hf y => ?_
  have h : t.val % 16 = 15 := (by decide +kernel : ∀ t : Fin grid0.N, win0_23.flush t = true → t.val % 16 = 15) t hf
  blk_simp [index t]
  obtain ⟨i, k, rfl⟩ : ∃ (i k : Fin 1024), y = ix2 i k := exists_ix2 y
  have e : (win0_23.blk t).view.emb (ix2 i k) = ix2 i k := by
    funext a; apply Fin.ext; fin_cases a <;> blk_simp [index t]
  rw [e]
  exact (full m c t h 0 k).2.2.2.2 i |>.trans (ref_dwo (args m c) i k).symm

end Cert.MergeBwd

end
-- ==== Proof.MergeBwd.Claim.lean ====
/- The claims of the merge's gradient: the kernel's run and the reference's run end with equal results. -/
module

public import proofs.«01_k».proof.Defs
public import proofs.«01_k».proof.Proof.Gen.Kernel5
public import proofs.«01_k».proof.Proof.Gen.Reference5Ideal.Run
public import proofs.«01_k».proof.Proof.MergeBwd.Point
public import Idealize.ShloMosaic.Lib.Quiescent

@[expose] public section

-- the blocks have axes of a thousand and more, along which the elaborator recurses
set_option maxRecDepth 16384

noncomputable section

namespace Cert.MergeBwd

open Idealize.ShloMosaic Idealize.ShloMosaic.TcCoe Idealize.SL.Sem

section
open Cert.Kernel5Ideal Cert.Kernel5Ideal.Gen

variable {F : FTy → Type} [FloatOps F] (m : (ℓ : Loc nD τ sig) → Buf (Elt F) ℓ) (ρ : Dev nD → PrngReg)

/-- Over any float values the program runs, keeps its arguments, and every counter ends at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiescent m ρ))

/-- Its results are what the pipeline's output windows come to. -/
theorem results : θ_run defs (onTc (τ := τ) (main (F := F))) ⟨m, fun _ => 0, ρ⟩ (fun r => ∀ c : Dev nD,
      r.2.mem ((c.tc : Thread nD τ).loc main_v35_0) = (dats m 0 c).arrAt 15 cfg0.N
      ∧ r.2.mem ((c.tc : Thread nD τ).loc main_v35_1) = (dats m 0 c).arrAt 16 cfg0.N
      ∧ r.2.mem ((c.tc : Thread nD τ).loc main_v35_2) = (dats m 0 c).arrAt 17 cfg0.N
      ∧ r.2.mem ((c.tc : Thread nD τ).loc main_v35_3) = (dats m 0 c).arrAt 18 cfg0.N
      ∧ r.2.mem ((c.tc : Thread nD τ).loc main_v35_4) = (dats m 0 c).arrAt 19 cfg0.N
      ∧ r.2.mem ((c.tc : Thread nD τ).loc main_v35_5) = (dats m 0 c).arrAt 20 cfg0.N
      ∧ r.2.mem ((c.tc : Thread nD τ).loc main_v35_6) = (dats m 0 c).arrAt 21 cfg0.N
      ∧ r.2.mem ((c.tc : Thread nD τ).loc main_v35_7) = (dats m 0 c).arrAt 22 cfg0.N
      ∧ r.2.mem ((c.tc : Thread nD τ).loc main_v35_8) = (dats m 0 c).arrAt 23 cfg0.N) :=
  (θ_run defs _ _).mono (fun _ h c => ⟨(h c).1 15, (h c).1 16, (h c).1 17, (h c).1 18, (h c).1 19, (h c).1 20, (h c).1 21,
    (h c).1 22, (h c).1 23⟩) (run_main m ρ)

/-- The idealized kernel's frame, -/
theorem frame_kernelIdeal : Cert.quiescent_Kernel5Ideal := fun m ρ _ => unchanged m ρ

-- the whole program's text is compared, more than the usual budget of steps allows
set_option maxHeartbeats 4000000 in
set_option smartUnfolding false in
/-- The kernel and the idealized kernel are printed as one text under two names, so what holds of the one's runs holds of
    the other's: the option lets both be unfolded. -/
theorem of_ideal {s : MemSt nD τ sig (Elt Bits)} {Q : PUnit × MemSt nD τ sig (Elt Bits) → Prop}
    (h : θ_run (defs (F := Bits)) (onTc (τ := τ) (main (F := Bits))) s Q) :
    θ_run (Cert.Kernel5.defs (F := Bits)) (onTc (τ := Cert.Kernel5.τ) (Cert.Kernel5.main (F := Bits))) s Q := h

/-- and the kernel's. -/
theorem frame_kernel : Cert.quiescent_Kernel5 := fun m ρ _ => of_ideal (unchanged (F := Bits) m ρ)

end

/-- The reference runs, keeps its arguments, and every counter ends at zero. -/
theorem reference_frame : Cert.quiescent_Reference5Ideal := fun m ρ _ =>
  (θ_run Cert.Reference5Ideal.defs _ _).mono
    (fun r h => ⟨fun c => (h c).2.2.2.2.2.2.2.2.2, sem_eq_zero_of_no_sems (by decide) r.2⟩)
    (Cert.Reference5Ideal.Value.run (F := Ideal) m ρ)

section
open Cert.Reference5Ideal Cert.Reference5Ideal.Read

/-- The reference's results, each named, of its arguments. -/
theorem reference_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v65) = val_main_v65 (F := Ideal) (m ((c.tc : Thread nD τ).loc main_arg3)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v62) = val_main_v62 (F := Ideal) (m ((c.tc : Thread nD τ).loc main_arg4)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v59) = val_main_v59 (F := Ideal) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v68) = val_main_v68 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v70) = val_main_v70 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg9))
      ∧ r.2.mem ((c.tc : Thread nD τ).loc main_v71) = val_main_v71 (F := Ideal) (m ((c.tc : Thread nD τ).loc main_arg0)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v72) = val_main_v72 (F := Ideal) (m ((c.tc : Thread nD τ).loc main_arg1)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v73) = val_main_v73 (F := Ideal) (m ((c.tc : Thread nD τ).loc main_arg2)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_v74) = val_main_v74 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg8)) (m ((c.tc : Thread nD τ).loc main_arg9))) :=
  (θ_run defs _ _).mono (fun _ h c => ⟨(h c).1.trans (val_main_v65_eq _ _ _ _ _),
    (h c).2.1.trans (val_main_v62_eq _ _ _ _ _),
    (h c).2.2.1.trans (val_main_v59_eq _ _ _ _ _),
    (h c).2.2.2.1.trans (val_main_v68_eq _ _ _ _ _ _ _ _ _ _),
    (h c).2.2.2.2.1.trans (val_main_v70_eq _ _ _ _ _ _ _ _ _),
    (h c).2.2.2.2.2.1.trans (val_main_v71_eq _ _ _ _ _),
    (h c).2.2.2.2.2.2.1.trans (val_main_v72_eq _ _ _ _ _),
    (h c).2.2.2.2.2.2.2.1.trans (val_main_v73_eq _ _ _ _ _),
    (h c).2.2.2.2.2.2.2.2.1.trans (val_main_v74_eq _ _ _ _ _ _ _ _ _)⟩) (Value.run (F := Ideal) m ρ)

end

-- nine results of up to ten arguments are compared in one statement, more than the usual budget of steps allows
set_option maxHeartbeats 2000000 in
/-- From equal arguments the kernel and the reference end with equal arrays, as extended reals. -/
theorem algebraic : Cert.algebraic_Kernel5Ideal_Reference5Ideal := by
  intro m ρ m' ρ' _ hagree
  refine ⟨_, _, _, _, _, _, _, _, _, (θ_run Cert.Kernel5Ideal.defs _ _).mono (fun r h c =>
    ⟨(h.1 c).1, (h.1 c).2.1, (h.1 c).2.2.1, (h.1 c).2.2.2.1, (h.1 c).2.2.2.2.1, (h.1 c).2.2.2.2.2.1, (h.1 c).2.2.2.2.2.2.1,
      (h.1 c).2.2.2.2.2.2.2.1, (h.1 c).2.2.2.2.2.2.2.2, h.2.1 c⟩)
    (θ_run_and (results (F := Ideal) m ρ) (unchanged (F := Ideal) m ρ)), ?_⟩
  refine (θ_run Cert.Reference5Ideal.defs _ _).mono (fun _ h c => ⟨(h.1 c).1.trans ?_, (h.1 c).2.1.trans ?_,
    (h.1 c).2.2.1.trans ?_, (h.1 c).2.2.2.1.trans ?_, (h.1 c).2.2.2.2.1.trans ?_, (h.1 c).2.2.2.2.2.1.trans ?_,
    (h.1 c).2.2.2.2.2.2.1.trans ?_, (h.1 c).2.2.2.2.2.2.2.1.trans ?_, (h.1 c).2.2.2.2.2.2.2.2.trans ?_, h.2.1 c⟩)
    (θ_run_and (reference_results m' ρ') (reference_frame m' ρ' trivial))
  all_goals obtain ⟨h0, h1, h2, h3, h4, h5, h6, h7, h8, h9⟩ := hagree c
  · exact (congr (congr (congr (congr (congrArg (Cert.Reference5Ideal.Read.val_main_v65 (F := Ideal)) h3) h6) h7) h8) h9).trans
      (final_dya m c).symm
  · exact (congr (congr (congr (congr (congrArg (Cert.Reference5Ideal.Read.val_main_v62 (F := Ideal)) h4) h6) h7) h8) h9).trans
      (final_dys m c).symm
  · exact (congr (congr (congr (congr (congrArg (Cert.Reference5Ideal.Read.val_main_v59 (F := Ideal)) h5) h6) h7) h8) h9).trans
      (final_dyp m c).symm
  · exact (congr (congr (congr (congr (congr (congr (congr (congr (congr (congrArg (Cert.Reference5Ideal.Read.val_main_v68 (F := Ideal)) h0) h1) h2) h3) h4) h5) h6) h7) h8) h9).trans
      (final_dpg m c).symm
  · exact (congr (congr (congr (congr (congr (congr (congr (congr (congrArg (Cert.Reference5Ideal.Read.val_main_v70 (F := Ideal)) h0) h1) h2) h3) h4) h5) h6) h7) h9).trans
      (final_sums m c).symm
  · exact (congr (congr (congr (congr (congrArg (Cert.Reference5Ideal.Read.val_main_v71 (F := Ideal)) h0) h6) h7) h8) h9).trans
      (final_dwa m c).symm
  · exact (congr (congr (congr (congr (congrArg (Cert.Reference5Ideal.Read.val_main_v72 (F := Ideal)) h1) h6) h7) h8) h9).trans
      (final_dws m c).symm
  · exact (congr (congr (congr (congr (congrArg (Cert.Reference5Ideal.Read.val_main_v73 (F := Ideal)) h2) h6) h7) h8) h9).trans
      (final_dwp m c).symm
  · exact (congr (congr (congr (congr (congr (congr (congr (congr (congrArg (Cert.Reference5Ideal.Read.val_main_v74 (F := Ideal)) h0) h1) h2) h3) h4) h5) h6) h8) h9).trans
      (final_dwo m c).symm

end Cert.MergeBwd

end
-- ==== Proof.Loss.Spec.lean ====
/- The loss after the last layer and its gradient in closed form, entry by entry, over the extended reals. -/
module

public import proofs.«01_k».proof.Proof.Norm.Scalar

@[expose] public section

noncomputable section

namespace Cert.Loss

open Idealize.ShloMosaic Cert.Norm

/-- A matrix of extended reals. -/
abbrev Mat (a b : Nat) := (⟨2, ![a, b]⟩ : Shape).Idx → EReal

/-- The arrays the loss is taken of: the last layer's output, the norm's weight and the target. -/
structure Args where
  x : Mat 4096 1024
  g : Mat 1 1024
  target : Mat 4096 1024

variable (A : Args)

/-- Row `l` of the input. -/
def row (l : Fin 4096) (c : Fin 1024) : EReal := A.x (ix2 l c)

/-- The normalised row. -/
def nrm (l : Fin 4096) (c : Fin 1024) : EReal := row A l c * rstd (row A l)

/-- How far the output is from the target. -/
def err (l : Fin 4096) (c : Fin 1024) : EReal := nrm A l c * A.g (ix2 0 c) - A.target (ix2 l c)

/-- The gradient at the output. -/
def dy (l : Fin 4096) (c : Fin 1024) : EReal := err A l c * ((1024⁻¹ : ℝ) : EReal)

/-- The gradient at the normalised row. -/
def dn (l : Fin 4096) (c : Fin 1024) : EReal := dy A l c * A.g (ix2 0 c)

/-- The gradient at the input. -/
def dx (l : Fin 4096) (c : Fin 1024) : EReal := rowGrad (row A l) (dn A l) c

/-- What row `l` adds to the gradient at the norm's weight and to the loss (rows 0 and 1; nothing to the others). -/
def rowTerm (l : Fin 4096) (q : Fin 8) (c : Fin 1024) : EReal :=
  if q = 0 then dy A l c * nrm A l c else if q = 1 then err A l c * err A l c * ((2048⁻¹ : ℝ) : EReal) else 0

/-- The gradient at the norm's weight and each column's part of the loss, in rows 0 and 1. -/
def sums (q : Fin 8) (c : Fin 1024) : EReal := ∑ l : Fin 4096, rowTerm A l q c

/-- The inverse of the row's width as a constant. -/
theorem inv_width_f32 : Ideal.ofBits .f32 0x3A800000#32 = ((1024⁻¹ : ℝ) : EReal) := by
  simp [Ideal.ofBits, Ideal.ieee, -EReal.coe_mul]; norm_num

/-- Half of it. -/
theorem half_inv_width_f32 : Ideal.ofBits .f32 0x3A000000#32 = ((2048⁻¹ : ℝ) : EReal) := by
  simp [Ideal.ofBits, Ideal.ieee, -EReal.coe_mul]; norm_num

/-- A half as a constant. -/
theorem half_f32 : Ideal.ofBits .f32 0x3F000000#32 = ((1 / 2 : ℝ) : EReal) := by
  simp [Ideal.ofBits, Ideal.ieee, -EReal.coe_mul]; norm_num

/-- Two as a constant. -/
theorem two_f32 : Ideal.ofBits .f32 0x40000000#32 = ((2 : ℝ) : EReal) := by
  simp [Ideal.ofBits, Ideal.ieee, -EReal.coe_mul]; norm_num

/-- Half of twice a value, divided by the width. -/
theorem half_twice (e : EReal) :
    Ideal.div ((1 / 2 : ℝ) : EReal) ((1024 : ℝ) : EReal) * (((2 : ℝ) : EReal) * e) = e * ((1024⁻¹ : ℝ) : EReal) := by
  rw [div_width, ← EReal.coe_mul, ← mul_assoc, ← EReal.coe_mul, mul_comm e]
  congr 2
  norm_num

/-- Half of a value, divided by the width. -/
theorem half_mean (s : EReal) :
    Ideal.div (((1 / 2 : ℝ) : EReal) * s) ((1024 : ℝ) : EReal) = s * ((2048⁻¹ : ℝ) : EReal) := by
  rw [div_width, mul_right_comm, ← EReal.coe_mul, mul_comm s]
  congr 2
  norm_num

end Cert.Loss

end
-- ==== Proof.Loss.Point.lean ====
/- What a grid point leaves in the loss kernel's two output windows, at an index: the closed form of Spec.lean. -/
module

public import proofs.«01_k».proof.Proof.Gen.Kernel6Ideal.Value
public import proofs.«01_k».proof.Proof.Loss.Spec
public import Idealize.ShloMosaic.Lib.Pipeline.ReadBack
public import Idealize.ShloMosaic.Lib.Pipeline.ValueKit
public import Idealize.ShloMosaic.Lib.Pointwise
public import Idealize.ShloMosaic.Lib.WritesUnit

@[expose] public section

set_option maxRecDepth 16384

noncomputable section

namespace Cert.Loss

open Idealize.ShloMosaic Idealize.ShloMosaic.TcCoe Cert.Norm Cert.Kernel6Ideal Cert.Kernel6Ideal.Gen

variable (m : (ℓ : Loc nD τ sig) → Buf (Elt Ideal) ℓ) (c : Dev nD)

/-- The loss's arrays, as the kernel's arguments hold them. -/
def args : Args where
  x := m ((c : Thread nD τ).loc main_arg0)
  g := m ((c : Thread nD τ).loc main_arg1)
  target := m ((c : Thread nD τ).loc main_arg2)

/-- Row `r` of point `t`'s block. -/
abbrev at512 (t : Fin cfg0.N) (r : Fin 512) : Fin 4096 := ⟨512 * t.val + r.val, by have := t.isLt; have : cfg0.N = 8 := N_0; omega⟩

/-- Where each window's block lies at a grid point. -/
theorem index : ∀ t : Fin cfg0.N, win0_0.index t = ![t.val, 0] ∧ win0_1.index t = ![0, 0] ∧ win0_2.index t = ![t.val, 0] ∧
    win0_3.index t = ![t.val, 0] ∧ win0_4.index t = ![0, 0] :=
  (by decide +kernel : ∀ t : Fin grid0.N, win0_0.index t = ![t.val, 0] ∧ win0_1.index t = ![0, 0] ∧ win0_2.index t = ![t.val, 0] ∧
    win0_3.index t = ![t.val, 0] ∧ win0_4.index t = ![0, 0])

theorem blk_x (t : Fin cfg0.N) (r : Fin 512) (k : Fin 1024) : iblk m c 0 t (ix2 r k) = (args m c).x (ix2 (at512 t r) k) := by
  unfold args
  blk_ext [iblk, V_main_arg0, index t]

theorem blk_g (t : Fin cfg0.N) (k : Fin 1024) : iblk m c 1 t (ix2 0 k) = (args m c).g (ix2 0 k) := by
  unfold args
  blk_ext [iblk, V_main_arg1, index t]

theorem blk_target (t : Fin cfg0.N) (r : Fin 512) (k : Fin 1024) : iblk m c 2 t (ix2 r k) = (args m c).target (ix2 (at512 t r) k) := by
  unfold args
  blk_ext [iblk, V_main_arg2, index t]

/-- A point's scale of a row. -/
theorem pt_rstd (t : Fin cfg0.N) (r : Fin 512) (u : Fin 1) : k0_pay3 (iblk m c 0 t) (ix2 r u) = rstd (row (args m c) (at512 t r)) := by
  unfold k0_pay3
  pointwise [blk_x m c t]
  unfold rstd meanSq row
  rfl

/-- A point's normalised rows. -/
theorem pt_nrm (t : Fin cfg0.N) (r : Fin 512) (k : Fin 1024) : k0_pay4 (iblk m c 0 t) (ix2 r k) = nrm (args m c) (at512 t r) k := by
  unfold k0_pay4
  pointwise [blk_x m c t, pt_rstd m c t]
  rfl

/-- A point's distance from the target. -/
theorem pt_err (t : Fin cfg0.N) (r : Fin 512) (k : Fin 1024) :
    k0_pay5 (iblk m c 0 t) (iblk m c 1 t) (iblk m c 2 t) (ix2 r k) = err (args m c) (at512 t r) k := by
  unfold k0_pay5
  pointwise [pt_nrm m c t, blk_g m c t, blk_target m c t]
  rfl

/-- A point's gradient at the output. -/
theorem pt_dy (t : Fin cfg0.N) (r : Fin 512) (k : Fin 1024) :
    k0_pay6 (iblk m c 0 t) (iblk m c 1 t) (iblk m c 2 t) (ix2 r k) = dy (args m c) (at512 t r) k := by
  unfold k0_pay6 dy
  rw [← inv_width_f32]
  pointwise [pt_err m c t]

/-- A point's block of the gradient at the input. -/
theorem pt_dx (t : Fin cfg0.N) (r : Fin 512) (k : Fin 1024) :
    k0_pay7 (iblk m c 0 t) (iblk m c 1 t) (iblk m c 2 t) (ix2 r k) = dx (args m c) (at512 t r) k := by
  unfold k0_pay7
  pointwise [pt_dy m c t, pt_nrm m c t, pt_rstd m c t, blk_g m c t]
  rfl

/-- What a point leaves in the block of the gradient at the input. -/
theorem out_dx (t : Fin cfg0.N) (r : Fin 512) (k : Fin 1024) :
    (outsAt0 m c t.val t.isLt).1 (ix2 r k) = dx (args m c) (at512 t r) k := by
  by_cases h0 : t.val % 8 = 0
  · rw [outsAt0_A m c t h0]
    frame_out
    exact pt_dx m c t r k
  · rw [outsAt0_B m c t h0]
    frame_out
    exact pt_dx m c t r k

/-- An array of eight rows whose rows 1 and 0 were stored last, read at an index. -/
theorem read_rows {sig' : RefSig} {κ : Kind} {sp : Space} (v : View sig' κ sp S8x1024 .f32) (f : v.ty.Contents (Elt Ideal)) (p1 p0 : FVec Ideal S1x1024 .f32)
    (L : List (View.Piece (Elt Ideal) S8x1024 .f32)) (q : Fin 8) (k : Fin 1024) :
    v.read (Elt Ideal) (v.writes (Elt Ideal) f (⟨Rect.unit ![1, 0] ![1, 1024] inb_S8x1024_S1x1024_1_0, p1⟩
      :: ⟨Rect.unit ![0, 0] ![1, 1024] inb_S8x1024_S1x1024_0_0, p0⟩ :: L)) (ix2 q k)
      = if q = 0 then p0 (ix2 0 k) else if q = 1 then p1 (ix2 0 k)
        else v.read (Elt Ideal) (v.writes (Elt Ideal) f L) (ix2 q k) := by
  have e : ∀ n : Fin 8, q = n ↔ q.val = n.val := fun n => Fin.ext_iff
  by_cases h1 : q.val = 1
  · rw [View.read_writes_cons_rows_of_mem v f inb_S8x1024_S1x1024_1_0 p1 _ (ix2 q k) (ix2 0 k) rfl h1 rfl, if_neg (by rw [e]; omega), if_pos (by rw [e]; omega)]
  rw [View.read_writes_cons_rows_of_not_mem v f inb_S8x1024_S1x1024_1_0 p1 _ (ix2 q k) rfl rfl (by show q.val < 1 ∨ 1 + 1 ≤ q.val; omega)]
  by_cases hz : q.val = 0
  · rw [View.read_writes_cons_rows_of_mem v f inb_S8x1024_S1x1024_0_0 p0 _ (ix2 q k) (ix2 0 k) rfl hz rfl, if_pos (by rw [e]; omega)]
  rw [View.read_writes_cons_rows_of_not_mem v f inb_S8x1024_S1x1024_0_0 p0 _ (ix2 q k) rfl rfl (by show q.val < 0 ∨ 0 + 1 ≤ q.val; omega),
    if_neg (by rw [e]; omega), if_neg (by rw [e]; omega)]

/-- What a point adds to the sums. -/
def blockTerm (t : Fin cfg0.N) (q : Fin 8) (k : Fin 1024) : EReal := ∑ r : Fin 512, rowTerm (args m c) (at512 t r) q k

/-- The two rows that a point stores over `P`, read at an index: `P` and the point's term. -/
theorem rows_eq (t : Fin cfg0.N) (P : Vec Ideal S8x1024 .f32) (q : Fin 8) (k : Fin 1024) :
    (if q = 0 then k0_pay1 (k0_pay9 (View.ld P (Rect.unit ![0, 0] ![1, 1024] inb_S8x1024_S1x1024_0_0)))
        (k0_pay10 (iblk m c 0 t) (iblk m c 1 t) (iblk m c 2 t)) (ix2 0 k)
      else if q = 1 then k0_pay2 (k0_pay5 (iblk m c 0 t) (iblk m c 1 t) (iblk m c 2 t))
        (View.ld P (Rect.unit ![1, 0] ![1, 1024] inb_S8x1024_S1x1024_1_0)) (ix2 0 k)
      else P (ix2 q k)) = P (ix2 q k) + blockTerm m c t q k := by
  unfold blockTerm rowTerm
  split_ifs with h0 h1
  · subst h0
    unfold k0_pay1 k0_pay9 k0_pay10
    pointwise [pt_dy m c t, pt_nrm m c t]
  · subst h1
    rw [sum_mul_real _ _ _ (by norm_num), ← half_inv_width_f32]
    unfold k0_pay2
    pointwise [pt_err m c t]
  · rw [Finset.sum_const_zero, add_zero]

/-- The sums after the first point. -/
theorem out_sums_first (t : Fin cfg0.N) (h0 : t.val % 8 = 0) (i : S8x1024.Idx) :
    (outsAt0 m c t.val t.isLt).2 i = 0 + blockTerm m c t (i 0) (i 1) := by
  rw [outsAt0_A m c t h0]
  frame_open
  simp (disch := decide) only [↓ View.readCov_skip, ↓ View.readCov_cons_toLoadRect, ↓ View.readCov_fill]
  frame_out
  obtain ⟨q, k, rfl⟩ : ∃ (q : Fin 8) (k : Fin 1024), i = ix2 q k := ⟨i 0, i 1, by funext a; fin_cases a <;> rfl⟩
  rw [← View.read_writes_junk_eq_canon (ms0_4 t).view, read_rows]
  refine Eq.trans ?_ ((rows_eq m c t (k0_pay8 (F := Ideal)) q k).trans ?_)
  · congr 3
    rw [View.read_writes_junk_eq_canon, View.canon_unit_zero (by decide)]
  · unfold k0_pay8
    pointwise

/-- The sums after a further point. -/
theorem out_sums_next (t : Fin cfg0.N) (h0 : ¬t.val % 8 = 0) (i : S8x1024.Idx) :
    (outsAt0 m c t.val t.isLt).2 i = (outsAt0 m c (t.val - 1) (Nat.lt_of_le_of_lt (Nat.sub_le _ _) t.isLt)).2 i + blockTerm m c t (i 0) (i 1) := by
  rw [outsAt0_B m c t h0]
  frame_out
  obtain ⟨q, k, rfl⟩ : ∃ (q : Fin 8) (k : Fin 1024), i = ix2 q k := ⟨i 0, i 1, by funext a; fin_cases a <;> rfl⟩
  rw [read_rows]
  refine Eq.trans ?_ (rows_eq m c t _ q k)
  congr 3
  exact congrFun (Memref.IsWhole.read_unread _ _) _

/-- The sums after the last point. -/
theorem out_sums (i : S8x1024.Idx) : (outsAt0 m c t0_7.val t0_7.isLt).2 i = sums (args m c) (i 0) (i 1) := by
  rw [Pipeline.eq_sum_fin_of_reset_step_apply_last (fun n h => (outsAt0 m c n h).2) 8 (fun _ => 0) (fun t i => blockTerm m c t (i 0) (i 1))
    (out_sums_first m c) (out_sums_next m c) (le_of_eq N_0) t0_7 (by show 7 + 1 = cfg0.N; exact N_0.symm) i, zero_add]
  unfold sums blockTerm
  refine (Fin.sum_points_lanes_congr 8 (A := 1) (L := 4096) (g := fun _ l => rowTerm (args m c) l (i 0) (i 1)) (fun t k ha hl => ?_) N_0 rfl).trans
    (Fin.sum_univ_one _)
  congr 1
  apply Fin.ext
  have := t.isLt
  have : cfg0.N = 8 := N_0
  show 512 * t.val + k.val = t.val % 8 * 512 + k.val
  omega

/-- The gradient at the input, after the run. -/
theorem final_dx : (dats m 0 c).arrAt 3 cfg0.N = fun i => dx (args m c) (i 0) (i 1) := by
  refine (dats m 0 c).arrAt_eq_of_covers 3 _ (by decide +kernel) fun t hf y => ?_
  blk_simp [index t]
  rw [after0_3]
  obtain ⟨q, k, rfl⟩ : ∃ (q : Fin 512) (k : Fin 1024), y = ix2 q k := ⟨y 0, y 1, by funext a; fin_cases a <;> rfl⟩
  rw [out_dx]
  have e0 : ((win0_3.blk t).view.emb (ix2 q k) 0) = at512 t q := by
    apply Fin.ext
    blk_simp [index t]
    simp [mul_comm]
  have e1 : ((win0_3.blk t).view.emb (ix2 q k) 1) = k := by
    apply Fin.ext
    blk_simp [index t]
  rw [e0, e1]

/-- The gradient at the norm's weight and the columns' parts of the loss, after the run. -/
theorem final_sums : (dats m 0 c).arrAt 4 cfg0.N = fun i => sums (args m c) (i 0) (i 1) := by
  refine (dats m 0 c).arrAt_eq_of_after_last 4 t0_7 (by decide +kernel) _ fun j => ?_
  blk_simp
  rw [after0_4]
  exact out_sums m c j

end Cert.Loss

end
-- ==== Proof.Loss.Reference.lean ====
/- The reference's two results at an index: the closed form of Spec.lean. -/
module

public import proofs.«01_k».proof.Proof.Gen.Reference6Ideal.Read
public import proofs.«01_k».proof.Proof.Loss.Spec

@[expose] public section

set_option maxRecDepth 16384

noncomputable section

namespace Cert.Loss

open Idealize.ShloMosaic Cert.Norm Cert.Reference6Ideal Cert.Reference6Ideal.Read

variable (A : Args)

/-- The mean square of a row. -/
theorem ref_meanSq (l : Fin 4096) (u : Fin 1) : val_main_v6 (F := Ideal) A.x (ix2 l u) = meanSq (row A l) := by
  unfold val_main_v6 val_main_v5 val_main_cst_1 val_main_v4 val_main_v3 val_main_cst_0 val_main_v2 val_main_v1 val_main_cst val_main_v0 meanSq row
  pointwise

/-- Its inverse root. -/
theorem ref_rstd (l : Fin 4096) (u : Fin 1) : val_main_v7 (F := Ideal) A.x (ix2 l u) = rstd (row A l) := by
  unfold val_main_v7 rstd
  rw [← ref_meanSq A l u]
  pointwise

/-- The normalised row. -/
theorem ref_nrm (l : Fin 4096) (c : Fin 1024) : val_main_v12 (F := Ideal) A.x (ix2 l c) = nrm A l c := by
  unfold val_main_v12 val_main_v11 nrm
  pointwise [ref_rstd]
  rfl

/-- The distance from the target. -/
theorem ref_err (l : Fin 4096) (c : Fin 1024) : val_main_v15 (F := Ideal) A.x A.g A.target (ix2 l c) = err A l c := by
  unfold val_main_v15 val_main_v14 val_main_v13 err
  pointwise [ref_nrm]

/-- The gradient at the output. -/
theorem ref_dy (l : Fin 4096) (c : Fin 1024) : val_main_v29 (F := Ideal) A.x A.g A.target (ix2 l c) = dy A l c := by
  unfold val_main_v29 val_main_v28 val_main_v27 val_main_v26 val_main_cst_10 val_main_v25 val_main_v24 val_main_cst_9 val_main_cst_8
    val_main_v18 val_main_v17 val_main_cst_3 dy
  pointwise [ref_err]
  rw [half_f32, two_f32, width_f32]
  exact half_twice _

/-- The gradient at the normalised row. -/
theorem ref_dn (l : Fin 4096) (c : Fin 1024) : val_main_v34 (F := Ideal) A.x A.g A.target (ix2 l c) = dn A l c := by
  unfold val_main_v34 val_main_v33 dn
  pointwise [ref_dy]

/-- What reaches a row through the inverse root. -/
theorem ref_viaRoot (l : Fin 4096) (c : Fin 1024) :
    val_main_v44 (F := Ideal) A.x A.g A.target (ix2 l c) = viaRoot (row A l) (dn A l) := by
  unfold val_main_v44 val_main_v43 val_main_cst_14 val_main_v42 val_main_v41 val_main_cst_13 val_main_v40 val_main_v10 val_main_v9 val_main_cst_2 val_main_v8
    val_main_v37 val_main_v36 val_main_cst_12 val_main_v35 viaRoot row
  pointwise [ref_dn]
  rw [Fin.sum_univ_one, ref_meanSq, ref_rstd]
  rfl

/-- THE FIRST RESULT: the gradient at the input. -/
theorem ref_dx (l : Fin 4096) (c : Fin 1024) : val_main_v48 (F := Ideal) A.x A.g A.target (ix2 l c) = dx A l c := by
  unfold val_main_v48 val_main_v47 val_main_v46 val_main_v45 val_main_v39 val_main_v38 dx
  have h := row_grad (row A l) (dn A l) c 0
  rw [zero_add, zero_add] at h
  rw [← h]
  pointwise [ref_viaRoot, ref_dn, ref_rstd]
  rfl

/-- THE SECOND RESULT: the gradient at the norm's weight, and what each column adds to the loss. -/
theorem ref_sums (q : Fin 8) (c : Fin 1024) : val_main_v56 (F := Ideal) A.x A.g A.target (ix2 q c) = sums A q c := by
  have hl : ∑ l, err A l c * err A l c * ((2048⁻¹ : ℝ) : EReal)
      = Ideal.div (Ideal.ofBits .f32 0x3F000000#32 * ∑ l, err A l c * err A l c) (Ideal.ofBits .f32 0x44800000#32) := by
    rw [sum_mul_real _ _ _ (by norm_num), half_f32, width_f32, half_mean]
  unfold val_main_v56 val_main_v55 val_main_cst_18 val_main_v54 val_main_v53 val_main_cst_17 val_main_v52 val_main_v51 val_main_cst_16 val_main_v50
    val_main_v49 val_main_cst_15 val_main_v16 val_main_v32 val_main_v31 val_main_cst_11 val_main_v30 sums rowTerm
  pointwise [ref_dy, ref_nrm, ref_err]
  fin_cases q <;> simp [mul_comm (nrm _ _ _), hl]

end Cert.Loss

end
-- ==== Proof.Loss.Claim.lean ====
/- The claims of the loss and its gradient: the kernel's run and the reference's run end with equal results. -/
module

public import proofs.«01_k».proof.Defs
public import proofs.«01_k».proof.Proof.Gen.Reference6Ideal.Run
public import proofs.«01_k».proof.Proof.Ext.Index
public import proofs.«01_k».proof.Proof.Loss.Point
public import proofs.«01_k».proof.Proof.Loss.Reference
public import Idealize.ShloMosaic.Lib.Quiescent

@[expose] public section

noncomputable section

namespace Cert.Loss

open Idealize.ShloMosaic Idealize.ShloMosaic.TcCoe Idealize.SL.Sem

/-- The reference runs, keeps its arguments, and every counter ends at zero. -/
theorem reference_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- From equal arguments the kernel and the reference end with equal results, as extended reals. -/
theorem algebraic : Cert.algebraic_Kernel6Ideal_Reference6Ideal := by
  intro m ρ m' ρ' _ hagree
  refine ⟨_, _, Cert.Kernel6Ideal.Value.run_blocks (F := Ideal) m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  · obtain ⟨h0, h1, h2⟩ := hagree c
    rw [Cert.Reference6Ideal.Read.val_main_v48_eq, h0, h1, h2, final_dx]
    exact Ext.matrix_ext (ref_dx (args m c))
  · obtain ⟨h0, h1, h2⟩ := hagree c
    rw [Cert.Reference6Ideal.Read.val_main_v56_eq, h0, h1, h2, final_sums]
    exact Ext.matrix_ext (ref_sums (args m c))

end Cert.Loss

end
-- ==== Proof.Update.Spec.lean ====
/- The AdamW update of one weight in closed form, entry by entry, over the extended reals. -/
module

public import Idealize.ShloMosaic.Lib.Pointwise
public import Idealize.ShloMosaic.PureOps.Ideal.Laws
public import Idealize.ShloMosaic.PureOps.IdealRules
public import proofs.«01_k».proof.Kernel7Ideal

@[expose] public section

noncomputable section

namespace Cert.Update

open Idealize.ShloMosaic

/-- A matrix of extended reals. -/
abbrev Mat (a b : Nat) := (⟨2, ![a, b]⟩ : Shape).Idx → EReal

/-- A layer's gradient in its four parts. -/
abbrev Parts := (⟨3, ![4, 1024, 800]⟩ : Shape).Idx → EReal

/-- The arrays of the update: the weight, the parts of both layers' gradients and the two moments. -/
structure Args where
  w : Mat 2048 800
  g0 : Parts
  g1 : Parts
  m : Mat 2048 800
  v : Mat 2048 800

variable (A : Args)

/-- Row `r` of the upper layer. -/
abbrev up (r : Fin 2048) (h : r.val < 1024) : Fin 1024 := ⟨r.val, h⟩

/-- Row `r` of the lower layer. -/
abbrev low (r : Fin 2048) : Fin 1024 := ⟨r.val - 1024, by omega⟩

/-- The gradient: the sum of its parts, one layer below the other. -/
def grad (r : Fin 2048) (k : Fin 800) : EReal :=
  if h : r.val < 1024 then ∑ j : Fin 4, A.g0 (ix3 j (up r h) k) else ∑ j : Fin 4, A.g1 (ix3 j (low r) k)

/-- The new first moment. -/
def newM (r : Fin 2048) (k : Fin 800) : EReal :=
  Ideal.ofBits .f32 0x3F666666#32 * A.m (ix2 r k) + Ideal.ofBits .f32 0x3DCCCCCD#32 * grad A r k

/-- The new second moment. -/
def newV (r : Fin 2048) (k : Fin 800) : EReal :=
  Ideal.ofBits .f32 0x3F7FBE77#32 * A.v (ix2 r k) + Ideal.ofBits .f32 0x3A83126F#32 * (grad A r k * grad A r k)

/-- What is added to the weight. -/
def delta (r : Fin 2048) (k : Fin 800) : EReal :=
  Ideal.ofBits .f32 0xBA83126F#32 * (Ideal.div (newM A r k * ((8388608 / 5463681 : ℝ) : EReal))
      (Ideal.sqrt (newV A r k * ((268435456 / 2672307 : ℝ) : EReal)) + Ideal.ofBits .f32 0x322BCC77#32)
    + Ideal.ofBits .f32 0x3C23D70A#32 * A.w (ix2 r k))

/-- The factor on the first moment, as the kernel names it. -/
theorem inv_left1 : Named.named (F := Ideal) Cert.Kernel7Ideal.κ "inv_left1" (φ := .f32) 0x3FC48605#32 = ((8388608 / 5463681 : ℝ) : EReal) :=
  IdealRules.named_const.ideal_named_scalar _ _ _ _ rfl

/-- The factor on the second moment, as the kernel names it. -/
theorem inv_left2 : Named.named (F := Ideal) Cert.Kernel7Ideal.κ "inv_left2" (φ := .f32) 0x42C8E6D3#32 = ((268435456 / 2672307 : ℝ) : EReal) :=
  IdealRules.named_const.ideal_named_scalar _ _ _ _ rfl

/-- The reference's divisor of the first moment. -/
theorem left1_f32 : Ideal.ofBits .f32 0x3F26BD02#32 = ((5463681 / 8388608 : ℝ) : EReal) := by
  simp [Ideal.ofBits, Ideal.ieee, -EReal.coe_mul]; norm_num

/-- The reference's divisor of the second moment. -/
theorem left2_f32 : Ideal.ofBits .f32 0x3C231ACC#32 = ((2672307 / 268435456 : ℝ) : EReal) := by
  simp [Ideal.ofBits, Ideal.ieee, -EReal.coe_mul]; norm_num

/-- A quotient by a real other than zero is a product with its inverse. -/
theorem div_real (y : EReal) (a b : ℝ) (ha : a ≠ 0) (hb : b = a⁻¹) : Ideal.div y (a : EReal) = y * (b : EReal) := by
  have h : (a : EReal) ≠ 0 := by exact_mod_cast ha
  rw [Ideal.div, if_neg h, hb, EReal.coe_inv]

/-- Dividing by the first divisor is multiplying by the first factor. -/
theorem div_left1 (y : EReal) : Ideal.div y (Ideal.ofBits .f32 0x3F26BD02#32) = y * ((8388608 / 5463681 : ℝ) : EReal) := by
  rw [left1_f32]; exact div_real y _ _ (by norm_num) (by norm_num)

/-- Dividing by the second divisor is multiplying by the second factor. -/
theorem div_left2 (y : EReal) : Ideal.div y (Ideal.ofBits .f32 0x3C231ACC#32) = y * ((268435456 / 2672307 : ℝ) : EReal) := by
  rw [left2_f32]; exact div_real y _ _ (by norm_num) (by norm_num)

end Cert.Update

end
-- ==== Proof.Update.Point.lean ====
/- What a grid point leaves in the update kernel's four output windows, at an index: the closed form of Spec.lean. -/
module

public import proofs.«01_k».proof.Proof.Gen.Kernel7Ideal.Value
public import proofs.«01_k».proof.Proof.Update.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Update

open Idealize.ShloMosaic Idealize.ShloMosaic.TcCoe Cert.Kernel7Ideal Cert.Kernel7Ideal.Gen

variable (m : (ℓ : Loc nD τ sig) → Buf (Elt Ideal) ℓ) (c : Dev nD)

/-- The update's arrays, as the kernel's arguments hold them. -/
def args : Args where
  w := m ((c : Thread nD τ).loc main_arg0)
  g0 := m ((c : Thread nD τ).loc main_arg1)
  g1 := m ((c : Thread nD τ).loc main_arg2)
  m := m ((c : Thread nD τ).loc main_arg3)
  v := m ((c : Thread nD τ).loc main_arg4)

/-- Row `r` of point `t`'s block. -/
abbrev at512 (t : Fin cfg0.N) (r : Fin 512) : Fin 2048 := ⟨512 * t.val + r.val, by have := t.isLt; have : cfg0.N = 4 := N_0; omega⟩

/-- That row within its layer. -/
abbrev inLayer (t : Fin cfg0.N) (r : Fin 512) : Fin 1024 := ⟨512 * (t.val % 2) + r.val, by omega⟩

/-- Where each window's block lies at a grid point. -/
theorem index : ∀ t : Fin cfg0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0] :=
  (by decide +kernel : ∀ t : Fin grid0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0])

/-- Where the parts of the upper layer's gradient lie at its two points. -/
theorem index_up : ∀ t : Fin cfg0.N, t.val < 2 → win0_1.index t = ![0, t.val % 2, 0] :=
  (by decide +kernel : ∀ t : Fin grid0.N, t.val < 2 → win0_1.index t = ![0, t.val % 2, 0])

/-- Where the parts of the lower layer's gradient lie at its two points. -/
theorem index_low : ∀ t : Fin cfg0.N, ¬ t.val < 2 → win0_2.index t = ![0, t.val % 2, 0] :=
  (by decide +kernel : ∀ t : Fin grid0.N, ¬ t.val < 2 → win0_2.index t = ![0, t.val % 2, 0])

/-- A point's layer. -/
theorem layer : ∀ t : Fin cfg0.N, (grid0.coords t 0).val = t.val / 2 :=
  (by decide +kernel : ∀ t : Fin grid0.N, (grid0.coords t 0).val = t.val / 2)

theorem blk_w (t : Fin cfg0.N) (r : Fin 512) (k : Fin 800) : iblk m c 0 t (ix2 r k) = (args m c).w (ix2 (at512 t r) k) := by
  unfold args
  blk_ext [iblk, V_main_arg0, index t]

theorem blk_g0 (t : Fin cfg0.N) (h : t.val < 2) (j : Fin 4) (r : Fin 512) (k : Fin 800) :
    iblk m c 1 t (ix3 j r k) = (args m c).g0 (ix3 j (inLayer t r) k) := by
  unfold args
  blk_ext [iblk, V_main_arg1, index_up t h]

theorem blk_g1 (t : Fin cfg0.N) (h : ¬ t.val < 2) (j : Fin 4) (r : Fin 512) (k : Fin 800) :
    iblk m c 2 t (ix3 j r k) = (args m c).g1 (ix3 j (inLayer t r) k) := by
  unfold args
  blk_ext [iblk, V_main_arg2, index_low t h]

theorem blk_m (t : Fin cfg0.N) (r : Fin 512) (k : Fin 800) : iblk m c 3 t (ix2 r k) = (args m c).m (ix2 (at512 t r) k) := by
  unfold args
  blk_ext [iblk, V_main_arg3, index t]

theorem blk_v (t : Fin cfg0.N) (r : Fin 512) (k : Fin 800) : iblk m c 4 t (ix2 r k) = (args m c).v (ix2 (at512 t r) k) := by
  unfold args
  blk_ext [iblk, V_main_arg4, index t]

/-- A point's gradient, of its five blocks. -/
abbrev ptG (t : Fin cfg0.N) : FVec Ideal S512x800 .f32 :=
  k0_pay5 (grid0.coords t) (iblk m c 0 t) (iblk m c 1 t) (iblk m c 2 t) (iblk m c 3 t) (iblk m c 4 t)

/-- A point's rows of the gradient. -/
theorem pt_grad (t : Fin cfg0.N) (r : Fin 512) (k : Fin 800) : ptG m c t (ix2 r k) = grad (args m c) (at512 t r) k := by
  have hN : t.val < 4 := t.isLt
  unfold ptG k0_pay5 k0_pay4
  rw [layer t]
  by_cases h : t.val < 2
  · have e : t.val / 2 = 0 := by omega
    have hr : (at512 t r).val < 1024 := by show 512 * t.val + r.val < 1024; omega
    have er : up (at512 t r) hr = inLayer t r := Fin.ext (by show 512 * t.val + r.val = 512 * (t.val % 2) + r.val; omega)
    rw [e, grad, dif_pos hr, er, Fin.sum_univ_four]
    pointwise [blk_g0 m c t h]
    exact if_neg (by decide)
  · have e : t.val / 2 = 1 := by omega
    have hr : ¬ (at512 t r).val < 1024 := by show ¬ 512 * t.val + r.val < 1024; omega
    have er : low (at512 t r) = inLayer t r := Fin.ext (by show 512 * t.val + r.val - 1024 = 512 * (t.val % 2) + r.val; omega)
    rw [e, grad, dif_neg hr, er, Fin.sum_univ_four]
    pointwise [blk_g1 m c t h]

/-- A point's rows of the new first moment. -/
theorem pt_newM (t : Fin cfg0.N) (r : Fin 512) (k : Fin 800) : k0_pay1 (ptG m c t) (iblk m c 3 t) (ix2 r k) = newM (args m c) (at512 t r) k := by
  unfold k0_pay1
  pointwise [pt_grad m c t, blk_m m c t]
  rfl

/-- A point's rows of the new second moment. -/
theorem pt_newV (t : Fin cfg0.N) (r : Fin 512) (k : Fin 800) : k0_pay2 (ptG m c t) (iblk m c 4 t) (ix2 r k) = newV (args m c) (at512 t r) k := by
  unfold k0_pay2
  pointwise [pt_grad m c t, blk_v m c t]
  rfl

/-- A point's rows of what is added to the weight. -/
theorem pt_delta (t : Fin cfg0.N) (r : Fin 512) (k : Fin 800) :
    k0_pay3 (ptG m c t) (iblk m c 3 t) (iblk m c 4 t) (iblk m c 0 t) (ix2 r k) = delta (args m c) (at512 t r) k := by
  unfold k0_pay3
  pointwise [pt_newM m c t, pt_newV m c t, blk_w m c t, inv_left1, inv_left2]
  rfl

/-- The gradient, after the run. -/
theorem final_grad : (dats m 0 c).arrAt 5 cfg0.N = fun i => grad (args m c) (i 0) (i 1) := by
  refine (dats m 0 c).arrAt_eq_of_covers 5 _ (by decide +kernel) fun t hf y => ?_
  blk_simp [index t]
  rw [after0_5]
  frame_out
  obtain ⟨r, k, rfl⟩ : ∃ (r : Fin 512) (k : Fin 800), y = ix2 r k := ⟨y 0, y 1, by funext a; fin_cases a <;> rfl⟩
  have e0 : ((win0_5.blk t).view.emb (ix2 r k) 0) = at512 t r := by
    apply Fin.ext
    blk_simp [index t]
    simp [mul_comm]
  have e1 : ((win0_5.blk t).view.emb (ix2 r k) 1) = k := by
    apply Fin.ext
    blk_simp [index t]
  rw [e0, e1]
  exact pt_grad m c t r k

/-- What is added to the weight, after the run. -/
theorem final_delta : (dats m 0 c).arrAt 6 cfg0.N = fun i => delta (args m c) (i 0) (i 1) := by
  refine (dats m 0 c).arrAt_eq_of_covers 6 _ (by decide +kernel) fun t hf y => ?_
  blk_simp [index t]
  rw [after0_6]
  frame_out
  obtain ⟨r, k, rfl⟩ : ∃ (r : Fin 512) (k : Fin 800), y = ix2 r k := ⟨y 0, y 1, by funext a; fin_cases a <;> rfl⟩
  have e0 : ((win0_6.blk t).view.emb (ix2 r k) 0) = at512 t r := by
    apply Fin.ext
    blk_simp [index t]
    simp [mul_comm]
  have e1 : ((win0_6.blk t).view.emb (ix2 r k) 1) = k := by
    apply Fin.ext
    blk_simp [index t]
  rw [e0, e1]
  exact pt_delta m c t r k

/-- The new first moment, after the run. -/
theorem final_newM : (dats m 0 c).arrAt 7 cfg0.N = fun i => newM (args m c) (i 0) (i 1) := by
  refine (dats m 0 c).arrAt_eq_of_covers 7 _ (by decide +kernel) fun t hf y => ?_
  blk_simp [index t]
  rw [after0_7]
  frame_out
  obtain ⟨r, k, rfl⟩ : ∃ (r : Fin 512) (k : Fin 800), y = ix2 r k := ⟨y 0, y 1, by funext a; fin_cases a <;> rfl⟩
  have e0 : ((win0_7.blk t).view.emb (ix2 r k) 0) = at512 t r := by
    apply Fin.ext
    blk_simp [index t]
    simp [mul_comm]
  have e1 : ((win0_7.blk t).view.emb (ix2 r k) 1) = k := by
    apply Fin.ext
    blk_simp [index t]
  rw [e0, e1]
  exact pt_newM m c t r k

/-- The new second moment, after the run. -/
theorem final_newV : (dats m 0 c).arrAt 8 cfg0.N = fun i => newV (args m c) (i 0) (i 1) := by
  refine (dats m 0 c).arrAt_eq_of_covers 8 _ (by decide +kernel) fun t hf y => ?_
  blk_simp [index t]
  rw [after0_8]
  frame_out
  obtain ⟨r, k, rfl⟩ : ∃ (r : Fin 512) (k : Fin 800), y = ix2 r k := ⟨y 0, y 1, by funext a; fin_cases a <;> rfl⟩
  have e0 : ((win0_8.blk t).view.emb (ix2 r k) 0) = at512 t r := by
    apply Fin.ext
    blk_simp [index t]
    simp [mul_comm]
  have e1 : ((win0_8.blk t).view.emb (ix2 r k) 1) = k := by
    apply Fin.ext
    blk_simp [index t]
  rw [e0, e1]
  exact pt_newV m c t r k

end Cert.Update

end
-- ==== Proof.Update.Reference.lean ====
/- The reference's four results at an index: the closed form of Spec.lean. -/
module

public import proofs.«01_k».proof.Proof.Gen.Reference7Ideal.Read
public import proofs.«01_k».proof.Proof.Update.Spec

@[expose] public section

set_option maxRecDepth 16384

noncomputable section

namespace Cert.Update

open Idealize.ShloMosaic Cert.Reference7Ideal Cert.Reference7Ideal.Read

variable (A : Args)

/-- A layer's summed parts. -/
theorem ref_sum0 (r : Fin 1024) (k : Fin 800) : val_main_v1 (F := Ideal) A.g0 (ix2 r k) = ∑ j : Fin 4, A.g0 (ix3 j r k) := by
  unfold val_main_v1 val_main_v0 val_main_cst
  pointwise

/-- The other layer's summed parts. -/
theorem ref_sum1 (r : Fin 1024) (k : Fin 800) : val_main_v3 (F := Ideal) A.g1 (ix2 r k) = ∑ j : Fin 4, A.g1 (ix3 j r k) := by
  unfold val_main_v3 val_main_v2 val_main_cst_0
  pointwise

/-- THE FIRST RESULT: the gradient. -/
theorem ref_grad (r : Fin 2048) (k : Fin 800) : val_main_v4 (F := Ideal) A.g0 A.g1 (ix2 r k) = grad A r k := by
  unfold val_main_v4 grad
  pointwise [ref_sum0, ref_sum1]

/-- THE THIRD RESULT: the new first moment. -/
theorem ref_newM (r : Fin 2048) (k : Fin 800) : val_main_v9 (F := Ideal) A.g0 A.g1 A.m (ix2 r k) = newM A r k := by
  unfold val_main_v9 val_main_v8 val_main_v7 val_main_cst_2 val_main_v6 val_main_v5 val_main_cst_1 newM
  pointwise [ref_grad]

/-- THE FOURTH RESULT: the new second moment. -/
theorem ref_newV (r : Fin 2048) (k : Fin 800) : val_main_v15 (F := Ideal) A.g0 A.g1 A.v (ix2 r k) = newV A r k := by
  unfold val_main_v15 val_main_v14 val_main_v13 val_main_cst_4 val_main_v12 val_main_v11 val_main_v10 val_main_cst_3 newV
  pointwise [ref_grad]

/-- THE SECOND RESULT: what is added to the weight. -/
theorem ref_delta (r : Fin 2048) (k : Fin 800) : val_main_v28 (F := Ideal) A.w A.g0 A.g1 A.m A.v (ix2 r k) = delta A r k := by
  unfold val_main_v28 val_main_v27 val_main_cst_9 val_main_v26 val_main_v25 val_main_v24 val_main_cst_8 val_main_v23 val_main_v22 val_main_v21 val_main_cst_7
    val_main_v20 val_main_v19 val_main_v18 val_main_cst_6 val_main_v17 val_main_v16 val_main_cst_5 delta
  pointwise [ref_newM, ref_newV]
  rw [div_left1, div_left2]

end Cert.Update

end
-- ==== Proof.Update.Claim.lean ====
/- The claims of the weight's update: the kernel's run and the reference's run end with equal results. -/
module

public import proofs.«01_k».proof.Defs
public import proofs.«01_k».proof.Proof.Gen.Reference7Ideal.Run
public import proofs.«01_k».proof.Proof.Ext.Index
public import proofs.«01_k».proof.Proof.Update.Point
public import proofs.«01_k».proof.Proof.Update.Reference
public import Idealize.ShloMosaic.Lib.Quiescent

@[expose] public section

noncomputable section

namespace Cert.Update

open Idealize.ShloMosaic Idealize.ShloMosaic.TcCoe Idealize.SL.Sem

/-- The reference runs, keeps its arguments, and every counter ends at zero. -/
theorem reference_frame : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The two factors that the kernel names. -/
theorem preserves : Cert.preserves_Kernel7_Kernel7Ideal :=
  ⟨IdealRules.named_const.statement Cert.Kernel7Ideal.κ "inv_left1" .f32 0x3FC48605#32 ((8388608 / 5463681 : ℝ) : EReal) rfl,
    IdealRules.named_const.statement Cert.Kernel7Ideal.κ "inv_left2" .f32 0x42C8E6D3#32 ((268435456 / 2672307 : ℝ) : EReal) rfl⟩

/-- From equal arguments the kernel and the reference end with equal results, as extended reals. -/
theorem algebraic : Cert.algebraic_Kernel7Ideal_Reference7Ideal := by
  intro m ρ m' ρ' _ hagree
  refine ⟨_, _, _, _, Cert.Kernel7Ideal.Value.run_blocks (F := Ideal) m ρ, ?_⟩
  refine (θ_run Cert.Reference7Ideal.defs _ _).mono (fun _ h c => ⟨(h c).1.trans ?_, (h c).2.1.trans ?_, (h c).2.2.1.trans ?_, (h c).2.2.2.1.trans ?_,
    (h c).2.2.2.2⟩) (Cert.Reference7Ideal.Value.run (F := Ideal) m' ρ')
  · obtain ⟨h0, h1, h2, h3, h4⟩ := hagree c
    rw [Cert.Reference7Ideal.Read.val_main_v4_eq, h1, h2, final_grad]
    exact Ext.matrix_ext (ref_grad (args m c))
  · obtain ⟨h0, h1, h2, h3, h4⟩ := hagree c
    rw [Cert.Reference7Ideal.Read.val_main_v28_eq, h0, h1, h2, h3, h4, final_delta]
    exact Ext.matrix_ext (ref_delta (args m c))
  · obtain ⟨h0, h1, h2, h3, h4⟩ := hagree c
    rw [Cert.Reference7Ideal.Read.val_main_v9_eq, h1, h2, h3, final_newM]
    exact Ext.matrix_ext (ref_newM (args m c))
  · obtain ⟨h0, h1, h2, h3, h4⟩ := hagree c
    rw [Cert.Reference7Ideal.Read.val_main_v15_eq, h1, h2, h4, final_newV]
    exact Ext.matrix_ext (ref_newV (args m c))

end Cert.Update

end
-- ==== Proof.Pool.Spec.lean ====
/- The pooling mixer in closed form, entry by entry, over the extended reals. -/
module

public import Idealize.ShloMosaic.Lib.Pointwise
public import Idealize.ShloMosaic.PureOps.Ideal.Laws

@[expose] public section

noncomputable section

namespace Cert.Pool

open Idealize.ShloMosaic

/-- A matrix of extended reals. -/
abbrev Mat (a b : Nat) := (⟨2, ![a, b]⟩ : Shape).Idx → EReal

/-- The arrays of the mixer: the projected rows (what is pooled, and beside it the gates), a matrix per group and the scale. -/
structure Args where
  pp : Mat 4096 1024
  w : (⟨3, ![4, 128, 128]⟩ : Shape).Idx → EReal
  sc : Mat 1 512

variable (A : Args)

/-- The column in which a pooled feature lies. -/
abbrev left (k : Fin 512) : Fin 1024 := ⟨k.val, by omega⟩

/-- The column in which a feature's gate lies. -/
abbrev right (k : Fin 512) : Fin 1024 := ⟨512 + k.val, by omega⟩

/-- Feature `i` of group `g`. -/
abbrev col (g : Fin 4) (i : Fin 128) : Fin 512 := ⟨128 * g.val + i.val, by omega⟩

/-- The pooled rows with sixteen rows of zeros before them: row `n` of these is row `n - 16` of the rows themselves. -/
def tok (n : ℕ) (k : Fin 512) : EReal :=
  if h : 16 ≤ n ∧ n < 4112 then A.pp (ix2 ⟨n - 16, by omega⟩ (left k)) else 0

/-- A row's own entry and the `w - 1` before it, added. -/
def window (w n : ℕ) (k : Fin 512) : EReal := ∑ d ∈ Finset.range w, tok A (n - d) k

/-- A group's window length. -/
abbrev width (g : Fin 4) : ℕ := 2 ^ (g.val + 1)

/-- How many rows a window holds that begins no earlier than the first row. -/
def count (g : Fin 4) (l : Fin 4096) : EReal := (((min (l.val + 1) (width g) : ℕ) : ℝ) : EReal)

/-- A row less the mean of its window. -/
def pooled (g : Fin 4) (l : Fin 4096) (k : Fin 512) : EReal :=
  Ideal.div (window A (width g) (l.val + 16) k) (count g l) - A.pp (ix2 l (left k))

/-- A group's pooled features through the group's matrix. -/
def lin (g : Fin 4) (l : Fin 4096) (j : Fin 128) : EReal := ∑ i : Fin 128, pooled A g l (col g i) * A.w (ix3 g i j)

/-- The gate's entry times its logistic. -/
def gate (l : Fin 4096) (k : Fin 512) : EReal := A.pp (ix2 l (right k)) * Ideal.logistic (A.pp (ix2 l (right k)))

/-- THE RESULT. -/
def out (l : Fin 4096) (k : Fin 512) : EReal :=
  lin A ⟨k.val / 128, by omega⟩ l ⟨k.val % 128, by omega⟩ * A.sc (ix2 0 k) * gate A l k

/-- A row of the padded rows that is a row itself. -/
theorem tok_row (n : ℕ) (l : Fin 4096) (k : Fin 512) (h : n = l.val + 16) : tok A n k = A.pp (ix2 l (left k)) := by
  subst h
  rw [tok, dif_pos ⟨by omega, by omega⟩]
  congr 2

/-- A window is the window of half its length and the one before that. -/
theorem window_double (w n : ℕ) (k : Fin 512) : window A (w + w) n k = window A w n k + window A w (n - w) k := by
  unfold window
  rw [Finset.sum_range_add]
  simp only [Nat.sub_sub]

/-- A count as a word, read back. -/
theorem toInt_count (x n w : ℕ) (hx : x = n + 1) (hn : n < 4096) (hw : w ≤ 16) :
    (IntOp.minsi (BitVec.ofNat 32 x) (BitVec.ofNat 32 w)).toInt = ((min (n + 1) w : ℕ) : ℤ) := by
  subst hx
  have e1 : (BitVec.ofNat 32 (n + 1)).toInt = ((n + 1 : ℕ) : ℤ) := by
    rw [BitVec.toInt_eq_toNat_of_lt] <;> simp only [BitVec.toNat_ofNat] <;> omega
  have e2 : (BitVec.ofNat 32 w).toInt = (w : ℤ) := by
    rw [BitVec.toInt_eq_toNat_of_lt] <;> simp only [BitVec.toNat_ofNat] <;> omega
  unfold IntOp.minsi
  simp only [BitVec.slt, e1, e2, decide_eq_true_eq]
  split_ifs with h
  · rw [e1]; omega
  · rw [e2]; omega

/-- A count as a word, converted. -/
theorem sitofp_count (g : Fin 4) (l : Fin 4096) (x w : ℕ) (hx : x = l.val + 1) (hw : w = width g) :
    (FloatOps.sitofp .f32 (IntOp.minsi (BitVec.ofNat 32 x) (BitVec.ofNat 32 w)) : Ideal .f32) = count g l := by
  have hw16 : w ≤ 16 := by
    subst hw
    exact (by decide : ∀ g : Fin 4, width g ≤ 16) g
  show (((IntOp.minsi (BitVec.ofNat 32 x) (BitVec.ofNat 32 w)).toInt : ℝ) : EReal) = _
  rw [toInt_count x l.val w hx l.isLt hw16, count, hw]
  norm_cast

/-- A count is not zero. -/
theorem count_ne_zero (g : Fin 4) (l : Fin 4096) : count g l ≠ 0 := by
  have h : (min (l.val + 1) (width g) : ℕ) ≠ 0 := by
    have : 0 < width g := Nat.pow_pos (by decide)
    omega
  unfold count
  exact_mod_cast h

/-- A product with a count's reciprocal is a quotient. -/
theorem mul_div_count (x : EReal) (g : Fin 4) (l : Fin 4096) : x * Ideal.div 1 (count g l) = Ideal.div x (count g l) := by
  rw [Ideal.div, if_neg (count_ne_zero g l), Ideal.div, if_neg (count_ne_zero g l), one_mul]

/-- One of four groups, by the feature's column. -/
theorem pick {α : Type} (f : Fin 4 → Fin 128 → α) (k : Fin 512) :
    (if h : k.val < 128 then f 0 ⟨k.val, h⟩ else if h : k.val - 128 < 128 then f 1 ⟨k.val - 128, h⟩
      else if h : k.val - 128 - 128 < 128 then f 2 ⟨k.val - 128 - 128, h⟩ else f 3 ⟨k.val - 128 - 128 - 128, by omega⟩)
      = f ⟨k.val / 128, by omega⟩ ⟨k.val % 128, by omega⟩ := by
  have e : ∀ (g : Fin 4) (j : Fin 128), k.val = 128 * g.val + j.val → f g j = f ⟨k.val / 128, by omega⟩ ⟨k.val % 128, by omega⟩ := fun g j h => by
    congr 1 <;> apply Fin.ext <;> show _ = _ <;> dsimp only <;> omega
  split_ifs
  · exact e 0 _ (by show _ = 128 * 0 + k.val; omega)
  · exact e 1 _ (by show _ = 128 * 1 + (k.val - 128); omega)
  · exact e 2 _ (by show _ = 128 * 2 + (k.val - 128 - 128); omega)
  · exact e 3 _ (by show _ = 128 * 3 + (k.val - 128 - 128 - 128); omega)

/-- A term of a group's product, from the column of its feature. -/
theorem term_of (g : Fin 4) (l : Fin 4096) (x : Fin 128) (n N : ℕ) (hn : n = 128 * g.val + x.val) (hN : N = l.val + 16) (hb : n < 512)
    (hg : n / 128 < 4) (y : EReal) :
    (Ideal.div (window A (2 ^ (n / 128 + 1)) N ⟨n, hb⟩) (count ⟨n / 128, hg⟩ l) - A.pp (ix2 l (left ⟨n, hb⟩))) * y = pooled A g l (col g x) * y := by
  have ek : (⟨n, hb⟩ : Fin 512) = col g x := Fin.ext hn
  have ed : n / 128 = g.val := by omega
  have eg : (⟨n / 128, hg⟩ : Fin 4) = g := Fin.ext ed
  unfold pooled
  rw [ek, eg, ed, hN]

/-- The groups' products, joined by the feature's column. -/
theorem joined (l : Fin 4096) (N : ℕ) (hN : N = l.val + 16) (k : Fin 512) :
    (if h : k.val < 128 then
        ∑ x : Fin 128, (Ideal.div (window A (2 ^ (x.val / 128 + 1)) N ⟨x.val, by omega⟩) (count ⟨x.val / 128, by omega⟩ l) - A.pp (ix2 l (left ⟨x.val, by omega⟩)))
          * A.w (ix3 0 x ⟨k.val, by omega⟩)
      else if h : k.val - 128 < 128 then
        ∑ x : Fin 128, (Ideal.div (window A (2 ^ ((128 + x.val) / 128 + 1)) N ⟨(128 + x.val), by omega⟩) (count ⟨(128 + x.val) / 128, by omega⟩ l) - A.pp (ix2 l (left ⟨(128 + x.val), by omega⟩)))
          * A.w (ix3 1 x ⟨k.val - 128, by omega⟩)
      else if h : k.val - 128 - 128 < 128 then
        ∑ x : Fin 128, (Ideal.div (window A (2 ^ ((256 + x.val) / 128 + 1)) N ⟨(256 + x.val), by omega⟩) (count ⟨(256 + x.val) / 128, by omega⟩ l) - A.pp (ix2 l (left ⟨(256 + x.val), by omega⟩)))
          * A.w (ix3 2 x ⟨k.val - 128 - 128, by omega⟩)
      else
        ∑ x : Fin 128, (Ideal.div (window A (2 ^ ((384 + x.val) / 128 + 1)) N ⟨(384 + x.val), by omega⟩) (count ⟨(384 + x.val) / 128, by omega⟩ l) - A.pp (ix2 l (left ⟨(384 + x.val), by omega⟩)))
          * A.w (ix3 3 x ⟨k.val - 128 - 128 - 128, by omega⟩))
      = lin A ⟨k.val / 128, by omega⟩ l ⟨k.val % 128, by omega⟩ := by
  rw [← pick (fun g j => lin A g l j) k]
  split_ifs
  · exact Finset.sum_congr rfl fun x _ => term_of A 0 l x x.val N (by show x.val = 128 * 0 + x.val; omega) hN _ _ _
  · exact Finset.sum_congr rfl fun x _ => term_of A 1 l x (128 + x.val) N (by show 128 + x.val = 128 * 1 + x.val; omega) hN _ _ _
  · exact Finset.sum_congr rfl fun x _ => term_of A 2 l x (256 + x.val) N (by show 256 + x.val = 128 * 2 + x.val; omega) hN _ _ _
  · exact Finset.sum_congr rfl fun x _ => term_of A 3 l x (384 + x.val) N (by show 384 + x.val = 128 * 3 + x.val; omega) hN _ _ _

end Cert.Pool

end
-- ==== Proof.Pool.Point.lean ====
/- What a grid point leaves in the pooling kernel's output window, at an index: the closed form of Spec.lean. -/
module

public import proofs.«01_k».proof.Proof.Gen.Kernel8Ideal.Value
public import proofs.«01_k».proof.Proof.Merge.Sigmoid
public import proofs.«01_k».proof.Proof.Pool.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Pool

open Idealize.ShloMosaic Idealize.ShloMosaic.TcCoe Cert.Kernel8Ideal Cert.Kernel8Ideal.Gen

variable (m : (ℓ : Loc nD τ sig) → Buf (Elt Ideal) ℓ) (c : Dev nD)

/-- The mixer's arrays, as the kernel's arguments hold them. -/
def args : Args where
  pp := m ((c : Thread nD τ).loc main_arg0)
  w := m ((c : Thread nD τ).loc main_arg1)
  sc := m ((c : Thread nD τ).loc main_arg2)

/-- Row `r` of point `t`'s block. -/
abbrev at512 (t : Fin cfg0.N) (r : Fin 512) : Fin 4096 := ⟨512 * t.val + r.val, by have := t.isLt; have : cfg0.N = 8 := N_0; omega⟩

/-- Row `r` of the sixteen rows before point `t`'s block. -/
abbrev before16 (t : Fin cfg0.N) (h : 0 < t.val) (r : Fin 16) : Fin 4096 :=
  ⟨512 * t.val - 16 + r.val, by have := t.isLt; have : cfg0.N = 8 := N_0; omega⟩

/-- Where each window's block lies at a grid point. -/
theorem index : ∀ t : Fin cfg0.N, win0_0.index t = ![t.val, 0] ∧ win0_1.index t = ![32 * t.val - 1, 0] ∧ win0_2.index t = ![0, 0, 0] ∧ win0_3.index t = ![0, 0] ∧ win0_4.index t = ![t.val, 0] :=
  (by decide +kernel : ∀ t : Fin grid0.N, win0_0.index t = ![t.val, 0] ∧ win0_1.index t = ![32 * t.val - 1, 0] ∧ win0_2.index t = ![0, 0, 0] ∧ win0_3.index t = ![0, 0] ∧ win0_4.index t = ![t.val, 0])

/-- A point's coordinate. -/
theorem coord : ∀ t : Fin cfg0.N, (grid0.coords t 0).val = t.val :=
  (by decide +kernel : ∀ t : Fin grid0.N, (grid0.coords t 0).val = t.val)

theorem blk_pp (t : Fin cfg0.N) (r : Fin 512) (k : Fin 1024) : iblk m c 0 t (ix2 r k) = (args m c).pp (ix2 (at512 t r) k) := by
  unfold args
  blk_ext [iblk, V_main_arg0, index t]

theorem blk_before (t : Fin cfg0.N) (h : 0 < t.val) (r : Fin 16) (k : Fin 512) :
    iblk m c 1 t (ix2 r k) = (args m c).pp (ix2 (before16 t h r) (left k)) := by
  unfold args
  blk_ext [iblk, V_main_arg0, index t]

theorem blk_w (t : Fin cfg0.N) (g : Fin 4) (i j : Fin 128) : iblk m c 2 t (ix3 g i j) = (args m c).w (ix3 g i j) := by
  unfold args
  blk_ext [iblk, V_main_arg1, index t]

theorem blk_sc (t : Fin cfg0.N) (k : Fin 512) : iblk m c 3 t (ix2 0 k) = (args m c).sc (ix2 0 k) := by
  unfold args
  blk_ext [iblk, V_main_arg2, index t]

/-- The pooled half of a point's rows. -/
abbrev rows (t : Fin cfg0.N) : Vec Ideal S512x512 .bf16 := View.ld (iblk m c 0 t) r0_0

/-- The gates of a point's rows. -/
abbrev gates (t : Fin cfg0.N) : Vec Ideal S512x512 .bf16 := View.ld (iblk m c 0 t) r0_6

/-- Matrix `g`. -/
abbrev mat0 (t : Fin cfg0.N) : Vec Ideal S1x128x128 .bf16 := View.ld (iblk m c 2 t) r0_2
abbrev mat1 (t : Fin cfg0.N) : Vec Ideal S1x128x128 .bf16 := View.ld (iblk m c 2 t) r0_3
abbrev mat2 (t : Fin cfg0.N) : Vec Ideal S1x128x128 .bf16 := View.ld (iblk m c 2 t) r0_4
abbrev mat3 (t : Fin cfg0.N) : Vec Ideal S1x128x128 .bf16 := View.ld (iblk m c 2 t) r0_5

theorem pt_rows (t : Fin cfg0.N) (r : Fin 512) (k : Fin 512) : rows m c t (ix2 r k) = (args m c).pp (ix2 (at512 t r) (left k)) := by
  unfold rows
  pointwise [blk_pp m c t]

theorem pt_gates (t : Fin cfg0.N) (r : Fin 512) (k : Fin 512) : gates m c t (ix2 r k) = (args m c).pp (ix2 (at512 t r) (right k)) := by
  unfold gates
  pointwise [blk_pp m c t]

/-- Every point but the first reads the rows before its block. -/
theorem reads_before : ∀ t : Fin cfg0.N, 0 < t.val → Scalar.cmpi .sgt (BitVec.ofNat 32 t.val) 0#32 = 1#1 :=
  (by decide +kernel : ∀ t : Fin grid0.N, 0 < t.val → Scalar.cmpi .sgt (BitVec.ofNat 32 t.val) 0#32 = 1#1)

/-- A point's rows behind the sixteen before them, or behind zeros. -/
theorem ext_row (t : Fin cfg0.N) (q : ℕ) (hq : q < 528) (k : Fin 512) :
    (if h : q < 16 then Scalar.select (Scalar.cmpi .sgt (BitVec.ofNat 32 t.val) 0#32) (iblk m c 1 t (ix2 ⟨q, h⟩ k)) (0 : EReal)
      else rows m c t (ix2 ⟨q - 16, by omega⟩ k)) = tok (args m c) (512 * t.val + q) k := by
  by_cases h : q < 16
  · rw [dif_pos h]
    by_cases h0 : t.val = 0
    · rw [h0, tok, dif_neg (by omega)]
      exact if_neg (by decide)
    · have ht : 0 < t.val := by omega
      rw [reads_before t ht, blk_before m c t ht, tok_row _ _ (before16 t ht ⟨q, h⟩) k (by show _ = 512 * t.val - 16 + q + 16; omega)]
      exact if_pos rfl
  · rw [dif_neg h, pt_rows, tok_row _ _ (at512 t ⟨q - 16, by omega⟩) k (by show _ = 512 * t.val + (q - 16) + 16; omega)]

/-- Windows of two rows. -/
theorem pt_two (t : Fin cfg0.N) (q : Fin 528) (k : Fin 512) (h : 1 ≤ q.val) :
    k0_pay4 (grid0.coords t) (rows m c t) (iblk m c 1 t) (ix2 q k) = window (args m c) 2 (512 * t.val + q.val) k := by
  unfold k0_pay4 k0_pay2
  rw [coord t]
  pointwise
  rw [ext_row m c t q.val q.isLt k, ext_row m c t ((q.val + 528 - 1) % 528) (by omega) k, window, Finset.sum_range_succ, Finset.sum_range_one]
  congr 2
  omega

/-- Windows of four rows. -/
theorem pt_four (t : Fin cfg0.N) (q : Fin 528) (k : Fin 512) (h : 3 ≤ q.val) :
    k0_pay5 (grid0.coords t) (rows m c t) (iblk m c 1 t) (ix2 q k) = window (args m c) 4 (512 * t.val + q.val) k := by
  unfold k0_pay5
  pointwise
  rw [pt_two m c t q k (by omega), pt_two m c t ⟨(q.val + 528 - 2) % 528, by omega⟩ k (by dsimp only; omega), window_double _ 2]
  congr 2
  dsimp only
  omega

/-- Windows of eight rows. -/
theorem pt_eight (t : Fin cfg0.N) (q : Fin 528) (k : Fin 512) (h : 7 ≤ q.val) :
    k0_pay6 (grid0.coords t) (rows m c t) (iblk m c 1 t) (ix2 q k) = window (args m c) 8 (512 * t.val + q.val) k := by
  unfold k0_pay6
  pointwise
  rw [pt_four m c t q k (by omega), pt_four m c t ⟨(q.val + 528 - 4) % 528, by omega⟩ k (by dsimp only; omega), window_double _ 4]
  congr 2
  dsimp only
  omega

/-- A feature's window length, as the kernel chooses it. -/
theorem width_word : ∀ k : Fin 512, Scalar.select (IntOp.cmpi .slt (BitVec.ofNat 32 k.val) 128#32) 2#32
    (Scalar.select (IntOp.cmpi .slt (BitVec.ofNat 32 k.val) 256#32) 4#32 (Scalar.select (IntOp.cmpi .slt (BitVec.ofNat 32 k.val) 384#32) 8#32 16#32))
      = BitVec.ofNat 32 (2 ^ (k.val / 128 + 1)) := by
  decide +kernel

/-- The reciprocal of a count. -/
theorem pt_recip (t : Fin cfg0.N) (r : Fin 512) (k : Fin 512) :
    k0_pay3 (F := Ideal) (grid0.coords t) (ix2 r k) = Ideal.div 1 (count ⟨k.val / 128, by omega⟩ (at512 t r)) := by
  unfold k0_pay3
  rw [coord t]
  pointwise
  rw [width_word]
  have e : IntOp.addi (IntOp.addi (BitVec.ofNat 32 r.val) (Scalar.muli (BitVec.ofNat 32 t.val) 512#32)) 1#32 = BitVec.ofNat 32 (r.val + t.val * 512 + 1) := by
    rw [BitVec.ofNat_add, BitVec.ofNat_add, BitVec.ofNat_mul]
    rfl
  rw [e, sitofp_count ⟨k.val / 128, by omega⟩ (at512 t r) _ _ (by show _ = 512 * t.val + r.val + 1; omega) rfl]

/-- The kernel's tests of a feature's column. -/
theorem tests : ∀ k : Fin 512, IntOp.cmpi .slt (BitVec.ofNat 32 k.val) 128#32 = (if k.val < 128 then 1#1 else 0#1) ∧
    IntOp.cmpi .slt (BitVec.ofNat 32 k.val) 256#32 = (if k.val < 256 then 1#1 else 0#1) ∧
    IntOp.cmpi .slt (BitVec.ofNat 32 k.val) 384#32 = (if k.val < 384 then 1#1 else 0#1) := by
  decide +kernel

/-- A choice by a test. -/
theorem select_test {α : Type} (p : Prop) [Decidable p] (a b : α) : Scalar.select (if p then 1#1 else 0#1) a b = if p then a else b := by
  split_ifs
  · exact if_pos rfl
  · exact if_neg (by decide)

/-- A feature's window, as the kernel chooses it. -/
theorem pt_window (t : Fin cfg0.N) (r : Fin 512) (n : ℕ) (hn : n < 512) :
    Scalar.select (IntOp.cmpi .slt (BitVec.ofNat 32 n) 128#32) (k0_pay4 (grid0.coords t) (rows m c t) (iblk m c 1 t) (ix2 ⟨16 + r.val, by omega⟩ ⟨n, hn⟩))
      (Scalar.select (IntOp.cmpi .slt (BitVec.ofNat 32 n) 256#32) (k0_pay5 (grid0.coords t) (rows m c t) (iblk m c 1 t) (ix2 ⟨16 + r.val, by omega⟩ ⟨n, hn⟩))
        (Scalar.select (IntOp.cmpi .slt (BitVec.ofNat 32 n) 384#32) (k0_pay6 (grid0.coords t) (rows m c t) (iblk m c 1 t) (ix2 ⟨16 + r.val, by omega⟩ ⟨n, hn⟩))
          (k0_pay6 (grid0.coords t) (rows m c t) (iblk m c 1 t) (ix2 ⟨16 + r.val, by omega⟩ ⟨n, hn⟩)
            + k0_pay6 (grid0.coords t) (rows m c t) (iblk m c 1 t) (ix2 ⟨(16 + r.val + 528 - 8) % 528, by omega⟩ ⟨n, hn⟩) : EReal)))
      = window (args m c) (2 ^ (n / 128 + 1)) (512 * t.val + r.val + 16) ⟨n, hn⟩ := by
  have e : 512 * t.val + (16 + r.val) = 512 * t.val + r.val + 16 := by omega
  have e8 : 512 * t.val + (16 + r.val + 528 - 8) % 528 = 512 * t.val + r.val + 16 - 8 := by omega
  rw [(tests ⟨n, hn⟩).1, (tests ⟨n, hn⟩).2.1, (tests ⟨n, hn⟩).2.2, select_test, select_test, select_test,
    pt_two m c t _ _ (by dsimp only; omega), pt_four m c t _ _ (by dsimp only; omega), pt_eight m c t _ _ (by dsimp only; omega),
    pt_eight m c t _ _ (by dsimp only; omega)]
  dsimp only
  rw [e, e8]
  split_ifs
  · rw [show n / 128 = 0 by omega] <;> rfl
  · rw [show n / 128 = 1 by omega] <;> rfl
  · rw [show n / 128 = 2 by omega] <;> rfl
  · rw [show n / 128 = 3 by omega]
    exact (window_double _ 8 _ _).symm

/-- A point's groups' products, joined. -/
theorem pt_lin (t : Fin cfg0.N) (r : Fin 512) (k : Fin 512) :
    k0_pay7 (k0_pay2 (rows m c t)) (k0_pay3 (F := Ideal) (grid0.coords t)) (iota .tc S528x512 32 [1] iota_S528x512_d1_w32)
      (k0_pay4 (grid0.coords t) (rows m c t) (iblk m c 1 t)) (k0_pay5 (grid0.coords t) (rows m c t) (iblk m c 1 t))
      (k0_pay6 (grid0.coords t) (rows m c t) (iblk m c 1 t)) 8#32 (mat0 m c t) (mat1 m c t) (mat2 m c t) (mat3 m c t) (ix2 r k)
      = lin (args m c) ⟨k.val / 128, by omega⟩ (at512 t r) ⟨k.val % 128, by omega⟩ := by
  unfold k0_pay7 k0_pay2 mat0 mat1 mat2 mat3
  pointwise [pt_recip t, pt_rows m c t, blk_w m c t]
  simp only [pt_window m c t r, mul_div_count]
  exact joined (args m c) (at512 t r) (512 * t.val + r.val + 16) rfl k

/-- A point's rows through the scale and the gate. -/
theorem pt_gate (t : Fin cfg0.N) (r : Fin 512) (k : Fin 512) (v : FVec Ideal S512x512 .f32) :
    k0_pay1 v (k0_pay8 (gates m c t)) (k0_pay9 (F := Ideal)) (iblk m c 3 t) (ix2 r k)
      = v (ix2 r k) * (args m c).sc (ix2 0 k) * gate (args m c) (at512 t r) k := by
  unfold k0_pay1 k0_pay8 k0_pay9
  pointwise [pt_gates m c t, blk_sc m c t]
  rw [Merge.half_f32, Merge.logistic_eq]
  rfl

/-- The result, after the run. -/
theorem final_out : (dats m 0 c).arrAt 4 cfg0.N = fun i => out (args m c) (i 0) (i 1) := by
  refine (dats m 0 c).arrAt_eq_of_covers 4 _ (by decide +kernel) fun t hf y => ?_
  blk_simp [index t]
  rw [after0_4]
  frame_out
  obtain ⟨r, k, rfl⟩ : ∃ (r : Fin 512) (k : Fin 512), y = ix2 r k := ⟨y 0, y 1, by funext a; fin_cases a <;> rfl⟩
  have e0 : ((win0_4.blk t).view.emb (ix2 r k) 0) = at512 t r := by
    apply Fin.ext
    blk_simp [index t]
    simp [mul_comm]
  have e1 : ((win0_4.blk t).view.emb (ix2 r k) 1) = k := by
    apply Fin.ext
    blk_simp [index t]
  rw [e0, e1]
  refine (pt_gate m c t r k _).trans ?_
  rw [out, ← pt_lin m c t r k]
  rfl

end Cert.Pool

end
-- ==== Proof.Pool.Reference.lean ====
/- The reference's result at an index: the closed form of Spec.lean. -/
module

public import proofs.«01_k».proof.Proof.Gen.Reference8Ideal.Read
public import proofs.«01_k».proof.Proof.Pool.Spec

@[expose] public section

set_option maxRecDepth 16384

noncomputable section

namespace Cert.Pool

open Idealize.ShloMosaic Cert.Reference8Ideal Cert.Reference8Ideal.Read

variable (A : Args)

/-- The value put before a group's rows. -/
theorem pad_zero (i : S_.Idx) : (sitofp .f32 (constantI S_ 32 0#32) : FVec Ideal S_ .f32) i = 0 := by
  show (((0#32 : BitVec 32).toInt : ℝ) : EReal) = 0
  norm_num

/-- A count as the reference computes it. -/
theorem word_count (g : Fin 4) (l : Fin 4096) (w : ℕ) (hw : w = width g) :
    (FloatOps.sitofp .f32 (IntOp.minsi (IntOp.addi (BitVec.ofNat 32 l.val) 1#32) (BitVec.ofNat 32 w)) : Ideal .f32) = count g l := by
  have e : IntOp.addi (BitVec.ofNat 32 l.val) 1#32 = BitVec.ofNat 32 (l.val + 1) := (BitVec.ofNat_add ..).symm
  rw [e]
  exact sitofp_count g l _ w rfl hw

/-- A group's rows are its windows of one row. -/
theorem one (g : Fin 4) (x : Mat 4096 128) (hx : ∀ l i, x (ix2 l i) = A.pp (ix2 l (left (col g i)))) (l : Fin 4096) (i : Fin 128) :
    x (ix2 l i) = window A 1 (l.val + 16) (col g i) := by
  rw [hx, window, Finset.sum_range_one, Nat.sub_zero, tok_row A _ l _ rfl]

/-- Windows of `w` rows and the rows pushed down by `w` behind zeros, added: windows of `w + 1` rows. -/
theorem grow {w N : ℕ} (g : Fin 4) (x : Mat 4096 128) (hx : ∀ l i, x (ix2 l i) = A.pp (ix2 l (left (col g i))))
    (hp : S4096x128.Pads ![w, 0] ![0, 0] ![0, 0] ⟨2, ![N, 128]⟩) (hs : (⟨2, ![N, 128]⟩ : Shape).Slices ![0, 0] S4096x128) (hu : 0 < S_.numel)
    (v : S_.Idx → EReal) (hv : ∀ i, v i = 0) (hw : w ≤ 16) (y : Mat 4096 128) (hy : ∀ l i, y (ix2 l i) = window A w (l.val + 16) (col g i))
    (l : Fin 4096) (i : Fin 128) :
    (addf y (extractStridedSlice S4096x128 ![0, 0] (pad ⟨2, ![N, 128]⟩ ![w, 0] ![0, 0] ![0, 0] x v hp hu) hs : FVec Ideal S4096x128 .f32) : FVec Ideal S4096x128 .f32) (ix2 l i)
      = window A (w + 1) (l.val + 16) (col g i) := by
  rw [window, Finset.sum_range_succ, ← window, ← hy]
  pointwise
  congr 1
  by_cases h : w ≤ l.val
  · rw [dif_pos ⟨by show w ≤ 0 + l.val; omega, by show 0 + l.val - w < 4096; omega⟩, tok_row A _ ⟨l.val - w, by omega⟩ _ (by show _ = l.val - w + 16; omega), ← hx]
    congr 2
    · exact Fin.ext (by show 0 + l.val - w = l.val - w; omega)
    · exact Fin.ext (by show 0 + i.val = i.val; omega)
  · rw [dif_neg (fun h' => h (by have e : w ≤ 0 + l.val := h'.1; omega)), hv, tok, dif_neg (by omega)]

/-- Group 0's rows. -/
theorem ref_rows0 (l : Fin 4096) (i : Fin 128) : val_main_v6 (F := Ideal) A.pp (ix2 l i) = A.pp (ix2 l (left (col 0 i))) := by
  unfold val_main_v6 val_main_v1 val_main_v0
  pointwise
  exact congrArg _ (congrArg _ (Fin.ext (by simp)))

/-- Group 0's windows. -/
theorem ref_window0 (l : Fin 4096) (i : Fin 128) : val_main_v9 (F := Ideal) A.pp (ix2 l i) = window A 2 (l.val + 16) (col 0 i) := by
  have s1 := one A 0 _ (ref_rows0 A)
  exact grow A 0 _ (ref_rows0 A) _ _ _ _ pad_zero (by decide) _ s1 l i

/-- Group 0's counts. -/
theorem ref_count0 (l : Fin 4096) (i : Fin 128) : val_main_v16 (F := Ideal) (ix2 l i) = count 0 l := by
  unfold val_main_v16 val_main_v15 val_main_v14 val_main_v13 val_main_v11 val_main_v12 val_main_v5 val_main_v10 val_main_c_1 val_main_c_0
  pointwise
  exact word_count 0 l 2 rfl

/-- Group 0's products. -/
theorem ref_lin0 (l : Fin 4096) (j : Fin 128) : val_main_v21 (F := Ideal) A.pp A.w (ix2 l j) = lin A 0 l j := by
  unfold val_main_v21 val_main_v18 val_main_v17 val_main_v20 val_main_v19 val_main_v4
  pointwise [ref_window0 A, ref_count0, ref_rows0 A]
  rfl

/-- Group 1's rows. -/
theorem ref_rows1 (l : Fin 4096) (i : Fin 128) : val_main_v22 (F := Ideal) A.pp (ix2 l i) = A.pp (ix2 l (left (col 1 i))) := by
  unfold val_main_v22 val_main_v1 val_main_v0
  pointwise
  exact congrArg _ (congrArg _ (Fin.ext (by rfl)))

/-- Group 1's windows. -/
theorem ref_window1 (l : Fin 4096) (i : Fin 128) : val_main_v31 (F := Ideal) A.pp (ix2 l i) = window A 4 (l.val + 16) (col 1 i) := by
  have s1 := one A 1 _ (ref_rows1 A)
  have s2 : ∀ l i, val_main_v25 (F := Ideal) A.pp (ix2 l i) = window A 2 (l.val + 16) (col 1 i) := grow A 1 _ (ref_rows1 A) _ _ _ _ pad_zero (by decide) _ s1
  have s3 : ∀ l i, val_main_v28 (F := Ideal) A.pp (ix2 l i) = window A 3 (l.val + 16) (col 1 i) := grow A 1 _ (ref_rows1 A) _ _ _ _ pad_zero (by decide) _ s2
  exact grow A 1 _ (ref_rows1 A) _ _ _ _ pad_zero (by decide) _ s3 l i

/-- Group 1's counts. -/
theorem ref_count1 (l : Fin 4096) (i : Fin 128) : val_main_v38 (F := Ideal) (ix2 l i) = count 1 l := by
  unfold val_main_v38 val_main_v37 val_main_v36 val_main_v35 val_main_v33 val_main_v34 val_main_v5 val_main_v32 val_main_c_6 val_main_c_5
  pointwise
  exact word_count 1 l 4 rfl

/-- Group 1's products. -/
theorem ref_lin1 (l : Fin 4096) (j : Fin 128) : val_main_v43 (F := Ideal) A.pp A.w (ix2 l j) = lin A 1 l j := by
  unfold val_main_v43 val_main_v40 val_main_v39 val_main_v42 val_main_v41 val_main_v4
  pointwise [ref_window1 A, ref_count1, ref_rows1 A]
  rfl

/-- Group 2's rows. -/
theorem ref_rows2 (l : Fin 4096) (i : Fin 128) : val_main_v44 (F := Ideal) A.pp (ix2 l i) = A.pp (ix2 l (left (col 2 i))) := by
  unfold val_main_v44 val_main_v1 val_main_v0
  pointwise
  exact congrArg _ (congrArg _ (Fin.ext (by rfl)))

/-- Group 2's windows. -/
theorem ref_window2 (l : Fin 4096) (i : Fin 128) : val_main_v65 (F := Ideal) A.pp (ix2 l i) = window A 8 (l.val + 16) (col 2 i) := by
  have s1 := one A 2 _ (ref_rows2 A)
  have s2 : ∀ l i, val_main_v47 (F := Ideal) A.pp (ix2 l i) = window A 2 (l.val + 16) (col 2 i) := grow A 2 _ (ref_rows2 A) _ _ _ _ pad_zero (by decide) _ s1
  have s3 : ∀ l i, val_main_v50 (F := Ideal) A.pp (ix2 l i) = window A 3 (l.val + 16) (col 2 i) := grow A 2 _ (ref_rows2 A) _ _ _ _ pad_zero (by decide) _ s2
  have s4 : ∀ l i, val_main_v53 (F := Ideal) A.pp (ix2 l i) = window A 4 (l.val + 16) (col 2 i) := grow A 2 _ (ref_rows2 A) _ _ _ _ pad_zero (by decide) _ s3
  have s5 : ∀ l i, val_main_v56 (F := Ideal) A.pp (ix2 l i) = window A 5 (l.val + 16) (col 2 i) := grow A 2 _ (ref_rows2 A) _ _ _ _ pad_zero (by decide) _ s4
  have s6 : ∀ l i, val_main_v59 (F := Ideal) A.pp (ix2 l i) = window A 6 (l.val + 16) (col 2 i) := grow A 2 _ (ref_rows2 A) _ _ _ _ pad_zero (by decide) _ s5
  have s7 : ∀ l i, val_main_v62 (F := Ideal) A.pp (ix2 l i) = window A 7 (l.val + 16) (col 2 i) := grow A 2 _ (ref_rows2 A) _ _ _ _ pad_zero (by decide) _ s6
  exact grow A 2 _ (ref_rows2 A) _ _ _ _ pad_zero (by decide) _ s7 l i

/-- Group 2's counts. -/
theorem ref_count2 (l : Fin 4096) (i : Fin 128) : val_main_v72 (F := Ideal) (ix2 l i) = count 2 l := by
  unfold val_main_v72 val_main_v71 val_main_v70 val_main_v69 val_main_v67 val_main_v68 val_main_v5 val_main_v66 val_main_c_15 val_main_c_14
  pointwise
  exact word_count 2 l 8 rfl

/-- Group 2's products. -/
theorem ref_lin2 (l : Fin 4096) (j : Fin 128) : val_main_v77 (F := Ideal) A.pp A.w (ix2 l j) = lin A 2 l j := by
  unfold val_main_v77 val_main_v74 val_main_v73 val_main_v76 val_main_v75 val_main_v4
  pointwise [ref_window2 A, ref_count2, ref_rows2 A]
  rfl

/-- Group 3's rows. -/
theorem ref_rows3 (l : Fin 4096) (i : Fin 128) : val_main_v78 (F := Ideal) A.pp (ix2 l i) = A.pp (ix2 l (left (col 3 i))) := by
  unfold val_main_v78 val_main_v1 val_main_v0
  pointwise
  exact congrArg _ (congrArg _ (Fin.ext (by rfl)))

/-- Group 3's windows. -/
theorem ref_window3 (l : Fin 4096) (i : Fin 128) : val_main_v123 (F := Ideal) A.pp (ix2 l i) = window A 16 (l.val + 16) (col 3 i) := by
  have s1 := one A 3 _ (ref_rows3 A)
  have s2 : ∀ l i, val_main_v81 (F := Ideal) A.pp (ix2 l i) = window A 2 (l.val + 16) (col 3 i) := grow A 3 _ (ref_rows3 A) _ _ _ _ pad_zero (by decide) _ s1
  have s3 : ∀ l i, val_main_v84 (F := Ideal) A.pp (ix2 l i) = window A 3 (l.val + 16) (col 3 i) := grow A 3 _ (ref_rows3 A) _ _ _ _ pad_zero (by decide) _ s2
  have s4 : ∀ l i, val_main_v87 (F := Ideal) A.pp (ix2 l i) = window A 4 (l.val + 16) (col 3 i) := grow A 3 _ (ref_rows3 A) _ _ _ _ pad_zero (by decide) _ s3
  have s5 : ∀ l i, val_main_v90 (F := Ideal) A.pp (ix2 l i) = window A 5 (l.val + 16) (col 3 i) := grow A 3 _ (ref_rows3 A) _ _ _ _ pad_zero (by decide) _ s4
  have s6 : ∀ l i, val_main_v93 (F := Ideal) A.pp (ix2 l i) = window A 6 (l.val + 16) (col 3 i) := grow A 3 _ (ref_rows3 A) _ _ _ _ pad_zero (by decide) _ s5
  have s7 : ∀ l i, val_main_v96 (F := Ideal) A.pp (ix2 l i) = window A 7 (l.val + 16) (col 3 i) := grow A 3 _ (ref_rows3 A) _ _ _ _ pad_zero (by decide) _ s6
  have s8 : ∀ l i, val_main_v99 (F := Ideal) A.pp (ix2 l i) = window A 8 (l.val + 16) (col 3 i) := grow A 3 _ (ref_rows3 A) _ _ _ _ pad_zero (by decide) _ s7
  have s9 : ∀ l i, val_main_v102 (F := Ideal) A.pp (ix2 l i) = window A 9 (l.val + 16) (col 3 i) := grow A 3 _ (ref_rows3 A) _ _ _ _ pad_zero (by decide) _ s8
  have s10 : ∀ l i, val_main_v105 (F := Ideal) A.pp (ix2 l i) = window A 10 (l.val + 16) (col 3 i) := grow A 3 _ (ref_rows3 A) _ _ _ _ pad_zero (by decide) _ s9
  have s11 : ∀ l i, val_main_v108 (F := Ideal) A.pp (ix2 l i) = window A 11 (l.val + 16) (col 3 i) := grow A 3 _ (ref_rows3 A) _ _ _ _ pad_zero (by decide) _ s10
  have s12 : ∀ l i, val_main_v111 (F := Ideal) A.pp (ix2 l i) = window A 12 (l.val + 16) (col 3 i) := grow A 3 _ (ref_rows3 A) _ _ _ _ pad_zero (by decide) _ s11
  have s13 : ∀ l i, val_main_v114 (F := Ideal) A.pp (ix2 l i) = window A 13 (l.val + 16) (col 3 i) := grow A 3 _ (ref_rows3 A) _ _ _ _ pad_zero (by decide) _ s12
  have s14 : ∀ l i, val_main_v117 (F := Ideal) A.pp (ix2 l i) = window A 14 (l.val + 16) (col 3 i) := grow A 3 _ (ref_rows3 A) _ _ _ _ pad_zero (by decide) _ s13
  have s15 : ∀ l i, val_main_v120 (F := Ideal) A.pp (ix2 l i) = window A 15 (l.val + 16) (col 3 i) := grow A 3 _ (ref_rows3 A) _ _ _ _ pad_zero (by decide) _ s14
  exact grow A 3 _ (ref_rows3 A) _ _ _ _ pad_zero (by decide) _ s15 l i

/-- Group 3's counts. -/
theorem ref_count3 (l : Fin 4096) (i : Fin 128) : val_main_v130 (F := Ideal) (ix2 l i) = count 3 l := by
  unfold val_main_v130 val_main_v129 val_main_v128 val_main_v127 val_main_v125 val_main_v126 val_main_v5 val_main_v124 val_main_c_32 val_main_c_31
  pointwise
  exact word_count 3 l 16 rfl

/-- Group 3's products. -/
theorem ref_lin3 (l : Fin 4096) (j : Fin 128) : val_main_v135 (F := Ideal) A.pp A.w (ix2 l j) = lin A 3 l j := by
  unfold val_main_v135 val_main_v132 val_main_v131 val_main_v134 val_main_v133 val_main_v4
  pointwise [ref_window3 A, ref_count3, ref_rows3 A]
  rfl

/-- A gate's entry. -/
theorem ref_gate (l : Fin 4096) (k : Fin 512) : val_main_v3 (F := Ideal) A.pp (ix2 l k) = A.pp (ix2 l (right k)) := by
  unfold val_main_v3 val_main_v2
  pointwise

/-- THE RESULT. -/
theorem ref_out (l : Fin 4096) (k : Fin 512) : val_main_v141 (F := Ideal) A.pp A.w A.sc (ix2 l k) = out A l k := by
  unfold val_main_v141 val_main_v140 val_main_v138 val_main_v139 val_main_v136 val_main_v137 val_main_call26_v5 val_main_call26_v4 val_main_call26_v3 val_main_call26_cst_0 val_main_call26_v2 val_main_call26_v1 val_main_call26_cst val_main_call26_v0
  pointwise [ref_gate A, ref_lin0 A, ref_lin1 A, ref_lin2 A, ref_lin3 A]
  unfold out gate Ideal.logistic
  congr 2
  exact pick (fun g j => lin A g l j) k

end Cert.Pool

end
-- ==== Proof.Pool.Claim.lean ====
/- The claims of the pooling mixer: the kernel's run and the reference's run end with equal results. -/
module

public import proofs.«01_k».proof.Defs
public import proofs.«01_k».proof.Proof.Gen.Reference8Ideal.Run
public import proofs.«01_k».proof.Proof.Ext.Index
public import proofs.«01_k».proof.Proof.Pool.Point
public import proofs.«01_k».proof.Proof.Pool.Reference
public import Idealize.ShloMosaic.Lib.Quiescent

@[expose] public section

noncomputable section

namespace Cert.Pool

open Idealize.ShloMosaic Idealize.ShloMosaic.TcCoe Idealize.SL.Sem

/-- The reference runs, keeps its arguments, and every counter ends at zero. -/
theorem reference_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From equal arguments the kernel and the reference end with equal results, as extended reals. -/
theorem algebraic : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨(h c).1.trans ?_, (h c).2⟩) (Cert.Reference8Ideal.Value.run (F := Ideal) m' ρ')
  obtain ⟨h0, h1, h2⟩ := hagree c
  rw [Cert.Reference8Ideal.Read.val_main_v141_eq]
  show Cert.Reference8Ideal.Read.val_main_v141 (m' ((c : Thread Cert.Reference8Ideal.nD Cert.Reference8Ideal.τ).loc Cert.Reference8Ideal.main_arg0))
    (m' ((c : Thread Cert.Reference8Ideal.nD Cert.Reference8Ideal.τ).loc Cert.Reference8Ideal.main_arg1))
    (m' ((c : Thread Cert.Reference8Ideal.nD Cert.Reference8Ideal.τ).loc Cert.Reference8Ideal.main_arg2)) = _
  rw [h0, h1, h2, final_out]
  exact Ext.matrix_ext (ref_out (args m c))

end Cert.Pool

end
-- ==== Proof.UpdateOut.Spec.lean ====
/- The AdamW update of the output projection's weight in closed form, entry by entry, over the extended reals. -/
module

public import Idealize.ShloMosaic.Lib.Pointwise
public import Idealize.ShloMosaic.PureOps.Ideal.Laws
public import Idealize.ShloMosaic.PureOps.IdealRules
public import proofs.«01_k».proof.Kernel9Ideal

@[expose] public section

noncomputable section

namespace Cert.UpdateOut

open Idealize.ShloMosaic

/-- A matrix of extended reals. -/
abbrev Mat (a b : Nat) := (⟨2, ![a, b]⟩ : Shape).Idx → EReal

/-- A layer's gradient in its four parts. -/
abbrev Parts := (⟨3, ![4, 128, 1024]⟩ : Shape).Idx → EReal

/-- The arrays of the update: the weight, the parts of both layers' gradients and the two moments. -/
structure Args where
  w : Mat 256 1024
  g0 : Parts
  g1 : Parts
  m : Mat 256 1024
  v : Mat 256 1024

variable (A : Args)

/-- Row `r` of the upper layer. -/
abbrev up (r : Fin 256) (h : r.val < 128) : Fin 128 := ⟨r.val, h⟩

/-- Row `r` of the lower layer. -/
abbrev low (r : Fin 256) : Fin 128 := ⟨r.val - 128, by omega⟩

/-- The gradient: the sum of its parts, one layer below the other. -/
def grad (r : Fin 256) (k : Fin 1024) : EReal :=
  if h : r.val < 128 then ∑ j : Fin 4, A.g0 (ix3 j (up r h) k) else ∑ j : Fin 4, A.g1 (ix3 j (low r) k)

/-- The new first moment. -/
def newM (r : Fin 256) (k : Fin 1024) : EReal :=
  Ideal.ofBits .f32 0x3F666666#32 * A.m (ix2 r k) + Ideal.ofBits .f32 0x3DCCCCCD#32 * grad A r k

/-- The new second moment. -/
def newV (r : Fin 256) (k : Fin 1024) : EReal :=
  Ideal.ofBits .f32 0x3F7FBE77#32 * A.v (ix2 r k) + Ideal.ofBits .f32 0x3A83126F#32 * (grad A r k * grad A r k)

/-- What is added to the weight. -/
def delta (r : Fin 256) (k : Fin 1024) : EReal :=
  Ideal.ofBits .f32 0xBA83126F#32 * (Ideal.div (newM A r k * ((8388608 / 5463681 : ℝ) : EReal))
      (Ideal.sqrt (newV A r k * ((268435456 / 2672307 : ℝ) : EReal)) + Ideal.ofBits .f32 0x322BCC77#32)
    + Ideal.ofBits .f32 0x3C23D70A#32 * A.w (ix2 r k))

/-- The factor on the first moment, as the kernel names it. -/
theorem inv_left1 : Named.named (F := Ideal) Cert.Kernel9Ideal.κ "inv_left1" (φ := .f32) 0x3FC48605#32 = ((8388608 / 5463681 : ℝ) : EReal) :=
  IdealRules.named_const.ideal_named_scalar _ _ _ _ rfl

/-- The factor on the second moment, as the kernel names it. -/
theorem inv_left2 : Named.named (F := Ideal) Cert.Kernel9Ideal.κ "inv_left2" (φ := .f32) 0x42C8E6D3#32 = ((268435456 / 2672307 : ℝ) : EReal) :=
  IdealRules.named_const.ideal_named_scalar _ _ _ _ rfl

/-- The reference's divisor of the first moment. -/
theorem left1_f32 : Ideal.ofBits .f32 0x3F26BD02#32 = ((5463681 / 8388608 : ℝ) : EReal) := by
  simp [Ideal.ofBits, Ideal.ieee, -EReal.coe_mul]; norm_num

/-- The reference's divisor of the second moment. -/
theorem left2_f32 : Ideal.ofBits .f32 0x3C231ACC#32 = ((2672307 / 268435456 : ℝ) : EReal) := by
  simp [Ideal.ofBits, Ideal.ieee, -EReal.coe_mul]; norm_num

/-- A quotient by a real other than zero is a product with its inverse. -/
theorem div_real (y : EReal) (a b : ℝ) (ha : a ≠ 0) (hb : b = a⁻¹) : Ideal.div y (a : EReal) = y * (b : EReal) := by
  have h : (a : EReal) ≠ 0 := by exact_mod_cast ha
  rw [Ideal.div, if_neg h, hb, EReal.coe_inv]

/-- Dividing by the first divisor is multiplying by the first factor. -/
theorem div_left1 (y : EReal) : Ideal.div y (Ideal.ofBits .f32 0x3F26BD02#32) = y * ((8388608 / 5463681 : ℝ) : EReal) := by
  rw [left1_f32]; exact div_real y _ _ (by norm_num) (by norm_num)

/-- Dividing by the second divisor is multiplying by the second factor. -/
theorem div_left2 (y : EReal) : Ideal.div y (Ideal.ofBits .f32 0x3C231ACC#32) = y * ((268435456 / 2672307 : ℝ) : EReal) := by
  rw [left2_f32]; exact div_real y _ _ (by norm_num) (by norm_num)

end Cert.UpdateOut

end
-- ==== Proof.UpdateOut.Point.lean ====
/- What a grid point leaves in the update kernel's four output windows, at an index: the closed form of Spec.lean. -/
module

public import proofs.«01_k».proof.Proof.Gen.Kernel9Ideal.Value
public import proofs.«01_k».proof.Proof.UpdateOut.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.UpdateOut

open Idealize.ShloMosaic Idealize.ShloMosaic.TcCoe Cert.Kernel9Ideal Cert.Kernel9Ideal.Gen

variable (m : (ℓ : Loc nD τ sig) → Buf (Elt Ideal) ℓ) (c : Dev nD)

/-- The update's arrays, as the kernel's arguments hold them. -/
def args : Args where
  w := m ((c : Thread nD τ).loc main_arg0)
  g0 := m ((c : Thread nD τ).loc main_arg1)
  g1 := m ((c : Thread nD τ).loc main_arg2)
  m := m ((c : Thread nD τ).loc main_arg3)
  v := m ((c : Thread nD τ).loc main_arg4)

/-- Row `r` of point `t`'s block. -/
abbrev row (t : Fin cfg0.N) (r : Fin 128) : Fin 256 := ⟨128 * t.val + r.val, by have := t.isLt; have : cfg0.N = 2 := N_0; omega⟩

/-- Where each window's block lies at a grid point. -/
theorem index : ∀ t : Fin cfg0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0] :=
  (by decide +kernel : ∀ t : Fin grid0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0])

/-- Where the parts of the upper layer's gradient lie at its point. -/
theorem index_up : ∀ t : Fin cfg0.N, t.val < 1 → win0_1.index t = ![0, 0, 0] :=
  (by decide +kernel : ∀ t : Fin grid0.N, t.val < 1 → win0_1.index t = ![0, 0, 0])

/-- Where the parts of the lower layer's gradient lie at its point. -/
theorem index_low : ∀ t : Fin cfg0.N, ¬ t.val < 1 → win0_2.index t = ![0, 0, 0] :=
  (by decide +kernel : ∀ t : Fin grid0.N, ¬ t.val < 1 → win0_2.index t = ![0, 0, 0])

/-- A point's layer. -/
theorem layer : ∀ t : Fin cfg0.N, (grid0.coords t 0).val = t.val :=
  (by decide +kernel : ∀ t : Fin grid0.N, (grid0.coords t 0).val = t.val)

theorem blk_w (t : Fin cfg0.N) (r : Fin 128) (k : Fin 1024) : iblk m c 0 t (ix2 r k) = (args m c).w (ix2 (row t r) k) := by
  unfold args
  blk_ext [iblk, V_main_arg0, index t]

theorem blk_g0 (t : Fin cfg0.N) (h : t.val < 1) (j : Fin 4) (r : Fin 128) (k : Fin 1024) :
    iblk m c 1 t (ix3 j r k) = (args m c).g0 (ix3 j r k) := by
  unfold args
  blk_ext [iblk, V_main_arg1, index_up t h]

theorem blk_g1 (t : Fin cfg0.N) (h : ¬ t.val < 1) (j : Fin 4) (r : Fin 128) (k : Fin 1024) :
    iblk m c 2 t (ix3 j r k) = (args m c).g1 (ix3 j r k) := by
  unfold args
  blk_ext [iblk, V_main_arg2, index_low t h]

theorem blk_m (t : Fin cfg0.N) (r : Fin 128) (k : Fin 1024) : iblk m c 3 t (ix2 r k) = (args m c).m (ix2 (row t r) k) := by
  unfold args
  blk_ext [iblk, V_main_arg3, index t]

theorem blk_v (t : Fin cfg0.N) (r : Fin 128) (k : Fin 1024) : iblk m c 4 t (ix2 r k) = (args m c).v (ix2 (row t r) k) := by
  unfold args
  blk_ext [iblk, V_main_arg4, index t]

/-- A point's gradient, of its five blocks. -/
abbrev ptG (t : Fin cfg0.N) : FVec Ideal S128x1024 .f32 :=
  k0_pay5 (grid0.coords t) (iblk m c 0 t) (iblk m c 1 t) (iblk m c 2 t) (iblk m c 3 t) (iblk m c 4 t)

/-- A point's rows of the gradient. -/
theorem pt_grad (t : Fin cfg0.N) (r : Fin 128) (k : Fin 1024) : ptG m c t (ix2 r k) = grad (args m c) (row t r) k := by
  have hN : t.val < 2 := t.isLt
  unfold ptG k0_pay5 k0_pay4
  rw [layer t]
  by_cases h : t.val < 1
  · have e : t.val = 0 := by omega
    have hr : (row t r).val < 128 := by show 128 * t.val + r.val < 128; omega
    have er : up (row t r) hr = r := Fin.ext (by show 128 * t.val + r.val = r.val; omega)
    rw [e, grad, dif_pos hr, er, Fin.sum_univ_four]
    pointwise [blk_g0 m c t h]
    exact if_neg (by decide)
  · have e : t.val = 1 := by omega
    have hr : ¬ (row t r).val < 128 := by show ¬ 128 * t.val + r.val < 128; omega
    have er : low (row t r) = r := Fin.ext (by show 128 * t.val + r.val - 128 = r.val; omega)
    rw [e, grad, dif_neg hr, er, Fin.sum_univ_four]
    pointwise [blk_g1 m c t h]

/-- A point's rows of the new first moment. -/
theorem pt_newM (t : Fin cfg0.N) (r : Fin 128) (k : Fin 1024) : k0_pay1 (ptG m c t) (iblk m c 3 t) (ix2 r k) = newM (args m c) (row t r) k := by
  unfold k0_pay1
  pointwise [pt_grad m c t, blk_m m c t]
  rfl

/-- A point's rows of the new second moment. -/
theorem pt_newV (t : Fin cfg0.N) (r : Fin 128) (k : Fin 1024) : k0_pay2 (ptG m c t) (iblk m c 4 t) (ix2 r k) = newV (args m c) (row t r) k := by
  unfold k0_pay2
  pointwise [pt_grad m c t, blk_v m c t]
  rfl

/-- A point's rows of what is added to the weight. -/
theorem pt_delta (t : Fin cfg0.N) (r : Fin 128) (k : Fin 1024) :
    k0_pay3 (ptG m c t) (iblk m c 3 t) (iblk m c 4 t) (iblk m c 0 t) (ix2 r k) = delta (args m c) (row t r) k := by
  unfold k0_pay3
  pointwise [pt_newM m c t, pt_newV m c t, blk_w m c t, inv_left1, inv_left2]
  rfl

/-- The gradient, after the run. -/
theorem final_grad : (dats m 0 c).arrAt 5 cfg0.N = fun i => grad (args m c) (i 0) (i 1) := by
  refine (dats m 0 c).arrAt_eq_of_covers 5 _ (by decide +kernel) fun t hf y => ?_
  blk_simp [index t]
  rw [after0_5]
  frame_out
  obtain ⟨r, k, rfl⟩ : ∃ (r : Fin 128) (k : Fin 1024), y = ix2 r k := ⟨y 0, y 1, by funext a; fin_cases a <;> rfl⟩
  have e0 : ((win0_5.blk t).view.emb (ix2 r k) 0) = row t r := by
    apply Fin.ext
    blk_simp [index t]
    simp [mul_comm]
  have e1 : ((win0_5.blk t).view.emb (ix2 r k) 1) = k := by
    apply Fin.ext
    blk_simp [index t]
  rw [e0, e1]
  exact pt_grad m c t r k

/-- What is added to the weight, after the run. -/
theorem final_delta : (dats m 0 c).arrAt 6 cfg0.N = fun i => delta (args m c) (i 0) (i 1) := by
  refine (dats m 0 c).arrAt_eq_of_covers 6 _ (by decide +kernel) fun t hf y => ?_
  blk_simp [index t]
  rw [after0_6]
  frame_out
  obtain ⟨r, k, rfl⟩ : ∃ (r : Fin 128) (k : Fin 1024), y = ix2 r k := ⟨y 0, y 1, by funext a; fin_cases a <;> rfl⟩
  have e0 : ((win0_6.blk t).view.emb (ix2 r k) 0) = row t r := by
    apply Fin.ext
    blk_simp [index t]
    simp [mul_comm]
  have e1 : ((win0_6.blk t).view.emb (ix2 r k) 1) = k := by
    apply Fin.ext
    blk_simp [index t]
  rw [e0, e1]
  exact pt_delta m c t r k

/-- The new first moment, after the run. -/
theorem final_newM : (dats m 0 c).arrAt 7 cfg0.N = fun i => newM (args m c) (i 0) (i 1) := by
  refine (dats m 0 c).arrAt_eq_of_covers 7 _ (by decide +kernel) fun t hf y => ?_
  blk_simp [index t]
  rw [after0_7]
  frame_out
  obtain ⟨r, k, rfl⟩ : ∃ (r : Fin 128) (k : Fin 1024), y = ix2 r k := ⟨y 0, y 1, by funext a; fin_cases a <;> rfl⟩
  have e0 : ((win0_7.blk t).view.emb (ix2 r k) 0) = row t r := by
    apply Fin.ext
    blk_simp [index t]
    simp [mul_comm]
  have e1 : ((win0_7.blk t).view.emb (ix2 r k) 1) = k := by
    apply Fin.ext
    blk_simp [index t]
  rw [e0, e1]
  exact pt_newM m c t r k

/-- The new second moment, after the run. -/
theorem final_newV : (dats m 0 c).arrAt 8 cfg0.N = fun i => newV (args m c) (i 0) (i 1) := by
  refine (dats m 0 c).arrAt_eq_of_covers 8 _ (by decide +kernel) fun t hf y => ?_
  blk_simp [index t]
  rw [after0_8]
  frame_out
  obtain ⟨r, k, rfl⟩ : ∃ (r : Fin 128) (k : Fin 1024), y = ix2 r k := ⟨y 0, y 1, by funext a; fin_cases a <;> rfl⟩
  have e0 : ((win0_8.blk t).view.emb (ix2 r k) 0) = row t r := by
    apply Fin.ext
    blk_simp [index t]
    simp [mul_comm]
  have e1 : ((win0_8.blk t).view.emb (ix2 r k) 1) = k := by
    apply Fin.ext
    blk_simp [index t]
  rw [e0, e1]
  exact pt_newV m c t r k

end Cert.UpdateOut

end
-- ==== Proof.UpdateOut.Reference.lean ====
/- The reference's four results at an index: the closed form of Spec.lean. -/
module

public import proofs.«01_k».proof.Proof.Gen.Reference9Ideal.Read
public import proofs.«01_k».proof.Proof.UpdateOut.Spec

@[expose] public section

set_option maxRecDepth 16384

noncomputable section

namespace Cert.UpdateOut

open Idealize.ShloMosaic Cert.Reference9Ideal Cert.Reference9Ideal.Read

variable (A : Args)

/-- A layer's summed parts. -/
theorem ref_sum0 (r : Fin 128) (k : Fin 1024) : val_main_v1 (F := Ideal) A.g0 (ix2 r k) = ∑ j : Fin 4, A.g0 (ix3 j r k) := by
  unfold val_main_v1 val_main_v0 val_main_cst
  pointwise

/-- The other layer's summed parts. -/
theorem ref_sum1 (r : Fin 128) (k : Fin 1024) : val_main_v3 (F := Ideal) A.g1 (ix2 r k) = ∑ j : Fin 4, A.g1 (ix3 j r k) := by
  unfold val_main_v3 val_main_v2 val_main_cst_0
  pointwise

/-- THE FIRST RESULT: the gradient. -/
theorem ref_grad (r : Fin 256) (k : Fin 1024) : val_main_v4 (F := Ideal) A.g0 A.g1 (ix2 r k) = grad A r k := by
  unfold val_main_v4 grad
  pointwise [ref_sum0, ref_sum1]

/-- THE THIRD RESULT: the new first moment. -/
theorem ref_newM (r : Fin 256) (k : Fin 1024) : val_main_v9 (F := Ideal) A.g0 A.g1 A.m (ix2 r k) = newM A r k := by
  unfold val_main_v9 val_main_v8 val_main_v7 val_main_cst_2 val_main_v6 val_main_v5 val_main_cst_1 newM
  pointwise [ref_grad]

/-- THE FOURTH RESULT: the new second moment. -/
theorem ref_newV (r : Fin 256) (k : Fin 1024) : val_main_v15 (F := Ideal) A.g0 A.g1 A.v (ix2 r k) = newV A r k := by
  unfold val_main_v15 val_main_v14 val_main_v13 val_main_cst_4 val_main_v12 val_main_v11 val_main_v10 val_main_cst_3 newV
  pointwise [ref_grad]

/-- THE SECOND RESULT: what is added to the weight. -/
theorem ref_delta (r : Fin 256) (k : Fin 1024) : val_main_v28 (F := Ideal) A.w A.g0 A.g1 A.m A.v (ix2 r k) = delta A r k := by
  unfold val_main_v28 val_main_v27 val_main_cst_9 val_main_v26 val_main_v25 val_main_v24 val_main_cst_8 val_main_v23 val_main_v22 val_main_v21 val_main_cst_7
    val_main_v20 val_main_v19 val_main_v18 val_main_cst_6 val_main_v17 val_main_v16 val_main_cst_5 delta
  pointwise [ref_newM, ref_newV]
  rw [div_left1, div_left2]

end Cert.UpdateOut

end
-- ==== Proof.UpdateOut.Claim.lean ====
/- The claims of the update of the output projection's weight: the kernel's run and the reference's run end with equal results. -/
module

public import proofs.«01_k».proof.Defs
public import proofs.«01_k».proof.Proof.Gen.Reference9Ideal.Run
public import proofs.«01_k».proof.Proof.Ext.Index
public import proofs.«01_k».proof.Proof.UpdateOut.Point
public import proofs.«01_k».proof.Proof.UpdateOut.Reference
public import Idealize.ShloMosaic.Lib.Quiescent

@[expose] public section

noncomputable section

namespace Cert.UpdateOut

open Idealize.ShloMosaic Idealize.ShloMosaic.TcCoe Idealize.SL.Sem

/-- The reference runs, keeps its arguments, and every counter ends at zero. -/
theorem reference_frame : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The two factors that the kernel names. -/
theorem preserves : Cert.preserves_Kernel9_Kernel9Ideal :=
  ⟨IdealRules.named_const.statement Cert.Kernel9Ideal.κ "inv_left1" .f32 0x3FC48605#32 ((8388608 / 5463681 : ℝ) : EReal) rfl,
    IdealRules.named_const.statement Cert.Kernel9Ideal.κ "inv_left2" .f32 0x42C8E6D3#32 ((268435456 / 2672307 : ℝ) : EReal) rfl⟩

/-- From equal arguments the kernel and the reference end with equal results, as extended reals. -/
theorem algebraic : Cert.algebraic_Kernel9Ideal_Reference9Ideal := by
  intro m ρ m' ρ' _ hagree
  refine ⟨_, _, _, _, Cert.Kernel9Ideal.Value.run_blocks (F := Ideal) m ρ, ?_⟩
  refine (θ_run Cert.Reference9Ideal.defs _ _).mono (fun _ h c => ⟨(h c).1.trans ?_, (h c).2.1.trans ?_, (h c).2.2.1.trans ?_, (h c).2.2.2.1.trans ?_,
    (h c).2.2.2.2⟩) (Cert.Reference9Ideal.Value.run (F := Ideal) m' ρ')
  · obtain ⟨h0, h1, h2, h3, h4⟩ := hagree c
    rw [Cert.Reference9Ideal.Read.val_main_v4_eq, h1, h2, final_grad]
    exact Ext.matrix_ext (ref_grad (args m c))
  · obtain ⟨h0, h1, h2, h3, h4⟩ := hagree c
    rw [Cert.Reference9Ideal.Read.val_main_v28_eq, h0, h1, h2, h3, h4, final_delta]
    exact Ext.matrix_ext (ref_delta (args m c))
  · obtain ⟨h0, h1, h2, h3, h4⟩ := hagree c
    rw [Cert.Reference9Ideal.Read.val_main_v9_eq, h1, h2, h3, final_newM]
    exact Ext.matrix_ext (ref_newM (args m c))
  · obtain ⟨h0, h1, h2, h3, h4⟩ := hagree c
    rw [Cert.Reference9Ideal.Read.val_main_v15_eq, h1, h2, h4, final_newV]
    exact Ext.matrix_ext (ref_newV (args m c))

end Cert.UpdateOut

end
-- ==== Proof.UpdateGlu.Spec.lean ====
/- The AdamW update of the state space's GLU weight in closed form, entry by entry, over the extended reals. -/
module

public import Idealize.ShloMosaic.Lib.Pointwise
public import Idealize.ShloMosaic.PureOps.Ideal.Laws
public import Idealize.ShloMosaic.PureOps.IdealRules
public import proofs.«01_k».proof.Kernel10Ideal

@[expose] public section

noncomputable section

namespace Cert.UpdateGlu

open Idealize.ShloMosaic

/-- A matrix of extended reals. -/
abbrev Mat (a b : Nat) := (⟨2, ![a, b]⟩ : Shape).Idx → EReal

/-- A layer's gradient in its four parts. -/
abbrev Parts := (⟨3, ![4, 64, 512]⟩ : Shape).Idx → EReal

/-- The arrays of the update: the weight, the parts of both layers' gradients and the two moments. -/
structure Args where
  w : Mat 128 512
  g0 : Parts
  g1 : Parts
  m : Mat 128 512
  v : Mat 128 512

variable (A : Args)

/-- Row `r` of the upper layer. -/
abbrev up (r : Fin 128) (h : r.val < 64) : Fin 64 := ⟨r.val, h⟩

/-- Row `r` of the lower layer. -/
abbrev low (r : Fin 128) : Fin 64 := ⟨r.val - 64, by omega⟩

/-- The gradient: the sum of its parts, one layer below the other. -/
def grad (r : Fin 128) (k : Fin 512) : EReal :=
  if h : r.val < 64 then ∑ j : Fin 4, A.g0 (ix3 j (up r h) k) else ∑ j : Fin 4, A.g1 (ix3 j (low r) k)

/-- The new first moment. -/
def newM (r : Fin 128) (k : Fin 512) : EReal :=
  Ideal.ofBits .f32 0x3F666666#32 * A.m (ix2 r k) + Ideal.ofBits .f32 0x3DCCCCCD#32 * grad A r k

/-- The new second moment. -/
def newV (r : Fin 128) (k : Fin 512) : EReal :=
  Ideal.ofBits .f32 0x3F7FBE77#32 * A.v (ix2 r k) + Ideal.ofBits .f32 0x3A83126F#32 * (grad A r k * grad A r k)

/-- What is added to the weight. -/
def delta (r : Fin 128) (k : Fin 512) : EReal :=
  Ideal.ofBits .f32 0xBA83126F#32 * (Ideal.div (newM A r k * ((8388608 / 5463681 : ℝ) : EReal))
      (Ideal.sqrt (newV A r k * ((268435456 / 2672307 : ℝ) : EReal)) + Ideal.ofBits .f32 0x322BCC77#32)
    + Ideal.ofBits .f32 0x3C23D70A#32 * A.w (ix2 r k))

/-- The factor on the first moment, as the kernel names it. -/
theorem inv_left1 : Named.named (F := Ideal) Cert.Kernel10Ideal.κ "inv_left1" (φ := .f32) 0x3FC48605#32 = ((8388608 / 5463681 : ℝ) : EReal) :=
  IdealRules.named_const.ideal_named_scalar _ _ _ _ rfl

/-- The factor on the second moment, as the kernel names it. -/
theorem inv_left2 : Named.named (F := Ideal) Cert.Kernel10Ideal.κ "inv_left2" (φ := .f32) 0x42C8E6D3#32 = ((268435456 / 2672307 : ℝ) : EReal) :=
  IdealRules.named_const.ideal_named_scalar _ _ _ _ rfl

/-- The reference's divisor of the first moment. -/
theorem left1_f32 : Ideal.ofBits .f32 0x3F26BD02#32 = ((5463681 / 8388608 : ℝ) : EReal) := by
  simp [Ideal.ofBits, Ideal.ieee, -EReal.coe_mul]; norm_num

/-- The reference's divisor of the second moment. -/
theorem left2_f32 : Ideal.ofBits .f32 0x3C231ACC#32 = ((2672307 / 268435456 : ℝ) : EReal) := by
  simp [Ideal.ofBits, Ideal.ieee, -EReal.coe_mul]; norm_num

/-- A quotient by a real other than zero is a product with its inverse. -/
theorem div_real (y : EReal) (a b : ℝ) (ha : a ≠ 0) (hb : b = a⁻¹) : Ideal.div y (a : EReal) = y * (b : EReal) := by
  have h : (a : EReal) ≠ 0 := by exact_mod_cast ha
  rw [Ideal.div, if_neg h, hb, EReal.coe_inv]

/-- Dividing by the first divisor is multiplying by the first factor. -/
theorem div_left1 (y : EReal) : Ideal.div y (Ideal.ofBits .f32 0x3F26BD02#32) = y * ((8388608 / 5463681 : ℝ) : EReal) := by
  rw [left1_f32]; exact div_real y _ _ (by norm_num) (by norm_num)

/-- Dividing by the second divisor is multiplying by the second factor. -/
theorem div_left2 (y : EReal) : Ideal.div y (Ideal.ofBits .f32 0x3C231ACC#32) = y * ((268435456 / 2672307 : ℝ) : EReal) := by
  rw [left2_f32]; exact div_real y _ _ (by norm_num) (by norm_num)

end Cert.UpdateGlu

end
-- ==== Proof.UpdateGlu.Point.lean ====
/- What a grid point leaves in the update kernel's four output windows, at an index: the closed form of Spec.lean. -/
module

public import proofs.«01_k».proof.Proof.Gen.Kernel10Ideal.Value
public import proofs.«01_k».proof.Proof.UpdateGlu.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.UpdateGlu

open Idealize.ShloMosaic Idealize.ShloMosaic.TcCoe Cert.Kernel10Ideal Cert.Kernel10Ideal.Gen

variable (m : (ℓ : Loc nD τ sig) → Buf (Elt Ideal) ℓ) (c : Dev nD)

/-- The update's arrays, as the kernel's arguments hold them. -/
def args : Args where
  w := m ((c : Thread nD τ).loc main_arg0)
  g0 := m ((c : Thread nD τ).loc main_arg1)
  g1 := m ((c : Thread nD τ).loc main_arg2)
  m := m ((c : Thread nD τ).loc main_arg3)
  v := m ((c : Thread nD τ).loc main_arg4)

/-- Row `r` of point `t`'s block. -/
abbrev row (t : Fin cfg0.N) (r : Fin 64) : Fin 128 := ⟨64 * t.val + r.val, by have := t.isLt; have : cfg0.N = 2 := N_0; omega⟩

/-- Where each window's block lies at a grid point. -/
theorem index : ∀ t : Fin cfg0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0] :=
  (by decide +kernel : ∀ t : Fin grid0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0])

/-- Where the parts of the upper layer's gradient lie at its point. -/
theorem index_up : ∀ t : Fin cfg0.N, t.val < 1 → win0_1.index t = ![0, 0, 0] :=
  (by decide +kernel : ∀ t : Fin grid0.N, t.val < 1 → win0_1.index t = ![0, 0, 0])

/-- Where the parts of the lower layer's gradient lie at its point. -/
theorem index_low : ∀ t : Fin cfg0.N, ¬ t.val < 1 → win0_2.index t = ![0, 0, 0] :=
  (by decide +kernel : ∀ t : Fin grid0.N, ¬ t.val < 1 → win0_2.index t = ![0, 0, 0])

/-- A point's layer. -/
theorem layer : ∀ t : Fin cfg0.N, (grid0.coords t 0).val = t.val :=
  (by decide +kernel : ∀ t : Fin grid0.N, (grid0.coords t 0).val = t.val)

theorem blk_w (t : Fin cfg0.N) (r : Fin 64) (k : Fin 512) : iblk m c 0 t (ix2 r k) = (args m c).w (ix2 (row t r) k) := by
  unfold args
  blk_ext [iblk, V_main_arg0, index t]

theorem blk_g0 (t : Fin cfg0.N) (h : t.val < 1) (j : Fin 4) (r : Fin 64) (k : Fin 512) :
    iblk m c 1 t (ix3 j r k) = (args m c).g0 (ix3 j r k) := by
  unfold args
  blk_ext [iblk, V_main_arg1, index_up t h]

theorem blk_g1 (t : Fin cfg0.N) (h : ¬ t.val < 1) (j : Fin 4) (r : Fin 64) (k : Fin 512) :
    iblk m c 2 t (ix3 j r k) = (args m c).g1 (ix3 j r k) := by
  unfold args
  blk_ext [iblk, V_main_arg2, index_low t h]

theorem blk_m (t : Fin cfg0.N) (r : Fin 64) (k : Fin 512) : iblk m c 3 t (ix2 r k) = (args m c).m (ix2 (row t r) k) := by
  unfold args
  blk_ext [iblk, V_main_arg3, index t]

theorem blk_v (t : Fin cfg0.N) (r : Fin 64) (k : Fin 512) : iblk m c 4 t (ix2 r k) = (args m c).v (ix2 (row t r) k) := by
  unfold args
  blk_ext [iblk, V_main_arg4, index t]

/-- A point's gradient, of its five blocks. -/
abbrev ptG (t : Fin cfg0.N) : FVec Ideal S64x512 .f32 :=
  k0_pay5 (grid0.coords t) (iblk m c 0 t) (iblk m c 1 t) (iblk m c 2 t) (iblk m c 3 t) (iblk m c 4 t)

/-- A point's rows of the gradient. -/
theorem pt_grad (t : Fin cfg0.N) (r : Fin 64) (k : Fin 512) : ptG m c t (ix2 r k) = grad (args m c) (row t r) k := by
  have hN : t.val < 2 := t.isLt
  unfold ptG k0_pay5 k0_pay4
  rw [layer t]
  by_cases h : t.val < 1
  · have e : t.val = 0 := by omega
    have hr : (row t r).val < 64 := by show 64 * t.val + r.val < 64; omega
    have er : up (row t r) hr = r := Fin.ext (by show 64 * t.val + r.val = r.val; omega)
    rw [e, grad, dif_pos hr, er, Fin.sum_univ_four]
    pointwise [blk_g0 m c t h]
    exact if_neg (by decide)
  · have e : t.val = 1 := by omega
    have hr : ¬ (row t r).val < 64 := by show ¬ 64 * t.val + r.val < 64; omega
    have er : low (row t r) = r := Fin.ext (by show 64 * t.val + r.val - 64 = r.val; omega)
    rw [e, grad, dif_neg hr, er, Fin.sum_univ_four]
    pointwise [blk_g1 m c t h]

/-- A point's rows of the new first moment. -/
theorem pt_newM (t : Fin cfg0.N) (r : Fin 64) (k : Fin 512) : k0_pay1 (ptG m c t) (iblk m c 3 t) (ix2 r k) = newM (args m c) (row t r) k := by
  unfold k0_pay1
  pointwise [pt_grad m c t, blk_m m c t]
  rfl

/-- A point's rows of the new second moment. -/
theorem pt_newV (t : Fin cfg0.N) (r : Fin 64) (k : Fin 512) : k0_pay2 (ptG m c t) (iblk m c 4 t) (ix2 r k) = newV (args m c) (row t r) k := by
  unfold k0_pay2
  pointwise [pt_grad m c t, blk_v m c t]
  rfl

/-- A point's rows of what is added to the weight. -/
theorem pt_delta (t : Fin cfg0.N) (r : Fin 64) (k : Fin 512) :
    k0_pay3 (ptG m c t) (iblk m c 3 t) (iblk m c 4 t) (iblk m c 0 t) (ix2 r k) = delta (args m c) (row t r) k := by
  unfold k0_pay3
  pointwise [pt_newM m c t, pt_newV m c t, blk_w m c t, inv_left1, inv_left2]
  rfl

/-- The gradient, after the run. -/
theorem final_grad : (dats m 0 c).arrAt 5 cfg0.N = fun i => grad (args m c) (i 0) (i 1) := by
  refine (dats m 0 c).arrAt_eq_of_covers 5 _ (by decide +kernel) fun t hf y => ?_
  blk_simp [index t]
  rw [after0_5]
  frame_out
  obtain ⟨r, k, rfl⟩ : ∃ (r : Fin 64) (k : Fin 512), y = ix2 r k := ⟨y 0, y 1, by funext a; fin_cases a <;> rfl⟩
  have e0 : ((win0_5.blk t).view.emb (ix2 r k) 0) = row t r := by
    apply Fin.ext
    blk_simp [index t]
    simp [mul_comm]
  have e1 : ((win0_5.blk t).view.emb (ix2 r k) 1) = k := by
    apply Fin.ext
    blk_simp [index t]
  rw [e0, e1]
  exact pt_grad m c t r k

/-- What is added to the weight, after the run. -/
theorem final_delta : (dats m 0 c).arrAt 6 cfg0.N = fun i => delta (args m c) (i 0) (i 1) := by
  refine (dats m 0 c).arrAt_eq_of_covers 6 _ (by decide +kernel) fun t hf y => ?_
  blk_simp [index t]
  rw [after0_6]
  frame_out
  obtain ⟨r, k, rfl⟩ : ∃ (r : Fin 64) (k : Fin 512), y = ix2 r k := ⟨y 0, y 1, by funext a; fin_cases a <;> rfl⟩
  have e0 : ((win0_6.blk t).view.emb (ix2 r k) 0) = row t r := by
    apply Fin.ext
    blk_simp [index t]
    simp [mul_comm]
  have e1 : ((win0_6.blk t).view.emb (ix2 r k) 1) = k := by
    apply Fin.ext
    blk_simp [index t]
  rw [e0, e1]
  exact pt_delta m c t r k

/-- The new first moment, after the run. -/
theorem final_newM : (dats m 0 c).arrAt 7 cfg0.N = fun i => newM (args m c) (i 0) (i 1) := by
  refine (dats m 0 c).arrAt_eq_of_covers 7 _ (by decide +kernel) fun t hf y => ?_
  blk_simp [index t]
  rw [after0_7]
  frame_out
  obtain ⟨r, k, rfl⟩ : ∃ (r : Fin 64) (k : Fin 512), y = ix2 r k := ⟨y 0, y 1, by funext a; fin_cases a <;> rfl⟩
  have e0 : ((win0_7.blk t).view.emb (ix2 r k) 0) = row t r := by
    apply Fin.ext
    blk_simp [index t]
    simp [mul_comm]
  have e1 : ((win0_7.blk t).view.emb (ix2 r k) 1) = k := by
    apply Fin.ext
    blk_simp [index t]
  rw [e0, e1]
  exact pt_newM m c t r k

/-- The new second moment, after the run. -/
theorem final_newV : (dats m 0 c).arrAt 8 cfg0.N = fun i => newV (args m c) (i 0) (i 1) := by
  refine (dats m 0 c).arrAt_eq_of_covers 8 _ (by decide +kernel) fun t hf y => ?_
  blk_simp [index t]
  rw [after0_8]
  frame_out
  obtain ⟨r, k, rfl⟩ : ∃ (r : Fin 64) (k : Fin 512), y = ix2 r k := ⟨y 0, y 1, by funext a; fin_cases a <;> rfl⟩
  have e0 : ((win0_8.blk t).view.emb (ix2 r k) 0) = row t r := by
    apply Fin.ext
    blk_simp [index t]
    simp [mul_comm]
  have e1 : ((win0_8.blk t).view.emb (ix2 r k) 1) = k := by
    apply Fin.ext
    blk_simp [index t]
  rw [e0, e1]
  exact pt_newV m c t r k

end Cert.UpdateGlu

end
-- ==== Proof.UpdateGlu.Reference.lean ====
/- The reference's four results at an index: the closed form of Spec.lean. -/
module

public import proofs.«01_k».proof.Proof.Gen.Reference10Ideal.Read
public import proofs.«01_k».proof.Proof.UpdateGlu.Spec

@[expose] public section

set_option maxRecDepth 16384

noncomputable section

namespace Cert.UpdateGlu

open Idealize.ShloMosaic Cert.Reference10Ideal Cert.Reference10Ideal.Read

variable (A : Args)

/-- A layer's summed parts. -/
theorem ref_sum0 (r : Fin 64) (k : Fin 512) : val_main_v1 (F := Ideal) A.g0 (ix2 r k) = ∑ j : Fin 4, A.g0 (ix3 j r k) := by
  unfold val_main_v1 val_main_v0 val_main_cst
  pointwise

/-- The other layer's summed parts. -/
theorem ref_sum1 (r : Fin 64) (k : Fin 512) : val_main_v3 (F := Ideal) A.g1 (ix2 r k) = ∑ j : Fin 4, A.g1 (ix3 j r k) := by
  unfold val_main_v3 val_main_v2 val_main_cst_0
  pointwise

/-- THE FIRST RESULT: the gradient. -/
theorem ref_grad (r : Fin 128) (k : Fin 512) : val_main_v4 (F := Ideal) A.g0 A.g1 (ix2 r k) = grad A r k := by
  unfold val_main_v4 grad
  pointwise [ref_sum0, ref_sum1]

/-- THE THIRD RESULT: the new first moment. -/
theorem ref_newM (r : Fin 128) (k : Fin 512) : val_main_v9 (F := Ideal) A.g0 A.g1 A.m (ix2 r k) = newM A r k := by
  unfold val_main_v9 val_main_v8 val_main_v7 val_main_cst_2 val_main_v6 val_main_v5 val_main_cst_1 newM
  pointwise [ref_grad]

/-- THE FOURTH RESULT: the new second moment. -/
theorem ref_newV (r : Fin 128) (k : Fin 512) : val_main_v15 (F := Ideal) A.g0 A.g1 A.v (ix2 r k) = newV A r k := by
  unfold val_main_v15 val_main_v14 val_main_v13 val_main_cst_4 val_main_v12 val_main_v11 val_main_v10 val_main_cst_3 newV
  pointwise [ref_grad]

/-- THE SECOND RESULT: what is added to the weight. -/
theorem ref_delta (r : Fin 128) (k : Fin 512) : val_main_v28 (F := Ideal) A.w A.g0 A.g1 A.m A.v (ix2 r k) = delta A r k := by
  unfold val_main_v28 val_main_v27 val_main_cst_9 val_main_v26 val_main_v25 val_main_v24 val_main_cst_8 val_main_v23 val_main_v22 val_main_v21 val_main_cst_7
    val_main_v20 val_main_v19 val_main_v18 val_main_cst_6 val_main_v17 val_main_v16 val_main_cst_5 delta
  pointwise [ref_newM, ref_newV]
  rw [div_left1, div_left2]

end Cert.UpdateGlu

end
-- ==== Proof.UpdateGlu.Claim.lean ====
/- The claims of the update of the state space's GLU weight: the kernel's run and the reference's run end with equal results. -/
module

public import proofs.«01_k».proof.Defs
public import proofs.«01_k».proof.Proof.Gen.Reference10Ideal.Run
public import proofs.«01_k».proof.Proof.Ext.Index
public import proofs.«01_k».proof.Proof.UpdateGlu.Point
public import proofs.«01_k».proof.Proof.UpdateGlu.Reference
public import Idealize.ShloMosaic.Lib.Quiescent

@[expose] public section

noncomputable section

namespace Cert.UpdateGlu

open Idealize.ShloMosaic Idealize.ShloMosaic.TcCoe Idealize.SL.Sem

/-- The reference runs, keeps its arguments, and every counter ends at zero. -/
theorem reference_frame : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- The two factors that the kernel names. -/
theorem preserves : Cert.preserves_Kernel10_Kernel10Ideal :=
  ⟨IdealRules.named_const.statement Cert.Kernel10Ideal.κ "inv_left1" .f32 0x3FC48605#32 ((8388608 / 5463681 : ℝ) : EReal) rfl,
    IdealRules.named_const.statement Cert.Kernel10Ideal.κ "inv_left2" .f32 0x42C8E6D3#32 ((268435456 / 2672307 : ℝ) : EReal) rfl⟩

/-- From equal arguments the kernel and the reference end with equal results, as extended reals. -/
theorem algebraic : Cert.algebraic_Kernel10Ideal_Reference10Ideal := by
  intro m ρ m' ρ' _ hagree
  refine ⟨_, _, _, _, Cert.Kernel10Ideal.Value.run_blocks (F := Ideal) m ρ, ?_⟩
  refine (θ_run Cert.Reference10Ideal.defs _ _).mono (fun _ h c => ⟨(h c).1.trans ?_, (h c).2.1.trans ?_, (h c).2.2.1.trans ?_, (h c).2.2.2.1.trans ?_,
    (h c).2.2.2.2⟩) (Cert.Reference10Ideal.Value.run (F := Ideal) m' ρ')
  · obtain ⟨h0, h1, h2, h3, h4⟩ := hagree c
    rw [Cert.Reference10Ideal.Read.val_main_v4_eq, h1, h2, final_grad]
    exact Ext.matrix_ext (ref_grad (args m c))
  · obtain ⟨h0, h1, h2, h3, h4⟩ := hagree c
    rw [Cert.Reference10Ideal.Read.val_main_v28_eq, h0, h1, h2, h3, h4, final_delta]
    exact Ext.matrix_ext (ref_delta (args m c))
  · obtain ⟨h0, h1, h2, h3, h4⟩ := hagree c
    rw [Cert.Reference10Ideal.Read.val_main_v9_eq, h1, h2, h3, final_newM]
    exact Ext.matrix_ext (ref_newM (args m c))
  · obtain ⟨h0, h1, h2, h3, h4⟩ := hagree c
    rw [Cert.Reference10Ideal.Read.val_main_v15_eq, h1, h2, h4, final_newV]
    exact Ext.matrix_ext (ref_newV (args m c))

end Cert.UpdateGlu

end
-- ==== Proof.UpdateBranch.Spec.lean ====
/- The AdamW update of a branch projection's weight in closed form, entry by entry, over the extended reals. -/
module

public import Idealize.ShloMosaic.Lib.Pointwise
public import Idealize.ShloMosaic.PureOps.Ideal.Laws
public import Idealize.ShloMosaic.PureOps.IdealRules
public import proofs.«01_k».proof.Kernel11Ideal

@[expose] public section

noncomputable section

namespace Cert.UpdateBranch

open Idealize.ShloMosaic

/-- A matrix of extended reals. -/
abbrev Mat (a b : Nat) := (⟨2, ![a, b]⟩ : Shape).Idx → EReal

/-- A layer's gradient in its four parts. -/
abbrev Parts := (⟨3, ![4, 512, 128]⟩ : Shape).Idx → EReal

/-- The arrays of the update: the weight, the parts of both layers' gradients and the two moments. -/
structure Args where
  w : Mat 1024 128
  g0 : Parts
  g1 : Parts
  m : Mat 1024 128
  v : Mat 1024 128

variable (A : Args)

/-- Row `r` of the upper layer. -/
abbrev up (r : Fin 1024) (h : r.val < 512) : Fin 512 := ⟨r.val, h⟩

/-- Row `r` of the lower layer. -/
abbrev low (r : Fin 1024) : Fin 512 := ⟨r.val - 512, by omega⟩

/-- The gradient: the sum of its parts, one layer below the other. -/
def grad (r : Fin 1024) (k : Fin 128) : EReal :=
  if h : r.val < 512 then ∑ j : Fin 4, A.g0 (ix3 j (up r h) k) else ∑ j : Fin 4, A.g1 (ix3 j (low r) k)

/-- The new first moment. -/
def newM (r : Fin 1024) (k : Fin 128) : EReal :=
  Ideal.ofBits .f32 0x3F666666#32 * A.m (ix2 r k) + Ideal.ofBits .f32 0x3DCCCCCD#32 * grad A r k

/-- The new second moment. -/
def newV (r : Fin 1024) (k : Fin 128) : EReal :=
  Ideal.ofBits .f32 0x3F7FBE77#32 * A.v (ix2 r k) + Ideal.ofBits .f32 0x3A83126F#32 * (grad A r k * grad A r k)

/-- What is added to the weight. -/
def delta (r : Fin 1024) (k : Fin 128) : EReal :=
  Ideal.ofBits .f32 0xBA83126F#32 * (Ideal.div (newM A r k * ((8388608 / 5463681 : ℝ) : EReal))
      (Ideal.sqrt (newV A r k * ((268435456 / 2672307 : ℝ) : EReal)) + Ideal.ofBits .f32 0x322BCC77#32)
    + Ideal.ofBits .f32 0x3C23D70A#32 * A.w (ix2 r k))

/-- The factor on the first moment, as the kernel names it. -/
theorem inv_left1 : Named.named (F := Ideal) Cert.Kernel11Ideal.κ "inv_left1" (φ := .f32) 0x3FC48605#32 = ((8388608 / 5463681 : ℝ) : EReal) :=
  IdealRules.named_const.ideal_named_scalar _ _ _ _ rfl

/-- The factor on the second moment, as the kernel names it. -/
theorem inv_left2 : Named.named (F := Ideal) Cert.Kernel11Ideal.κ "inv_left2" (φ := .f32) 0x42C8E6D3#32 = ((268435456 / 2672307 : ℝ) : EReal) :=
  IdealRules.named_const.ideal_named_scalar _ _ _ _ rfl

/-- The reference's divisor of the first moment. -/
theorem left1_f32 : Ideal.ofBits .f32 0x3F26BD02#32 = ((5463681 / 8388608 : ℝ) : EReal) := by
  simp [Ideal.ofBits, Ideal.ieee, -EReal.coe_mul]; norm_num

/-- The reference's divisor of the second moment. -/
theorem left2_f32 : Ideal.ofBits .f32 0x3C231ACC#32 = ((2672307 / 268435456 : ℝ) : EReal) := by
  simp [Ideal.ofBits, Ideal.ieee, -EReal.coe_mul]; norm_num

/-- A quotient by a real other than zero is a product with its inverse. -/
theorem div_real (y : EReal) (a b : ℝ) (ha : a ≠ 0) (hb : b = a⁻¹) : Ideal.div y (a : EReal) = y * (b : EReal) := by
  have h : (a : EReal) ≠ 0 := by exact_mod_cast ha
  rw [Ideal.div, if_neg h, hb, EReal.coe_inv]

/-- Dividing by the first divisor is multiplying by the first factor. -/
theorem div_left1 (y : EReal) : Ideal.div y (Ideal.ofBits .f32 0x3F26BD02#32) = y * ((8388608 / 5463681 : ℝ) : EReal) := by
  rw [left1_f32]; exact div_real y _ _ (by norm_num) (by norm_num)

/-- Dividing by the second divisor is multiplying by the second factor. -/
theorem div_left2 (y : EReal) : Ideal.div y (Ideal.ofBits .f32 0x3C231ACC#32) = y * ((268435456 / 2672307 : ℝ) : EReal) := by
  rw [left2_f32]; exact div_real y _ _ (by norm_num) (by norm_num)

end Cert.UpdateBranch

end
-- ==== Proof.UpdateBranch.Point.lean ====
/- What a grid point leaves in the update kernel's four output windows, at an index: the closed form of Spec.lean. -/
module

public import proofs.«01_k».proof.Proof.Gen.Kernel11Ideal.Value
public import proofs.«01_k».proof.Proof.UpdateBranch.Spec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.UpdateBranch

open Idealize.ShloMosaic Idealize.ShloMosaic.TcCoe Cert.Kernel11Ideal Cert.Kernel11Ideal.Gen

variable (m : (ℓ : Loc nD τ sig) → Buf (Elt Ideal) ℓ) (c : Dev nD)

/-- The update's arrays, as the kernel's arguments hold them. -/
def args : Args where
  w := m ((c : Thread nD τ).loc main_arg0)
  g0 := m ((c : Thread nD τ).loc main_arg1)
  g1 := m ((c : Thread nD τ).loc main_arg2)
  m := m ((c : Thread nD τ).loc main_arg3)
  v := m ((c : Thread nD τ).loc main_arg4)

/-- Row `r` of point `t`'s block. -/
abbrev row (t : Fin cfg0.N) (r : Fin 512) : Fin 1024 := ⟨512 * t.val + r.val, by have := t.isLt; have : cfg0.N = 2 := N_0; omega⟩

/-- Where each window's block lies at a grid point. -/
theorem index : ∀ t : Fin cfg0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0] :=
  (by decide +kernel : ∀ t : Fin grid0.N, win0_0.index t = ![t.val, 0] ∧ win0_3.index t = ![t.val, 0] ∧ win0_4.index t = ![t.val, 0] ∧ win0_5.index t = ![t.val, 0] ∧
    win0_6.index t = ![t.val, 0] ∧ win0_7.index t = ![t.val, 0] ∧ win0_8.index t = ![t.val, 0])

/-- Where the parts of the upper layer's gradient lie at its point. -/
theorem index_up : ∀ t : Fin cfg0.N, t.val < 1 → win0_1.index t = ![0, 0, 0] :=
  (by decide +kernel : ∀ t : Fin grid0.N, t.val < 1 → win0_1.index t = ![0, 0, 0])

/-- Where the parts of the lower layer's gradient lie at its point. -/
theorem index_low : ∀ t : Fin cfg0.N, ¬ t.val < 1 → win0_2.index t = ![0, 0, 0] :=
  (by decide +kernel : ∀ t : Fin grid0.N, ¬ t.val < 1 → win0_2.index t = ![0, 0, 0])

/-- A point's layer. -/
theorem layer : ∀ t : Fin cfg0.N, (grid0.coords t 0).val = t.val :=
  (by decide +kernel : ∀ t : Fin grid0.N, (grid0.coords t 0).val = t.val)

theorem blk_w (t : Fin cfg0.N) (r : Fin 512) (k : Fin 128) : iblk m c 0 t (ix2 r k) = (args m c).w (ix2 (row t r) k) := by
  unfold args
  blk_ext [iblk, V_main_arg0, index t]

theorem blk_g0 (t : Fin cfg0.N) (h : t.val < 1) (j : Fin 4) (r : Fin 512) (k : Fin 128) :
    iblk m c 1 t (ix3 j r k) = (args m c).g0 (ix3 j r k) := by
  unfold args
  blk_ext [iblk, V_main_arg1, index_up t h]

theorem blk_g1 (t : Fin cfg0.N) (h : ¬ t.val < 1) (j : Fin 4) (r : Fin 512) (k : Fin 128) :
    iblk m c 2 t (ix3 j r k) = (args m c).g1 (ix3 j r k) := by
  unfold args
  blk_ext [iblk, V_main_arg2, index_low t h]

theorem blk_m (t : Fin cfg0.N) (r : Fin 512) (k : Fin 128) : iblk m c 3 t (ix2 r k) = (args m c).m (ix2 (row t r) k) := by
  unfold args
  blk_ext [iblk, V_main_arg3, index t]

theorem blk_v (t : Fin cfg0.N) (r : Fin 512) (k : Fin 128) : iblk m c 4 t (ix2 r k) = (args m c).v (ix2 (row t r) k) := by
  unfold args
  blk_ext [iblk, V_main_arg4, index t]

/-- A point's gradient, of its five blocks. -/
abbrev ptG (t : Fin cfg0.N) : FVec Ideal S512x128 .f32 :=
  k0_pay5 (grid0.coords t) (iblk m c 0 t) (iblk m c 1 t) (iblk m c 2 t) (iblk m c 3 t) (iblk m c 4 t)

/-- A point's rows of the gradient. -/
theorem pt_grad (t : Fin cfg0.N) (r : Fin 512) (k : Fin 128) : ptG m c t (ix2 r k) = grad (args m c) (row t r) k := by
  have hN : t.val < 2 := t.isLt
  unfold ptG k0_pay5 k0_pay4
  rw [layer t]
  by_cases h : t.val < 1
  · have e : t.val = 0 := by omega
    have hr : (row t r).val < 512 := by show 512 * t.val + r.val < 512; omega
    have er : up (row t r) hr = r := Fin.ext (by show 512 * t.val + r.val = r.val; omega)
    rw [e, grad, dif_pos hr, er, Fin.sum_univ_four]
    pointwise [blk_g0 m c t h]
    exact if_neg (by decide)
  · have e : t.val = 1 := by omega
    have hr : ¬ (row t r).val < 512 := by show ¬ 512 * t.val + r.val < 512; omega
    have er : low (row t r) = r := Fin.ext (by show 512 * t.val + r.val - 512 = r.val; omega)
    rw [e, grad, dif_neg hr, er, Fin.sum_univ_four]
    pointwise [blk_g1 m c t h]

/-- A point's rows of the new first moment. -/
theorem pt_newM (t : Fin cfg0.N) (r : Fin 512) (k : Fin 128) : k0_pay1 (ptG m c t) (iblk m c 3 t) (ix2 r k) = newM (args m c) (row t r) k := by
  unfold k0_pay1
  pointwise [pt_grad m c t, blk_m m c t]
  rfl

/-- A point's rows of the new second moment. -/
theorem pt_newV (t : Fin cfg0.N) (r : Fin 512) (k : Fin 128) : k0_pay2 (ptG m c t) (iblk m c 4 t) (ix2 r k) = newV (args m c) (row t r) k := by
  unfold k0_pay2
  pointwise [pt_grad m c t, blk_v m c t]
  rfl

/-- A point's rows of what is added to the weight. -/
theorem pt_delta (t : Fin cfg0.N) (r : Fin 512) (k : Fin 128) :
    k0_pay3 (ptG m c t) (iblk m c 3 t) (iblk m c 4 t) (iblk m c 0 t) (ix2 r k) = delta (args m c) (row t r) k := by
  unfold k0_pay3
  pointwise [pt_newM m c t, pt_newV m c t, blk_w m c t, inv_left1, inv_left2]
  rfl

/-- The gradient, after the run. -/
theorem final_grad : (dats m 0 c).arrAt 5 cfg0.N = fun i => grad (args m c) (i 0) (i 1) := by
  refine (dats m 0 c).arrAt_eq_of_covers 5 _ (by decide +kernel) fun t hf y => ?_
  blk_simp [index t]
  rw [after0_5]
  frame_out
  obtain ⟨r, k, rfl⟩ : ∃ (r : Fin 512) (k : Fin 128), y = ix2 r k := ⟨y 0, y 1, by funext a; fin_cases a <;> rfl⟩
  have e0 : ((win0_5.blk t).view.emb (ix2 r k) 0) = row t r := by
    apply Fin.ext
    blk_simp [index t]
    simp [mul_comm]
  have e1 : ((win0_5.blk t).view.emb (ix2 r k) 1) = k := by
    apply Fin.ext
    blk_simp [index t]
  rw [e0, e1]
  exact pt_grad m c t r k

/-- What is added to the weight, after the run. -/
theorem final_delta : (dats m 0 c).arrAt 6 cfg0.N = fun i => delta (args m c) (i 0) (i 1) := by
  refine (dats m 0 c).arrAt_eq_of_covers 6 _ (by decide +kernel) fun t hf y => ?_
  blk_simp [index t]
  rw [after0_6]
  frame_out
  obtain ⟨r, k, rfl⟩ : ∃ (r : Fin 512) (k : Fin 128), y = ix2 r k := ⟨y 0, y 1, by funext a; fin_cases a <;> rfl⟩
  have e0 : ((win0_6.blk t).view.emb (ix2 r k) 0) = row t r := by
    apply Fin.ext
    blk_simp [index t]
    simp [mul_comm]
  have e1 : ((win0_6.blk t).view.emb (ix2 r k) 1) = k := by
    apply Fin.ext
    blk_simp [index t]
  rw [e0, e1]
  exact pt_delta m c t r k

/-- The new first moment, after the run. -/
theorem final_newM : (dats m 0 c).arrAt 7 cfg0.N = fun i => newM (args m c) (i 0) (i 1) := by
  refine (dats m 0 c).arrAt_eq_of_covers 7 _ (by decide +kernel) fun t hf y => ?_
  blk_simp [index t]
  rw [after0_7]
  frame_out
  obtain ⟨r, k, rfl⟩ : ∃ (r : Fin 512) (k : Fin 128), y = ix2 r k := ⟨y 0, y 1, by funext a; fin_cases a <;> rfl⟩
  have e0 : ((win0_7.blk t).view.emb (ix2 r k) 0) = row t r := by
    apply Fin.ext
    blk_simp [index t]
    simp [mul_comm]
  have e1 : ((win0_7.blk t).view.emb (ix2 r k) 1) = k := by
    apply Fin.ext
    blk_simp [index t]
  rw [e0, e1]
  exact pt_newM m c t r k

/-- The new second moment, after the run. -/
theorem final_newV : (dats m 0 c).arrAt 8 cfg0.N = fun i => newV (args m c) (i 0) (i 1) := by
  refine (dats m 0 c).arrAt_eq_of_covers 8 _ (by decide +kernel) fun t hf y => ?_
  blk_simp [index t]
  rw [after0_8]
  frame_out
  obtain ⟨r, k, rfl⟩ : ∃ (r : Fin 512) (k : Fin 128), y = ix2 r k := ⟨y 0, y 1, by funext a; fin_cases a <;> rfl⟩
  have e0 : ((win0_8.blk t).view.emb (ix2 r k) 0) = row t r := by
    apply Fin.ext
    blk_simp [index t]
    simp [mul_comm]
  have e1 : ((win0_8.blk t).view.emb (ix2 r k) 1) = k := by
    apply Fin.ext
    blk_simp [index t]
  rw [e0, e1]
  exact pt_newV m c t r k

end Cert.UpdateBranch

end
-- ==== Proof.UpdateBranch.Reference.lean ====
/- The reference's four results at an index: the closed form of Spec.lean. -/
module

public import proofs.«01_k».proof.Proof.Gen.Reference11Ideal.Read
public import proofs.«01_k».proof.Proof.UpdateBranch.Spec

@[expose] public section

set_option maxRecDepth 16384

noncomputable section

namespace Cert.UpdateBranch

open Idealize.ShloMosaic Cert.Reference11Ideal Cert.Reference11Ideal.Read

variable (A : Args)

/-- A layer's summed parts. -/
theorem ref_sum0 (r : Fin 512) (k : Fin 128) : val_main_v1 (F := Ideal) A.g0 (ix2 r k) = ∑ j : Fin 4, A.g0 (ix3 j r k) := by
  unfold val_main_v1 val_main_v0 val_main_cst
  pointwise

/-- The other layer's summed parts. -/
theorem ref_sum1 (r : Fin 512) (k : Fin 128) : val_main_v3 (F := Ideal) A.g1 (ix2 r k) = ∑ j : Fin 4, A.g1 (ix3 j r k) := by
  unfold val_main_v3 val_main_v2 val_main_cst_0
  pointwise

/-- THE FIRST RESULT: the gradient. -/
theorem ref_grad (r : Fin 1024) (k : Fin 128) : val_main_v4 (F := Ideal) A.g0 A.g1 (ix2 r k) = grad A r k := by
  unfold val_main_v4 grad
  pointwise [ref_sum0, ref_sum1]

/-- THE THIRD RESULT: the new first moment. -/
theorem ref_newM (r : Fin 1024) (k : Fin 128) : val_main_v9 (F := Ideal) A.g0 A.g1 A.m (ix2 r k) = newM A r k := by
  unfold val_main_v9 val_main_v8 val_main_v7 val_main_cst_2 val_main_v6 val_main_v5 val_main_cst_1 newM
  pointwise [ref_grad]

/-- THE FOURTH RESULT: the new second moment. -/
theorem ref_newV (r : Fin 1024) (k : Fin 128) : val_main_v15 (F := Ideal) A.g0 A.g1 A.v (ix2 r k) = newV A r k := by
  unfold val_main_v15 val_main_v14 val_main_v13 val_main_cst_4 val_main_v12 val_main_v11 val_main_v10 val_main_cst_3 newV
  pointwise [ref_grad]

/-- THE SECOND RESULT: what is added to the weight. -/
theorem ref_delta (r : Fin 1024) (k : Fin 128) : val_main_v28 (F := Ideal) A.w A.g0 A.g1 A.m A.v (ix2 r k) = delta A r k := by
  unfold val_main_v28 val_main_v27 val_main_cst_9 val_main_v26 val_main_v25 val_main_v24 val_main_cst_8 val_main_v23 val_main_v22 val_main_v21 val_main_cst_7
    val_main_v20 val_main_v19 val_main_v18 val_main_cst_6 val_main_v17 val_main_v16 val_main_cst_5 delta
  pointwise [ref_newM, ref_newV]
  rw [div_left1, div_left2]

end Cert.UpdateBranch

end
-- ==== Proof.UpdateBranch.Claim.lean ====
/- The claims of the update of a branch projection's weight: the kernel's run and the reference's run end with equal results. -/
module

public import proofs.«01_k».proof.Defs
public import proofs.«01_k».proof.Proof.Gen.Reference11Ideal.Run
public import proofs.«01_k».proof.Proof.Ext.Index
public import proofs.«01_k».proof.Proof.UpdateBranch.Point
public import proofs.«01_k».proof.Proof.UpdateBranch.Reference
public import Idealize.ShloMosaic.Lib.Quiescent

@[expose] public section

noncomputable section

namespace Cert.UpdateBranch

open Idealize.ShloMosaic Idealize.ShloMosaic.TcCoe Idealize.SL.Sem

/-- The reference runs, keeps its arguments, and every counter ends at zero. -/
theorem reference_frame : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The two factors that the kernel names. -/
theorem preserves : Cert.preserves_Kernel11_Kernel11Ideal :=
  ⟨IdealRules.named_const.statement Cert.Kernel11Ideal.κ "inv_left1" .f32 0x3FC48605#32 ((8388608 / 5463681 : ℝ) : EReal) rfl,
    IdealRules.named_const.statement Cert.Kernel11Ideal.κ "inv_left2" .f32 0x42C8E6D3#32 ((268435456 / 2672307 : ℝ) : EReal) rfl⟩

/-- From equal arguments the kernel and the reference end with equal results, as extended reals. -/
theorem algebraic : Cert.algebraic_Kernel11Ideal_Reference11Ideal := by
  intro m ρ m' ρ' _ hagree
  refine ⟨_, _, _, _, Cert.Kernel11Ideal.Value.run_blocks (F := Ideal) m ρ, ?_⟩
  refine (θ_run Cert.Reference11Ideal.defs _ _).mono (fun _ h c => ⟨(h c).1.trans ?_, (h c).2.1.trans ?_, (h c).2.2.1.trans ?_, (h c).2.2.2.1.trans ?_,
    (h c).2.2.2.2⟩) (Cert.Reference11Ideal.Value.run (F := Ideal) m' ρ')
  · obtain ⟨h0, h1, h2, h3, h4⟩ := hagree c
    rw [Cert.Reference11Ideal.Read.val_main_v4_eq, h1, h2, final_grad]
    exact Ext.matrix_ext (ref_grad (args m c))
  · obtain ⟨h0, h1, h2, h3, h4⟩ := hagree c
    rw [Cert.Reference11Ideal.Read.val_main_v28_eq, h0, h1, h2, h3, h4, final_delta]
    exact Ext.matrix_ext (ref_delta (args m c))
  · obtain ⟨h0, h1, h2, h3, h4⟩ := hagree c
    rw [Cert.Reference11Ideal.Read.val_main_v9_eq, h1, h2, h3, final_newM]
    exact Ext.matrix_ext (ref_newM (args m c))
  · obtain ⟨h0, h1, h2, h3, h4⟩ := hagree c
    rw [Cert.Reference11Ideal.Read.val_main_v15_eq, h1, h2, h4, final_newV]
    exact Ext.matrix_ext (ref_newV (args m c))

end Cert.UpdateBranch

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Norm.Claim
public import proofs.«01_k».proof.Proof.Weight.Claim
public import proofs.«01_k».proof.Proof.Proj.Claim
public import proofs.«01_k».proof.Proof.Merge.Claim
public import proofs.«01_k».proof.Proof.MergeBwd.Claim
public import proofs.«01_k».proof.Proof.Loss.Claim
public import proofs.«01_k».proof.Proof.Update.Claim
public import proofs.«01_k».proof.Proof.Pool.Claim
public import proofs.«01_k».proof.Proof.UpdateOut.Claim
public import proofs.«01_k».proof.Proof.UpdateGlu.Claim
public import proofs.«01_k».proof.Proof.UpdateBranch.Claim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m ρ _ => Cert.Kernel.Gen.frame m ρ, fun m ρ _ => Cert.KernelIdeal.Gen.frame m ρ, Cert.Norm.reference_frame,
    fun m ρ _ => Cert.Kernel2.Gen.frame m ρ, fun m ρ _ => Cert.Kernel2Ideal.Gen.frame m ρ, Cert.Weight.reference_frame,
    fun m ρ _ => Cert.Kernel3.Gen.frame m ρ, fun m ρ _ => Cert.Kernel3Ideal.Gen.frame m ρ, Cert.Proj.reference_frame,
    fun m ρ _ => Cert.Kernel4.Gen.frame m ρ, fun m ρ _ => Cert.Kernel4Ideal.Gen.frame m ρ, Cert.Merge.reference_frame,
    Cert.MergeBwd.frame_kernel, Cert.MergeBwd.frame_kernelIdeal, Cert.MergeBwd.reference_frame,
    fun m ρ _ => Cert.Kernel6.Gen.frame m ρ, fun m ρ _ => Cert.Kernel6Ideal.Gen.frame m ρ, Cert.Loss.reference_frame,
    fun m ρ _ => Cert.Kernel7.Gen.frame m ρ, fun m ρ _ => Cert.Kernel7Ideal.Gen.frame m ρ, Cert.Update.reference_frame,
    fun m ρ _ => Cert.Kernel8.Gen.frame m ρ, fun m ρ _ => Cert.Kernel8Ideal.Gen.frame m ρ, Cert.Pool.reference_frame,
    fun m ρ _ => Cert.Kernel9.Gen.frame m ρ, fun m ρ _ => Cert.Kernel9Ideal.Gen.frame m ρ, Cert.UpdateOut.reference_frame,
    fun m ρ _ => Cert.Kernel10.Gen.frame m ρ, fun m ρ _ => Cert.Kernel10Ideal.Gen.frame m ρ, Cert.UpdateGlu.reference_frame,
    fun m ρ _ => Cert.Kernel11.Gen.frame m ρ, fun m ρ _ => Cert.Kernel11Ideal.Gen.frame m ρ, Cert.UpdateBranch.reference_frame,
    trivial, Cert.Norm.algebraic,
    trivial, Cert.Weight.algebraic,
    trivial, Cert.Proj.algebraic,
    trivial, Cert.Merge.algebraic,
    trivial, Cert.MergeBwd.algebraic,
    trivial, Cert.Loss.algebraic,
    Cert.Update.preserves, Cert.Update.algebraic,
    trivial, Cert.Pool.algebraic,
    Cert.UpdateOut.preserves, Cert.UpdateOut.algebraic,
    Cert.UpdateGlu.preserves, Cert.UpdateGlu.algebraic,
    Cert.UpdateBranch.preserves, Cert.UpdateBranch.algebraic⟩

end Cert.Proof

end
